-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_rwkv [hPre_finite_rwkv : Cert.Pre_finite_rwkv.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_rwkv.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_rwkv [hPre_finite_rwkv : Cert.Pre_finite_rwkv.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_rwkv.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Kernel6Ideal_pre_finite_rwkv [hKernel6Ideal : Cert.Kernel6Ideal.Facts] [hPre_finite_rwkv : Cert.Pre_finite_rwkv.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_rwkv m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Reference6Ideal_pre_finite_rwkv [hReference6Ideal : Cert.Reference6Ideal.Facts] [hPre_finite_rwkv : Cert.Pre_finite_rwkv.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_rwkv m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_rwkv [hKernel6Ideal : Cert.Kernel6Ideal.Facts] [hReference6Ideal : Cert.Reference6Ideal.Facts] [hPre_finite_rwkv : Cert.Pre_finite_rwkv.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_rwkv m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v45_0)) (v1 : (c : Dev Cert.Kernel6Ideal.nD) → Buf (Elt Ideal) ((c.tc : Thread Cert.Kernel6Ideal.nD Cert.Kernel6Ideal.τ).loc Cert.Kernel6Ideal.main_v45_1)) (v2 : (c : Dev Cert.Kernel6Ideal.nD) → Buf (Elt Ideal) ((c.tc : Thread Cert.Kernel6Ideal.nD Cert.Kernel6Ideal.τ).loc Cert.Kernel6Ideal.main_v45_2)) (v3 : (c : Dev Cert.Kernel6Ideal.nD) → Buf (Elt Ideal) ((c.tc : Thread Cert.Kernel6Ideal.nD Cert.Kernel6Ideal.τ).loc Cert.Kernel6Ideal.main_v45_3)) (v4 : (c : Dev Cert.Kernel6Ideal.nD) → Buf (Elt Ideal) ((c.tc : Thread Cert.Kernel6Ideal.nD Cert.Kernel6Ideal.τ).loc Cert.Kernel6Ideal.main_v45_4)) (v5 : (c : Dev Cert.Kernel6Ideal.nD) → Buf (Elt Ideal) ((c.tc : Thread Cert.Kernel6Ideal.nD Cert.Kernel6Ideal.τ).loc Cert.Kernel6Ideal.main_v45_5)) (v6 : (c : Dev Cert.Kernel6Ideal.nD) → Buf (Elt Ideal) ((c.tc : Thread Cert.Kernel6Ideal.nD Cert.Kernel6Ideal.τ).loc Cert.Kernel6Ideal.main_v45_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v45_0) = v0 c
          ∧ r.2.mem ((c.tc : Thread Cert.Kernel6Ideal.nD Cert.Kernel6Ideal.τ).loc Cert.Kernel6Ideal.main_v45_1) = v1 c
          ∧ r.2.mem ((c.tc : Thread Cert.Kernel6Ideal.nD Cert.Kernel6Ideal.τ).loc Cert.Kernel6Ideal.main_v45_2) = v2 c
          ∧ r.2.mem ((c.tc : Thread Cert.Kernel6Ideal.nD Cert.Kernel6Ideal.τ).loc Cert.Kernel6Ideal.main_v45_3) = v3 c
          ∧ r.2.mem ((c.tc : Thread Cert.Kernel6Ideal.nD Cert.Kernel6Ideal.τ).loc Cert.Kernel6Ideal.main_v45_4) = v4 c
          ∧ r.2.mem ((c.tc : Thread Cert.Kernel6Ideal.nD Cert.Kernel6Ideal.τ).loc Cert.Kernel6Ideal.main_v45_5) = v5 c
          ∧ r.2.mem ((c.tc : Thread Cert.Kernel6Ideal.nD Cert.Kernel6Ideal.τ).loc Cert.Kernel6Ideal.main_v45_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v110) = v0 c
          ∧ r.2.mem ((c.tc : Thread Cert.Reference6Ideal.nD Cert.Reference6Ideal.τ).loc Cert.Reference6Ideal.main_v113) = v1 c
          ∧ r.2.mem ((c.tc : Thread Cert.Reference6Ideal.nD Cert.Reference6Ideal.τ).loc Cert.Reference6Ideal.main_v114) = v2 c
          ∧ r.2.mem ((c.tc : Thread Cert.Reference6Ideal.nD Cert.Reference6Ideal.τ).loc Cert.Reference6Ideal.main_v115) = v3 c
          ∧ r.2.mem ((c.tc : Thread Cert.Reference6Ideal.nD Cert.Reference6Ideal.τ).loc Cert.Reference6Ideal.main_v117) = v4 c
          ∧ r.2.mem ((c.tc : Thread Cert.Reference6Ideal.nD Cert.Reference6Ideal.τ).loc Cert.Reference6Ideal.main_v119) = v5 c
          ∧ r.2.mem ((c.tc : Thread Cert.Reference6Ideal.nD Cert.Reference6Ideal.τ).loc Cert.Reference6Ideal.main_v120) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qkv : Cert.Pre_finite_qkv.Facts) (hPre_finite_rwkv : Cert.Pre_finite_rwkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_rwkv (hKernel6Ideal := hKernel6Ideal) (hPre_finite_rwkv := hPre_finite_rwkv)
    ∧ quiescent_Reference6Ideal (hReference6Ideal := hReference6Ideal)
    ∧ quiescent_Reference6Ideal_pre_finite_rwkv (hReference6Ideal := hReference6Ideal) (hPre_finite_rwkv := hPre_finite_rwkv)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_rwkv (hKernel6Ideal := hKernel6Ideal) (hReference6Ideal := hReference6Ideal) (hPre_finite_rwkv := hPre_finite_rwkv)
-- ==== Pre_finite_qkv.lean ====
abbrev S8192x6912 : Shape := ⟨2, ![8192, 6912]⟩
abbrev S8192x1536 : Shape := ⟨2, ![8192, 1536]⟩
abbrev S_ : Shape := ⟨0, ![]⟩

class Facts : Prop where
  slices_S8192x6912_S8192x1536_0_0 : S8192x6912.Slices ![0, 0] S8192x1536
  bcast_S_S8192x1536 : S_.BroadcastsInDim S8192x1536 (![] : Fin 0 → Fin S8192x1536.rank)

variable [Facts]

def fn {F : FTy → Type} [FloatOps F] (main_arg0 : FVec F S8192x6912 .f32) : IVec S8192x1536 1 :=
  let main_v0 : FVec F S8192x1536 .f32 := (extractStridedSlice S8192x1536 ![0, 0] · slices_S8192x6912_S8192x1536_0_0) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  main_v3
-- ==== Pre_finite_rwkv.lean ====
abbrev S8192x6912 : Shape := ⟨2, ![8192, 6912]⟩
abbrev S2x1984 : Shape := ⟨2, ![2, 1984]⟩
abbrev S1x64 : Shape := ⟨2, ![1, 64]⟩
abbrev S2x512 : Shape := ⟨2, ![2, 512]⟩
abbrev S2x96x512 : Shape := ⟨3, ![2, 96, 512]⟩
abbrev S1x512 : Shape := ⟨2, ![1, 512]⟩
abbrev S1x64x512 : Shape := ⟨3, ![1, 64, 512]⟩
abbrev S2x256x512 : Shape := ⟨3, ![2, 256, 512]⟩
abbrev S8192x512 : Shape := ⟨2, ![8192, 512]⟩
abbrev S1x96x512 : Shape := ⟨3, ![1, 96, 512]⟩
abbrev S96x512 : Shape := ⟨2, ![96, 512]⟩
abbrev S64x512 : Shape := ⟨2, ![64, 512]⟩
abbrev S1x256x512 : Shape := ⟨3, ![1, 256, 512]⟩
abbrev S256x512 : Shape := ⟨2, ![256, 512]⟩
abbrev S8706x512 : Shape := ⟨2, ![8706, 512]⟩
abbrev S8192x96 : Shape := ⟨2, ![8192, 96]⟩
abbrev S1x96 : Shape := ⟨2, ![1, 96]⟩
abbrev S8193x96 : Shape := ⟨2, ![8193, 96]⟩
abbrev S8192x64 : Shape := ⟨2, ![8192, 64]⟩
abbrev S8193x64 : Shape := ⟨2, ![8193, 64]⟩
abbrev S8193x160 : Shape := ⟨2, ![8193, 160]⟩
abbrev S_ : Shape := ⟨0, ![]⟩
abbrev S513x160 : Shape := ⟨2, ![513, 160]⟩
abbrev S8706x160 : Shape := ⟨2, ![8706, 160]⟩
abbrev S8706x672 : Shape := ⟨2, ![8706, 672]⟩

class Facts : Prop where
  slices_S8192x6912_S8192x512_0_2560 : S8192x6912.Slices ![0, 2560] S8192x512
  slices_S2x96x512_S1x96x512_1_0_0 : S2x96x512.Slices ![1, 0, 0] S1x96x512
  shapeCasts_S1x96x512_S96x512 : S1x96x512.ShapeCasts S96x512
  shapeCasts_S1x64x512_S64x512 : S1x64x512.ShapeCasts S64x512
  slices_S2x256x512_S1x256x512_1_0_0 : S2x256x512.Slices ![1, 0, 0] S1x256x512
  shapeCasts_S1x256x512_S256x512 : S1x256x512.ShapeCasts S256x512
  slices_S2x1984_S1x512_1_512 : S2x1984.Slices ![1, 512] S1x512
  slices_S2x512_S1x512_1_0 : S2x512.Slices ![1, 0] S1x512
  concatenates_S8192x512_S96x512_S96x512_S64x512_S256x512_S1x512_S1x512_S8706x512_d0 : Shape.Concatenates [S8192x512, S96x512, S96x512, S64x512, S256x512, S1x512, S1x512] S8706x512 0
  slices_S8192x6912_S8192x96_0_3712 : S8192x6912.Slices ![0, 3712] S8192x96
  slices_S2x1984_S1x96_1_1632 : S2x1984.Slices ![1, 1632] S1x96
  concatenates_S8192x96_S1x96_S8193x96_d0 : Shape.Concatenates [S8192x96, S1x96] S8193x96 0
  slices_S8192x6912_S8192x64_0_4096 : S8192x6912.Slices ![0, 4096] S8192x64
  concatenates_S8192x64_S1x64_S8193x64_d0 : Shape.Concatenates [S8192x64, S1x64] S8193x64 0
  concatenates_S8193x96_S8193x64_S8193x160_d1 : Shape.Concatenates [S8193x96, S8193x64] S8193x160 1
  bcast_S_S513x160 : S_.BroadcastsInDim S513x160 (![] : Fin 0 → Fin S513x160.rank)
  concatenates_S8193x160_S513x160_S8706x160_d0 : Shape.Concatenates [S8193x160, S513x160] S8706x160 0
  concatenates_S8706x512_S8706x160_S8706x672_d1 : Shape.Concatenates [S8706x512, S8706x160] S8706x672 1
  bcast_S_S8706x672 : S_.BroadcastsInDim S8706x672 (![] : Fin 0 → Fin S8706x672.rank)

variable [Facts]

def fn_part1 {F : FTy → Type} [FloatOps F] (main_v20 : FVec F S8706x672 .f32) (main_v21 : FVec F S8706x672 .f32) : IVec S8706x672 1 :=
  let main_v22 : IVec S8706x672 1 := cmpf .olt main_v20 main_v21
  main_v22

def fn {F : FTy → Type} [FloatOps F] (main_arg0 : FVec F S8192x6912 .f32) (main_arg1 : FVec F S2x1984 .f32) (main_arg2 : FVec F S1x64 .f32) (main_arg3 : FVec F S2x512 .f32) (main_arg4 : FVec F S2x96x512 .f32) (main_arg5 : FVec F S2x512 .f32) (main_arg6 : FVec F S2x96x512 .f32) (main_arg7 : FVec F S1x512 .f32) (main_arg8 : FVec F S1x64x512 .f32) (main_arg9 : FVec F S2x256x512 .f32) (main_arg10 : FVec F S2x512 .f32) (main_arg11 : FVec F S2x512 .f32) (main_arg12 : FVec F S8192x512 .f32) : IVec S8706x672 1 :=
  let main_v0 : FVec F S8192x512 .f32 := (extractStridedSlice S8192x512 ![0, 2560] · slices_S8192x6912_S8192x512_0_2560) main_arg0
  let main_v1 : FVec F S1x96x512 .f32 := (extractStridedSlice S1x96x512 ![1, 0, 0] · slices_S2x96x512_S1x96x512_1_0_0) main_arg4
  let main_v2 : FVec F S96x512 .f32 := shapeCast S96x512 main_v1 shapeCasts_S1x96x512_S96x512
  let main_v3 : FVec F S1x96x512 .f32 := (extractStridedSlice S1x96x512 ![1, 0, 0] · slices_S2x96x512_S1x96x512_1_0_0) main_arg6
  let main_v4 : FVec F S96x512 .f32 := shapeCast S96x512 main_v3 shapeCasts_S1x96x512_S96x512
  let main_v5 : FVec F S64x512 .f32 := shapeCast S64x512 main_arg8 shapeCasts_S1x64x512_S64x512
  let main_v6 : FVec F S1x256x512 .f32 := (extractStridedSlice S1x256x512 ![1, 0, 0] · slices_S2x256x512_S1x256x512_1_0_0) main_arg9
  let main_v7 : FVec F S256x512 .f32 := shapeCast S256x512 main_v6 shapeCasts_S1x256x512_S256x512
  let main_v8 : FVec F S1x512 .f32 := (extractStridedSlice S1x512 ![1, 512] · slices_S2x1984_S1x512_1_512) main_arg1
  let main_v9 : FVec F S1x512 .f32 := (extractStridedSlice S1x512 ![1, 0] · slices_S2x512_S1x512_1_0) main_arg10
  let main_v10 : FVec F S8706x512 .f32 := concatenate S8706x512 0 [⟨S8192x512, main_v0⟩, ⟨S96x512, main_v2⟩, ⟨S96x512, main_v4⟩, ⟨S64x512, main_v5⟩, ⟨S256x512, main_v7⟩, ⟨S1x512, main_v8⟩, ⟨S1x512, main_v9⟩] concatenates_S8192x512_S96x512_S96x512_S64x512_S256x512_S1x512_S1x512_S8706x512_d0
  let main_v11 : FVec F S8192x96 .f32 := (extractStridedSlice S8192x96 ![0, 3712] · slices_S8192x6912_S8192x96_0_3712) main_arg0
  let main_v12 : FVec F S1x96 .f32 := (extractStridedSlice S1x96 ![1, 1632] · slices_S2x1984_S1x96_1_1632) main_arg1
  let main_v13 : FVec F S8193x96 .f32 := (fun a b => concatenate S8193x96 0 [⟨S8192x96, a⟩, ⟨S1x96, b⟩] concatenates_S8192x96_S1x96_S8193x96_d0) main_v11 main_v12
  let main_v14 : FVec F S8192x64 .f32 := (extractStridedSlice S8192x64 ![0, 4096] · slices_S8192x6912_S8192x64_0_4096) main_arg0
  let main_v15 : FVec F S8193x64 .f32 := (fun a b => concatenate S8193x64 0 [⟨S8192x64, a⟩, ⟨S1x64, b⟩] concatenates_S8192x64_S1x64_S8193x64_d0) main_v14 main_arg2
  let main_v16 : FVec F S8193x160 .f32 := (fun a b => concatenate S8193x160 1 [⟨S8193x96, a⟩, ⟨S8193x64, b⟩] concatenates_S8193x96_S8193x64_S8193x160_d1) main_v13 main_v15
  let main_cst : FVec F S_ .f32 := constant S_ .f32 0x00000000#32
  let main_v17 : FVec F S513x160 .f32 := broadcastInDim S513x160 ![] bcast_S_S513x160 main_cst
  let main_v18 : FVec F S8706x160 .f32 := (fun a b => concatenate S8706x160 0 [⟨S8193x160, a⟩, ⟨S513x160, b⟩] concatenates_S8193x160_S513x160_S8706x160_d0) main_v16 main_v17
  let main_v19 : FVec F S8706x672 .f32 := (fun a b => concatenate S8706x672 1 [⟨S8706x512, a⟩, ⟨S8706x160, b⟩] concatenates_S8706x512_S8706x160_S8706x672_d1) main_v10 main_v18
  let main_v20 : FVec F S8706x672 .f32 := Host.absf main_v19
  let main_cst_0 : FVec F S_ .f32 := constant S_ .f32 0x7F800000#32
  let main_v21 : FVec F S8706x672 .f32 := broadcastInDim S8706x672 ![] bcast_S_S8706x672 main_cst_0
  fn_part1 (F := F) main_v20 main_v21
-- ==== Kernel.lean ====
abbrev S8192x6912 : Shape := ⟨2, ![8192, 6912]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x1x128 : Shape := ⟨4, ![1, 8192, 1, 128]⟩
abbrev S4 : Shape := ⟨1, ![4]⟩
abbrev S4x1x1 : Shape := ⟨3, ![4, 1, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S4x512x512 : Shape := ⟨3, ![4, 512, 512]⟩
abbrev S1x1x128 : Shape := ⟨3, ![1, 1, 128]⟩
abbrev S1x512x1 : Shape := ⟨3, ![1, 512, 1]⟩
abbrev S4x512x1 : Shape := ⟨3, ![4, 512, 1]⟩
abbrev S4x512x128 : Shape := ⟨3, ![4, 512, 128]⟩
abbrev S4x1x128 : Shape := ⟨3, ![4, 1, 128]⟩
abbrev S8192x512 : Shape := ⟨2, ![8192, 512]⟩
abbrev S512x128 : Shape := ⟨2, ![512, 128]⟩
abbrev S4x128x128 : Shape := ⟨3, ![4, 128, 128]⟩
abbrev S1x128x128 : Shape := ⟨3, ![1, 128, 128]⟩
abbrev S128x128 : Shape := ⟨2, ![128, 128]⟩
abbrev S1x512x128 : Shape := ⟨3, ![1, 512, 128]⟩
abbrev S1x128 : Shape := ⟨2, ![1, 128]⟩

abbrev nBuf : Space → Nat
  | .hbm => 93
  | .vmem => 19
  | .smem => 0
  | _ => 0

abbrev bufTy : (tb : Table) → Fin (tcTables nBuf tb) → BufTy
  | .hbm, ⟨0, _⟩ => ⟨S8192x6912, .f32⟩
  | .hbm, ⟨1, _⟩ => ⟨S8192, .i32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S8192, .f32⟩
  | .hbm, ⟨11, _⟩ => ⟨S8192x1, .f32⟩
  | .hbm, ⟨12, _⟩ => ⟨S1x64, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x128, .f32⟩
  | .hbm, ⟨19, _⟩ => ⟨S1x8192x1x128, .f32⟩
  | .hbm, ⟨20, _⟩ => ⟨S1x8192x1x128, .f32⟩
  | .hbm, ⟨21, _⟩ => ⟨S8192x128, .f32⟩
  | .hbm, ⟨22, _⟩ => ⟨S8192x64, .f32⟩
  | .hbm, ⟨23, _⟩ => ⟨S8192x128, .f32⟩
  | .hbm, ⟨24, _⟩ => ⟨S1x8192x1x128, .f32⟩
  | .hbm, ⟨25, _⟩ => ⟨S1x8192x1x128, .f32⟩
  | .hbm, ⟨26, _⟩ => ⟨S8192x128, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S4x1x1, .f32⟩
  | .hbm, ⟨39, _⟩ => ⟨S512, .f32⟩
  | .hbm, ⟨40, _⟩ => ⟨S512x1, .f32⟩
  | .hbm, ⟨41, _⟩ => ⟨S1x512, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S_, .f32⟩
  | .hbm, ⟨46, _⟩ => ⟨S512x512, .f32⟩
  | .hbm, ⟨47, _⟩ => ⟨S512x512, .i1⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S1x512x512, .f32⟩
  | .hbm, ⟨52, _⟩ => ⟨S4x512x512, .f32⟩
  | .hbm, ⟨53, _⟩ => ⟨S4x512x512, .f32⟩
  | .hbm, ⟨54, _⟩ => ⟨S4x512x512, .f32⟩
  | .hbm, ⟨55, _⟩ => ⟨S4x512x512, .f32⟩
  | .hbm, ⟨56, _⟩ => ⟨S_, .f32⟩
  | .hbm, ⟨57, _⟩ => ⟨S_, .f32⟩
  | .hbm, ⟨58, _⟩ => ⟨S4x512x512, .i1⟩
  | .hbm, ⟨59, _⟩ => ⟨S4x512x512, .f32⟩
  | .hbm, ⟨60, _⟩ => ⟨S4x512x512, .f32⟩
  | .hbm, ⟨61, _⟩ => ⟨S_, .f32⟩
  | .hbm, ⟨62, _⟩ => ⟨S1x1x128, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S1x512x1, .f32⟩
  | .hbm, ⟨67, _⟩ => ⟨S4x512x1, .f32⟩
  | .hbm, ⟨68, _⟩ => ⟨S4x512x1, .f32⟩
  | .hbm, ⟨69, _⟩ => ⟨S4x512x1, .f32⟩
  | .hbm, ⟨70, _⟩ => ⟨S4x512x1, .f32⟩
  | .hbm, ⟨71, _⟩ => ⟨S4x512x128, .f32⟩
  | .hbm, ⟨72, _⟩ => ⟨S4x512x128, .f32⟩
  | .hbm, ⟨73, _⟩ => ⟨S4x512x128, .f32⟩
  | .hbm, ⟨74, _⟩ => ⟨S_, .f32⟩
  | .hbm, ⟨75, _⟩ => ⟨S512, .f32⟩
  | .hbm, ⟨76, _⟩ => ⟨S512, .f32⟩
  | .hbm, ⟨77, _⟩ => ⟨S1x512x1, .f32⟩
  | .hbm, ⟨78, _⟩ => ⟨S4x512x1, .f32⟩
  | .hbm, ⟨79, _⟩ => ⟨S4x512x1, .f32⟩
  | .hbm, ⟨80, _⟩ => ⟨S4x512x1, .f32⟩
  | .hbm, ⟨81, _⟩ => ⟨S4x512x1, .f32⟩
  | .hbm, ⟨82, _⟩ => ⟨S4x512x128, .f32⟩
  | .hbm, ⟨83, _⟩ => ⟨S4x512x128, .f32⟩
  | .hbm, ⟨84, _⟩ => ⟨S4x512x128, .f32⟩
  | .hbm, ⟨85, _⟩ => ⟨S_, .f32⟩
  | .hbm, ⟨86, _⟩ => ⟨S4x1x1, .f32⟩
  | .hbm, ⟨87, _⟩ => ⟨S4x1x1, .f32⟩
  | .hbm, ⟨88, _⟩ => ⟨S4x1x1, .f32⟩
  | .hbm, ⟨89, _⟩ => ⟨S4x1x128, .f32⟩
  | .hbm, ⟨90, _⟩ => ⟨S4x1x128, .f32⟩
  | .hbm, ⟨91, _⟩ => ⟨S4x1x128, .f32⟩
  | .hbm, ⟨92, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x512x512, .f32⟩
  | .local _ .vmem, ⟨13, _⟩ => ⟨S4x512x128, .f32⟩
  | .local _ .vmem, ⟨14, _⟩ => ⟨S4x512x128, .f32⟩
  | .local _ .vmem, ⟨15, _⟩ => ⟨S4x1x128, .f32⟩
  | .local _ .vmem, ⟨16, _⟩ => ⟨S512x512, .bf16⟩
  | .local _ .vmem, ⟨17, _⟩ => ⟨S512x512, .bf16⟩
  | .local _ .vmem, ⟨18, _⟩ => ⟨S4x128x128, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_1 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_cst_3 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_4 : Ref sig .tc := ⟨.hbm, 45, rfl⟩
abbrev main_v39 : Ref sig .tc := ⟨.hbm, 46, rfl⟩
abbrev main_v40 : Ref sig .tc := ⟨.hbm, 47, rfl⟩
abbrev main_cst_5 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x6912 : Shape := ⟨2, ![8192, 6912]⟩
abbrev S8192x1536 : Shape := ⟨2, ![8192, 1536]⟩
abbrev S1x8192x1536 : Shape := ⟨3, ![1, 8192, 1536]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S1x4x128x128 : Shape := ⟨4, ![1, 4, 128, 128]⟩
abbrev S1x64x128x4x128 : Shape := ⟨5, ![1, 64, 128, 4, 128]⟩
abbrev S64x1x4x128x128 : Shape := ⟨5, ![64, 1, 4, 128, 128]⟩
abbrev S1x1x4x128x128 : Shape := ⟨5, ![1, 1, 4, 128, 128]⟩
abbrev S1x8192x4 : Shape := ⟨3, ![1, 8192, 4]⟩
abbrev S1x8192x4x1 : Shape := ⟨4, ![1, 8192, 4, 1]⟩
abbrev S8192x512 : Shape := ⟨2, ![8192, 512]⟩

abbrev nBuf : Space → Nat
  | .hbm => 227
  | .vmem => 0
  | .smem => 0
  | _ => 0

abbrev hbmTy0_0 (i : Nat) : BufTy := match i % 128 with
  | 0 => ⟨S8192x6912, .f32⟩
  | 1 => ⟨S8192x1536, .f32⟩
  | 2 => ⟨S1x8192x1536, .f32⟩
  | 3 => ⟨S1x8192x512, .f32⟩
  | 4 => ⟨S1x8192x512, .f32⟩
  | 5 => ⟨S1x8192x512, .f32⟩
  | 6 => ⟨S8192, .i32⟩
  | 7 => ⟨S1x8192x4x128, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S8192, .f32⟩
  | 17 => ⟨S8192x1, .f32⟩
  | 18 => ⟨S1x64, .f32⟩
  | 19 => ⟨S8192x64, .f32⟩
  | 20 => ⟨S8192x64, .f32⟩
  | 21 => ⟨S8192x64, .f32⟩
  | 22 => ⟨S8192x64, .f32⟩
  | 23 => ⟨S1x8192x1x64, .f32⟩
  | 24 => ⟨S8192x64, .f32⟩
  | 25 => ⟨S1x8192x1x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x128, .f32⟩
  | 39 => ⟨S1x8192x4x128, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S8192, .f32⟩
  | 49 => ⟨S8192x1, .f32⟩
  | 50 => ⟨S1x64, .f32⟩
  | 51 => ⟨S8192x64, .f32⟩
  | 52 => ⟨S8192x64, .f32⟩
  | 53 => ⟨S8192x64, .f32⟩
  | 54 => ⟨S8192x64, .f32⟩
  | 55 => ⟨S1x8192x1x64, .f32⟩
  | 56 => ⟨S8192x64, .f32⟩
  | 57 => ⟨S1x8192x1x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x128, .f32⟩
  | 71 => ⟨S_, .f32⟩
  | 72 => ⟨S1x8192x4x128, .f32⟩
  | 73 => ⟨S1x8192x4x128, .f32⟩
  | 74 => ⟨S1x8192x4x128, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S4, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S_, .f32⟩
  | 96 => ⟨S128x128, .f32⟩
  | 97 => ⟨S128x128, .f32⟩
  | 98 => ⟨S1x128x128, .f32⟩
  | 99 => ⟨S4x1x1, .f32⟩
  | 100 => ⟨S4x128x128, .f32⟩
  | 101 => ⟨S4x128x128, .f32⟩
  | 102 => ⟨S4x128x128, .f32⟩
  | 103 => ⟨S4x128x128, .f32⟩
  | 104 => ⟨S_, .f32⟩
  | 105 => ⟨S_, .f32⟩
  | 106 => ⟨S4x128x128, .i1⟩
  | 107 => ⟨S4x128x128, .f32⟩
  | 108 => ⟨S4x128x128, .f32⟩
  | 109 => ⟨S_, .f32⟩
  | 110 => ⟨S128, .f32⟩
  | 111 => ⟨S128, .f32⟩
  | 112 => ⟨S1x128, .f32⟩
  | 113 => ⟨S4x1, .f32⟩
  | 114 => ⟨S4x128, .f32⟩
  | 115 => ⟨S4x128, .f32⟩
  | 116 => ⟨S4x128, .f32⟩
  | 117 => ⟨S4x128, .f32⟩
  | 118 => ⟨S1x4x128x1, .f32⟩
  | 119 => ⟨S_, .f32⟩
  | 120 => ⟨S128, .f32⟩
  | 121 => ⟨S128, .f32⟩
  | 122 => ⟨S1x128, .f32⟩
  | 123 => ⟨S4x1, .f32⟩
  | 124 => ⟨S4x128, .f32⟩
  | 125 => ⟨S4x128, .f32⟩
  | 126 => ⟨S4x128, .f32⟩
  | 127 => ⟨S4x128, .f32⟩
  | _ => ⟨S8192x6912, .f32⟩

abbrev hbmTy0_1 (i : Nat) : BufTy := match i % 128 with
  | 0 => ⟨S1x4x128x1, .f32⟩
  | 1 => ⟨S_, .f32⟩
  | 2 => ⟨S4, .f32⟩
  | 3 => ⟨S4, .f32⟩
  | 4 => ⟨S4, .f32⟩
  | 5 => ⟨S1x4x1x1, .f32⟩
  | 6 => ⟨S_, .f32⟩
  | 7 => ⟨S1x4x128x128, .f32⟩
  | 8 => ⟨S1x64x128x4x128, .f32⟩
  | 9 => ⟨S64x1x4x128x128, .f32⟩
  | 10 => ⟨S1x64x128x4x128, .f32⟩
  | 11 => ⟨S64x1x4x128x128, .f32⟩
  | 12 => ⟨S1x64x128x4x128, .f32⟩
  | 13 => ⟨S64x1x4x128x128, .f32⟩
  | 14 => ⟨S_, .f32⟩
  | 15 => ⟨S64x1x4x128x128, .f32⟩
  | 16 => ⟨S_, .i32⟩
  | 17 => ⟨S64x1x4x128x128, .f32⟩
  | 18 => ⟨S64x1x4x128x128, .f32⟩
  | 19 => ⟨S64x1x4x128x128, .f32⟩
  | 20 => ⟨S4x128x128, .f32⟩
  | 21 => ⟨S1x4x128x1, .f32⟩
  | 22 => ⟨S1x4x1x1, .f32⟩
  | 23 => ⟨S1x4x128x1, .f32⟩
  | 24 => ⟨S_, .i32⟩
  | 25 => ⟨S1x4x128x128, .f32⟩
  | 26 => ⟨S64x1x4x128x128, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S1x1x4x128x128, .f32⟩
  | 34 => ⟨S1x4x128x128, .f32⟩
  | 35 => ⟨S_, .i32⟩
  | 36 => ⟨S_, .i32⟩
  | 37 => ⟨S_, .i32⟩
  | 38 => ⟨S_, .i32⟩
  | 39 => ⟨S1x1x4x128x128, .f32⟩
  | 40 => ⟨S1x4x128x128, .f32⟩
  | 41 => ⟨S_, .i32⟩
  | 42 => ⟨S_, .i32⟩
  | 43 => ⟨S_, .i32⟩
  | 44 => ⟨S_, .i32⟩
  | 45 => ⟨S1x1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x1x4x128x128, .f32⟩
  | 62 => ⟨S_, .i32⟩
  | 63 => ⟨S_, .i32⟩
  | 64 => ⟨S_, .i32⟩
  | 65 => ⟨S_, .i32⟩
  | 66 => ⟨S64x1x4x128x128, .f32⟩
  | 67 => ⟨S_, .i32⟩
  | 68 => ⟨S_, .i32⟩
  | 69 => ⟨S1x64x128x4x128, .f32⟩
  | 70 => ⟨S1x8192x4x128, .f32⟩
  | 71 => ⟨S1x8192x4x128, .f32⟩
  | 72 => ⟨S_, .f32⟩
  | 73 => ⟨S1x8192x4, .f32⟩
  | 74 => ⟨S1x8192x4x1, .f32⟩
  | 75 => ⟨S_, .f32⟩
  | 76 => ⟨S1x8192x4x1, .f32⟩
  | 77 => ⟨S1x8192x4x1, .f32⟩
  | 78 => ⟨S_, .f32⟩
  | 79 => ⟨S1x8192x4x1, .f32⟩
  | 80 => ⟨S1x8192x4x1, .f32⟩
  | 81 => ⟨S1x8192x4x1, .f32⟩
  | 82 => ⟨S1x8192x4x128, .f32⟩
  | 83 => ⟨S1x8192x4x128, .f32⟩
  | 84 => ⟨S1x8192x512, .f32⟩
  | 85 => ⟨S8192x512, .f32⟩
  | 86 => ⟨S1x8192x512, .f32⟩
  | 87 => ⟨S1x8192x512, .f32⟩
  | 88 => ⟨S1x8192x512, .f32⟩
  | 89 => ⟨S_, .f32⟩
  | 90 => ⟨S1x8192x512, .f32⟩
  | 91 => ⟨S1x8192x512, .f32⟩
  | 92 => ⟨S_, .f32⟩
  | 93 => ⟨S1x8192x512, .f32⟩
  | 94 => ⟨S1x8192x512, .f32⟩
  | 95 => ⟨S1x8192x512, .f32⟩
  | 96 => ⟨S1x8192x512, .f32⟩
  | 97 => ⟨S8192x512, .f32⟩
  | 98 => ⟨S8192x512, .bf16⟩
  | _ => ⟨S8192x6912, .f32⟩

abbrev hbmTy (i : Nat) : BufTy := match i / 128 with
  | 0 => hbmTy0_0 i
  | 1 => hbmTy0_1 i
  | _ => ⟨S8192x6912, .f32⟩

abbrev bufTy : (tb : Table) → Fin (tcTables nBuf tb) → BufTy
  | .hbm, ⟨i, _⟩ => hbmTy i
  | _, _ => ⟨S8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_cst_1 : Ref sig .tc := ⟨.hbm, 42, rfl⟩
abbrev main_v39 : Ref sig .tc := ⟨.hbm, 43, rfl⟩
abbrev main_v40 : Ref sig .tc := ⟨.hbm, 44, rfl⟩
abbrev main_cst_2 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_cst_3 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_4 : Ref sig .tc := ⟨.hbm, 76, rfl⟩
abbrev main_v70 : Ref sig .tc := ⟨.hbm, 77, rfl⟩
abbrev main_v71 : Ref sig .tc := ⟨.hbm, 78, rfl⟩
abbrev main_cst_5 : Ref sig .tc := ⟨.hbm, 79, rfl⟩
abbrev main_v72 : Ref sig .tc := ⟨.hbm, 80, rfl⟩
abbrev main_v73 : Ref sig .tc := ⟨.hbm, 81, rfl⟩
abbrev main_cst_6 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_7 : Ref sig .tc := ⟨.hbm, 92, rfl⟩
abbrev main_v83 : Ref sig .tc := ⟨.hbm, 93, rfl⟩
abbrev main_v84 : Ref sig .tc := ⟨.hbm, 94, rfl⟩
abbrev main_cst_8 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_9 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v93 : Ref sig .tc := ⟨.hbm, 108, rfl⟩
abbrev main_cst_10 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_11 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_cst_12 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_13 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_14 : Ref sig .tc := ⟨.hbm, 142, rfl⟩
abbrev main_v123 : Ref sig .tc := ⟨.hbm, 143, rfl⟩
abbrev main_c : Ref sig .tc := ⟨.hbm, 144, rfl⟩
abbrev main_v124_0 : Ref sig .tc := ⟨.hbm, 145, rfl⟩
abbrev main_v124_1 : Ref sig .tc := ⟨.hbm, 146, rfl⟩
abbrev main_v124_2 : Ref sig .tc := ⟨.hbm, 147, rfl⟩
abbrev main_v124_3 : Ref sig .tc := ⟨.hbm, 148, rfl⟩
abbrev main_v124_4 : Ref sig .tc := ⟨.hbm, 149, rfl⟩
abbrev main_v124_5 : Ref sig .tc := ⟨.hbm, 150, rfl⟩
abbrev main_v124_6 : Ref sig .tc := ⟨.hbm, 151, rfl⟩
abbrev main_v124_7 : Ref sig .tc := ⟨.hbm, 152, rfl⟩
abbrev main_v124_8 : Ref sig .tc := ⟨.hbm, 153, rfl⟩
abbrev main_v124_9 : Ref sig .tc := ⟨.hbm, 154, rfl⟩
abbrev main_while0c_c_27 : Ref sig .tc := ⟨.hbm, 155, rfl⟩
abbrev main_while0c_v144 : Ref sig .tc := ⟨.hbm, 156, rfl⟩
abbrev main_while0b_call1_c : Ref sig .tc := ⟨.hbm, 157, rfl⟩
abbrev main_while0b_call1_c_0 : Ref sig .tc := ⟨.hbm, 158, rfl⟩
abbrev main_while0b_call1_c_1 : Ref sig .tc := ⟨.hbm, 159, rfl⟩
abbrev main_while0b_call1_c_2 : Ref sig .tc := ⟨.hbm, 160, rfl⟩
abbrev main_while0b_call1_v0 : Ref sig .tc := ⟨.hbm, 161, rfl⟩
abbrev main_while0b_v144 : Ref sig .tc := ⟨.hbm, 162, rfl⟩
abbrev main_while0b_call2_c : Ref sig .tc := ⟨.hbm, 163, rfl⟩
abbrev main_while0b_call2_c_0 : Ref sig .tc := ⟨.hbm, 164, rfl⟩
abbrev main_while0b_call2_c_1 : Ref sig .tc := ⟨.hbm, 165, rfl⟩
abbrev main_while0b_call2_c_2 : Ref sig .tc := ⟨.hbm, 166, rfl⟩
abbrev main_while0b_call2_v0 : Ref sig .tc := ⟨.hbm, 167, rfl⟩
abbrev main_while0b_v145 : Ref sig .tc := ⟨.hbm, 168, rfl⟩
abbrev main_while0b_call3_c : Ref sig .tc := ⟨.hbm, 169, rfl⟩
abbrev main_while0b_call3_c_0 : Ref sig .tc := ⟨.hbm, 170, rfl⟩
abbrev main_while0b_call3_c_1 : Ref sig .tc := ⟨.hbm, 171, rfl⟩
abbrev main_while0b_call3_c_2 : Ref sig .tc := ⟨.hbm, 172, rfl⟩
abbrev main_while0b_call3_v0 : Ref sig .tc := ⟨.hbm, 173, rfl⟩
abbrev main_while0b_v146 : Ref sig .tc := ⟨.hbm, 174, rfl⟩
abbrev main_while0b_v147 : Ref sig .tc := ⟨.hbm, 175, rfl⟩
abbrev main_while0b_v148 : Ref sig .tc := ⟨.hbm, 176, rfl⟩
abbrev main_while0b_v149 : Ref sig .tc := ⟨.hbm, 177, rfl⟩
abbrev main_while0b_v150 : Ref sig .tc := ⟨.hbm, 178, rfl⟩
abbrev main_while0b_v151 : Ref sig .tc := ⟨.hbm, 179, rfl⟩
abbrev main_while0b_v152 : Ref sig .tc := ⟨.hbm, 180, rfl⟩
abbrev main_while0b_v153 : Ref sig .tc := ⟨.hbm, 181, rfl⟩
abbrev main_while0b_v154 : Ref sig .tc := ⟨.hbm, 182, rfl⟩
abbrev main_while0b_v155 : Ref sig .tc := ⟨.hbm, 183, rfl⟩
abbrev main_while0b_v156 : Ref sig .tc := ⟨.hbm, 184, rfl⟩
abbrev main_while0b_v157 : Ref sig .tc := ⟨.hbm, 185, rfl⟩
abbrev main_while0b_v158 : Ref sig .tc := ⟨.hbm, 186, rfl⟩
abbrev main_while0b_v159 : Ref sig .tc := ⟨.hbm, 187, rfl⟩
abbrev main_while0b_v160 : Ref sig .tc := ⟨.hbm, 188, rfl⟩
abbrev main_while0b_call4_v0 : Ref sig .tc := ⟨.hbm, 189, rfl⟩
abbrev main_while0b_call4_c : Ref sig .tc := ⟨.hbm, 190, rfl⟩
abbrev main_while0b_call4_c_0 : Ref sig .tc := ⟨.hbm, 191, rfl⟩
abbrev main_while0b_call4_c_1 : Ref sig .tc := ⟨.hbm, 192, rfl⟩
abbrev main_while0b_call4_c_2 : Ref sig .tc := ⟨.hbm, 193, rfl⟩
abbrev main_while0b_v161 : Ref sig .tc := ⟨.hbm, 194, rfl⟩
abbrev main_while0b_c_27 : Ref sig .tc := ⟨.hbm, 195, rfl⟩
abbrev main_while0b_v162 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_15 : Ref sig .tc := ⟨.hbm, 200, rfl⟩
abbrev main_v128 : Ref sig .tc := ⟨.hbm, 201, rfl⟩
abbrev main_v129 : Ref sig .tc := ⟨.hbm, 202, rfl⟩
abbrev main_cst_16 : Ref sig .tc := ⟨.hbm, 203, rfl⟩
abbrev main_v130 : Ref sig .tc := ⟨.hbm, 204, rfl⟩
abbrev main_v131 : Ref sig .tc := ⟨.hbm, 205, rfl⟩
abbrev main_cst_17 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_call5_v0 : Ref sig .tc := ⟨.hbm, 215, rfl⟩
abbrev main_call5_v1 : Ref sig .tc := ⟨.hbm, 216, rfl⟩
abbrev main_call5_cst : Ref sig .tc := ⟨.hbm, 217, rfl⟩
abbrev main_call5_v2 : Ref sig .tc := ⟨.hbm, 218, rfl⟩
abbrev main_call5_v3 : Ref sig .tc := ⟨.hbm, 219, rfl⟩
abbrev main_call5_cst_0 : Ref sig .tc := ⟨.hbm, 220, rfl⟩
abbrev main_call5_v4 : Ref sig .tc := ⟨.hbm, 221, rfl⟩
abbrev main_call5_v5 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x2048 : Shape := ⟨2, ![8192, 2048]⟩
abbrev S2048 : Shape := ⟨1, ![2048]⟩
abbrev S2048x6912 : Shape := ⟨2, ![2048, 6912]⟩
abbrev S1x2048 : Shape := ⟨2, ![1, 2048]⟩
abbrev S8192x6912 : Shape := ⟨2, ![8192, 6912]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6912, .bf16⟩
  | .hbm, ⟨3, _⟩ => ⟨S1x2048, .f32⟩
  | .hbm, ⟨4, _⟩ => ⟨S8192x6912, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2048 : Shape := ⟨1, ![2048]⟩
abbrev S2048x6912 : Shape := ⟨2, ![2048, 6912]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x6912 : Shape := ⟨3, ![1, 8192, 6912]⟩
abbrev S8192x6912 : Shape := ⟨2, ![8192, 6912]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6912, .bf16⟩
  | .hbm, ⟨3, _⟩ => ⟨S1x8192x2048, .f32⟩
  | .hbm, ⟨4, _⟩ => ⟨S1x8192x2048, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x2048, .f32⟩
  | .hbm, ⟨16, _⟩ => ⟨S1x8192x2048, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S1x8192x6912, .f32⟩
  | .hbm, ⟨21, _⟩ => ⟨S8192x6912, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S8192x512 : Shape := ⟨2, ![8192, 512]⟩
abbrev S8192x1024 : Shape := ⟨2, ![8192, 1024]⟩
abbrev S8192x2048 : Shape := ⟨2, ![8192, 2048]⟩
abbrev S2x2048x2048 : Shape := ⟨3, ![2, 2048, 2048]⟩
abbrev S1024x512 : Shape := ⟨2, ![1024, 512]⟩
abbrev S1024x1024 : Shape := ⟨2, ![1024, 1024]⟩
abbrev S1x2048x1024 : Shape := ⟨3, ![1, 2048, 1024]⟩
abbrev S2048x1024 : Shape := ⟨2, ![2048, 1024]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x2048, .f32⟩
  | .hbm, ⟨4, _⟩ => ⟨S2x2048x2048, .f32⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1x2048x1024, .f32⟩
  | .local _ .vmem, ⟨7, _⟩ => ⟨S1x2048x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x512 : Shape := ⟨2, ![8192, 512]⟩
abbrev S8192x1024 : Shape := ⟨2, ![8192, 1024]⟩
abbrev S8192x2048 : Shape := ⟨2, ![8192, 2048]⟩
abbrev S2x2048x2048 : Shape := ⟨3, ![2, 2048, 2048]⟩
abbrev S1x8192x512 : Shape := ⟨3, ![1, 8192, 512]⟩
abbrev S1x8192x1024 : Shape := ⟨3, ![1, 8192, 1024]⟩
abbrev S1x8192x2048 : Shape := ⟨3, ![1, 8192, 2048]⟩
abbrev S1x2048x2048 : Shape := ⟨3, ![1, 2048, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x2048, .f32⟩
  | .hbm, ⟨4, _⟩ => ⟨S2x2048x2048, .f32⟩
  | .hbm, ⟨5, _⟩ => ⟨S1x8192x512, .bf16⟩
  | .hbm, ⟨6, _⟩ => ⟨S1x8192x512, .f32⟩
  | .hbm, ⟨7, _⟩ => ⟨S1x8192x512, .bf16⟩
  | .hbm, ⟨8, _⟩ => ⟨S1x8192x512, .f32⟩
  | .hbm, ⟨9, _⟩ => ⟨S1x8192x1024, .bf16⟩
  | .hbm, ⟨10, _⟩ => ⟨S1x8192x1024, .f32⟩
  | .hbm, ⟨11, _⟩ => ⟨S1x8192x2048, .f32⟩
  | .hbm, ⟨12, _⟩ => ⟨S1x8192x2048, .f32⟩
  | .hbm, ⟨13, _⟩ => ⟨S1x2048x2048, .f32⟩
  | .hbm, ⟨14, _⟩ => ⟨S2048x2048, .f32⟩
  | .hbm, ⟨15, _⟩ => ⟨S1x8192x2048, .f32⟩
  | .hbm, ⟨16, _⟩ => ⟨S1x8192x2048, .f32⟩
  | .hbm, ⟨17, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S8192x2048 : Shape := ⟨2, ![8192, 2048]⟩
abbrev S2x2048 : Shape := ⟨2, ![2, 2048]⟩
abbrev S2x2048x8192 : Shape := ⟨3, ![2, 2048, 8192]⟩
abbrev S1x2048 : Shape := ⟨2, ![1, 2048]⟩
abbrev S2048 : Shape := ⟨1, ![2048]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2x2048 : Shape := ⟨2, ![2, 2048]⟩
abbrev S2x2048x8192 : Shape := ⟨3, ![2, 2048, 8192]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x2048 : Shape := ⟨2, ![1, 2048]⟩
abbrev S2048 : Shape := ⟨1, ![2048]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x8192 : Shape := ⟨3, ![1, 8192, 8192]⟩
abbrev S8192x8192 : Shape := ⟨2, ![8192, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S1x8192x2048, .f32⟩
  | .hbm, ⟨4, _⟩ => ⟨S1x8192x2048, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x2048, .f32⟩
  | .hbm, ⟨16, _⟩ => ⟨S1x8192x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S1x8192x2048, .f32⟩
  | .hbm, ⟨21, _⟩ => ⟨S1x8192x2048, .f32⟩
  | .hbm, ⟨22, _⟩ => ⟨S1x2048x8192, .f32⟩
  | .hbm, ⟨23, _⟩ => ⟨S2048x8192, .f32⟩
  | .hbm, ⟨24, _⟩ => ⟨S1x8192x8192, .f32⟩
  | .hbm, ⟨25, _⟩ => ⟨S_, .f32⟩
  | .hbm, ⟨26, _⟩ => ⟨S1x8192x8192, .f32⟩
  | .hbm, ⟨27, _⟩ => ⟨S1x8192x8192, .f32⟩
  | .hbm, ⟨28, _⟩ => ⟨S1x8192x8192, .f32⟩
  | .hbm, ⟨29, _⟩ => ⟨S8192x8192, .f32⟩
  | .hbm, ⟨30, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel5.lean ====
abbrev S8192x8192 : Shape := ⟨2, ![8192, 8192]⟩
abbrev S8192x2048 : Shape := ⟨2, ![8192, 2048]⟩
abbrev S2x8192x2048 : Shape := ⟨3, ![2, 8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S2x8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x8192 : Shape := ⟨2, ![8192, 8192]⟩
abbrev S8192x2048 : Shape := ⟨2, ![8192, 2048]⟩
abbrev S2x8192x2048 : Shape := ⟨3, ![2, 8192, 2048]⟩
abbrev S1x8192x2048 : Shape := ⟨3, ![1, 8192, 2048]⟩
abbrev S1x8192x8192 : Shape := ⟨3, ![1, 8192, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S2x8192x2048, .f32⟩
  | .hbm, ⟨3, _⟩ => ⟨S1x8192x2048, .f32⟩
  | .hbm, ⟨4, _⟩ => ⟨S1x8192x8192, .bf16⟩
  | .hbm, ⟨5, _⟩ => ⟨S1x8192x8192, .f32⟩
  | .hbm, ⟨6, _⟩ => ⟨S1x8192x2048, .f32⟩
  | .hbm, ⟨7, _⟩ => ⟨S8192x2048, .f32⟩
  | .hbm, ⟨8, _⟩ => ⟨S1x8192x2048, .f32⟩
  | .hbm, ⟨9, _⟩ => ⟨S1x8192x2048, .f32⟩
  | .hbm, ⟨10, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x6912 : Shape := ⟨2, ![8192, 6912]⟩
abbrev S2x1984 : Shape := ⟨2, ![2, 1984]⟩
abbrev S1x64 : Shape := ⟨2, ![1, 64]⟩
abbrev S2x512 : Shape := ⟨2, ![2, 512]⟩
abbrev S2x96x512 : Shape := ⟨3, ![2, 96, 512]⟩
abbrev S1x512 : Shape := ⟨2, ![1, 512]⟩
abbrev S1x64x512 : Shape := ⟨3, ![1, 64, 512]⟩
abbrev S2x256x512 : Shape := ⟨3, ![2, 256, 512]⟩
abbrev S8192x512 : Shape := ⟨2, ![8192, 512]⟩
abbrev S1x1984 : Shape := ⟨2, ![1, 1984]⟩
abbrev S1984 : Shape := ⟨1, ![1984]⟩
abbrev S64 : Shape := ⟨1, ![64]⟩
abbrev S96 : Shape := ⟨1, ![96]⟩
abbrev S256 : Shape := ⟨1, ![256]⟩
abbrev S_ : Shape := ⟨0, ![]⟩
abbrev S128 : Shape := ⟨1, ![128]⟩
abbrev S1536 : Shape := ⟨1, ![1536]⟩
abbrev S32 : Shape := ⟨1, ![32]⟩
abbrev S2176 : Shape := ⟨1, ![2176]⟩
abbrev S1x2176 : Shape := ⟨2, ![1, 2176]⟩
abbrev S512 : Shape := ⟨1, ![512]⟩
abbrev S64x512 : Shape := ⟨2, ![64, 512]⟩
abbrev S128x512 : Shape := ⟨2, ![128, 512]⟩
abbrev S1x96x512 : Shape := ⟨3, ![1, 96, 512]⟩
abbrev S96x512 : Shape := ⟨2, ![96, 512]⟩
abbrev S1x256x512 : Shape := ⟨3, ![1, 256, 512]⟩
abbrev S256x512 : Shape := ⟨2, ![256, 512]⟩
abbrev S512x1 : Shape := ⟨2, ![512, 1]⟩
abbrev S512x512 : Shape := ⟨2, ![512, 512]⟩
abbrev S512x128 : Shape := ⟨2, ![512, 128]⟩
abbrev S512x256 : Shape := ⟨2, ![512, 256]⟩
abbrev S8x512 : Shape := ⟨2, ![8, 512]⟩
abbrev S8x128 : Shape := ⟨2, ![8, 128]⟩
abbrev S8x256 : Shape := ⟨2, ![8, 256]⟩
abbrev S1x128 : Shape := ⟨2, ![1, 128]⟩
abbrev S1x256 : Shape := ⟨2, ![1, 256]⟩

abbrev nBuf : Space → Nat
  | .hbm => 91
  | .vmem => 55
  | .smem => 0
  | _ => 0

abbrev bufTy : (tb : Table) → Fin (tcTables nBuf tb) → BufTy
  | .hbm, ⟨0, _⟩ => ⟨S8192x6912, .f32⟩
  | .hbm, ⟨1, _⟩ => ⟨S2x1984, .f32⟩
  | .hbm, ⟨2, _⟩ => ⟨S1x64, .f32⟩
  | .hbm, ⟨3, _⟩ => ⟨S2x512, .f32⟩
  | .hbm, ⟨4, _⟩ => ⟨S2x96x512, .f32⟩
  | .hbm, ⟨5, _⟩ => ⟨S2x512, .f32⟩
  | .hbm, ⟨6, _⟩ => ⟨S2x96x512, .f32⟩
  | .hbm, ⟨7, _⟩ => ⟨S1x512, .f32⟩
  | .hbm, ⟨8, _⟩ => ⟨S1x64x512, .f32⟩
  | .hbm, ⟨9, _⟩ => ⟨S2x256x512, .f32⟩
  | .hbm, ⟨10, _⟩ => ⟨S2x512, .f32⟩
  | .hbm, ⟨11, _⟩ => ⟨S2x512, .f32⟩
  | .hbm, ⟨12, _⟩ => ⟨S8192x512, .f32⟩
  | .hbm, ⟨13, _⟩ => ⟨S1x1984, .f32⟩
  | .hbm, ⟨14, _⟩ => ⟨S1984, .f32⟩
  | .hbm, ⟨15, _⟩ => ⟨S64, .f32⟩
  | .hbm, ⟨16, _⟩ => ⟨S96, .f32⟩
  | .hbm, ⟨17, _⟩ => ⟨S96, .f32⟩
  | .hbm, ⟨18, _⟩ => ⟨S256, .f32⟩
  | .hbm, ⟨19, _⟩ => ⟨S_, .f32⟩
  | .hbm, ⟨20, _⟩ => ⟨S64, .f32⟩
  | .hbm, ⟨21, _⟩ => ⟨S128, .f32⟩
  | .hbm, ⟨22, _⟩ => ⟨S1536, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S2176, .f32⟩
  | .hbm, ⟨28, _⟩ => ⟨S1x2176, .f32⟩
  | .hbm, ⟨29, _⟩ => ⟨S512, .f32⟩
  | .hbm, ⟨30, _⟩ => ⟨S1x512, .f32⟩
  | .hbm, ⟨31, _⟩ => ⟨S64x512, .f32⟩
  | .hbm, ⟨32, _⟩ => ⟨S_, .i32⟩
  | .hbm, ⟨33, _⟩ => ⟨S_, .f32⟩
  | .hbm, ⟨34, _⟩ => ⟨S128x512, .f32⟩
  | .hbm, ⟨35, _⟩ => ⟨S1x512, .f32⟩
  | .hbm, ⟨36, _⟩ => ⟨S512, .f32⟩
  | .hbm, ⟨37, _⟩ => ⟨S1x512, .f32⟩
  | .hbm, ⟨38, _⟩ => ⟨S1x96x512, .f32⟩
  | .hbm, ⟨39, _⟩ => ⟨S96x512, .f32⟩
  | .hbm, ⟨40, _⟩ => ⟨S_, .i32⟩
  | .hbm, ⟨41, _⟩ => ⟨S_, .f32⟩
  | .hbm, ⟨42, _⟩ => ⟨S128x512, .f32⟩
  | .hbm, ⟨43, _⟩ => ⟨S1x512, .f32⟩
  | .hbm, ⟨44, _⟩ => ⟨S512, .f32⟩
  | .hbm, ⟨45, _⟩ => ⟨S1x512, .f32⟩
  | .hbm, ⟨46, _⟩ => ⟨S1x96x512, .f32⟩
  | .hbm, ⟨47, _⟩ => ⟨S96x512, .f32⟩
  | .hbm, ⟨48, _⟩ => ⟨S_, .i32⟩
  | .hbm, ⟨49, _⟩ => ⟨S_, .f32⟩
  | .hbm, ⟨50, _⟩ => ⟨S128x512, .f32⟩
  | .hbm, ⟨51, _⟩ => ⟨S1x256x512, .f32⟩
  | .hbm, ⟨52, _⟩ => ⟨S256x512, .f32⟩
  | .hbm, ⟨53, _⟩ => ⟨S1x512, .f32⟩
  | .hbm, ⟨54, _⟩ => ⟨S512, .f32⟩
  | .hbm, ⟨55, _⟩ => ⟨S1x512, .f32⟩
  | .hbm, ⟨56, _⟩ => ⟨S1x512, .f32⟩
  | .hbm, ⟨57, _⟩ => ⟨S512, .f32⟩
  | .hbm, ⟨58, _⟩ => ⟨S1x512, .f32⟩
  | .hbm, ⟨59, _⟩ => ⟨S512, .i32⟩
  | .hbm, ⟨60, _⟩ => ⟨S_, .i32⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S_, .i32⟩
  | .hbm, ⟨66, _⟩ => ⟨S512, .i32⟩
  | .hbm, ⟨67, _⟩ => ⟨S512, .i1⟩
  | .hbm, ⟨68, _⟩ => ⟨S512, .i32⟩
  | .hbm, ⟨69, _⟩ => ⟨S512, .i32⟩
  | .hbm, ⟨70, _⟩ => ⟨S_, .i32⟩
  | .hbm, ⟨71, _⟩ => ⟨S512, .i32⟩
  | .hbm, ⟨72, _⟩ => ⟨S512, .i1⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S1x512, .i32⟩
  | .hbm, ⟨80, _⟩ => ⟨S512x512, .i32⟩
  | .hbm, ⟨81, _⟩ => ⟨S512x512, .i32⟩
  | .hbm, ⟨82, _⟩ => ⟨S512x512, .i1⟩
  | .hbm, ⟨83, _⟩ => ⟨S512x512, .bf16⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x256, .f32⟩
  | .local _ .vmem, ⟨25, _⟩ => ⟨S8x256, .f32⟩
  | .local _ .vmem, ⟨26, _⟩ => ⟨S8x128, .f32⟩
  | .local _ .vmem, ⟨27, _⟩ => ⟨S8x128, .f32⟩
  | .local _ .vmem, ⟨28, _⟩ => ⟨S1x2176, .f32⟩
  | .local _ .vmem, ⟨29, _⟩ => ⟨S1x512, .f32⟩
  | .local _ .vmem, ⟨30, _⟩ => ⟨S128x512, .f32⟩
  | .local _ .vmem, ⟨31, _⟩ => ⟨S1x512, .f32⟩
  | .local _ .vmem, ⟨32, _⟩ => ⟨S128x512, .f32⟩
  | .local _ .vmem, ⟨33, _⟩ => ⟨S1x512, .f32⟩
  | .local _ .vmem, ⟨34, _⟩ => ⟨S128x512, .f32⟩
  | .local _ .vmem, ⟨35, _⟩ => ⟨S256x512, .f32⟩
  | .local _ .vmem, ⟨36, _⟩ => ⟨S1x512, .f32⟩
  | .local _ .vmem, ⟨37, _⟩ => ⟨S1x512, .f32⟩
  | .local _ .vmem, ⟨38, _⟩ => ⟨S512x512, .bf16⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S512x512, .f32⟩
  | .local _ .vmem, ⟨48, _⟩ => ⟨S512x512, .f32⟩
  | .local _ .vmem, ⟨49, _⟩ => ⟨S512x512, .f32⟩
  | .local _ .vmem, ⟨50, _⟩ => ⟨S512x512, .f32⟩
  | .local _ .vmem, ⟨51, _⟩ => ⟨S512x512, .f32⟩
  | .local _ .vmem, ⟨52, _⟩ => ⟨S512x512, .f32⟩
  | .local _ .vmem, ⟨53, _⟩ => ⟨S512x512, .f32⟩
  | .local _ .vmem, ⟨54, _⟩ => ⟨S512x512, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_call1_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_3 : Ref sig .tc := ⟨.hbm, 48, rfl⟩
abbrev main_call2_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_c : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_0 : Ref sig .tc := ⟨.hbm, 74, rfl⟩
abbrev main_call3_v12 : Ref sig .tc := ⟨.hbm, 75, rfl⟩
abbrev main_call3_v13 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45_0 : Ref sig .tc := ⟨.hbm, 84, rfl⟩
abbrev main_v45_1 : Ref sig .tc := ⟨.hbm, 85, rfl⟩
abbrev main_v45_2 : Ref sig .tc := ⟨.hbm, 86, rfl⟩
abbrev main_v45_3 : Ref sig .tc := ⟨.hbm, 87, rfl⟩
abbrev main_v45_4 : Ref sig .tc := ⟨.hbm, 88, rfl⟩
abbrev main_v45_5 : Ref sig .tc := ⟨.hbm, 89, rfl⟩
abbrev main_v45_6 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_stg27_0 : Ref sig .tc := ⟨.vmem, 43, rfl⟩
abbrev cc0_stg27_1 : Ref sig .tc := ⟨.vmem, 44, rfl⟩
abbrev cc0_stg28_0 : Ref sig .tc := ⟨.vmem, 45, rfl⟩
abbrev cc0_stg28_1 : Ref sig .tc := ⟨.vmem, 46, rfl⟩
abbrev cc0_stg29_0 : Ref sig .tc := ⟨.vmem, 47, rfl⟩
abbrev cc0_stg29_1 : Ref sig .tc := ⟨.vmem, 48, rfl⟩
abbrev cc0_stg30_0 : Ref sig .tc := ⟨.vmem, 49, rfl⟩
abbrev cc0_stg30_1 : Ref sig .tc := ⟨.vmem, 50, rfl⟩
abbrev cc0_stg31_0 : Ref sig .tc := ⟨.vmem, 51, rfl⟩
abbrev cc0_stg31_1 : Ref sig .tc := ⟨.vmem, 52, rfl⟩
abbrev cc0_stg32_0 : Ref sig .tc := ⟨.vmem, 53, rfl⟩
abbrev cc0_stg32_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem25_1 : DmaSem sig := 40
abbrev cc0_sem26_0 : DmaSem sig := 41
abbrev cc0_sem26_1 : DmaSem sig := 42
abbrev cc0_sem27_0 : DmaSem sig := 43
abbrev cc0_sem27_1 : DmaSem sig := 44
abbrev cc0_sem28_0 : DmaSem sig := 45
abbrev cc0_sem28_1 : DmaSem sig := 46
abbrev cc0_sem29_0 : DmaSem sig := 47
abbrev cc0_sem29_1 : DmaSem sig := 48
abbrev cc0_sem30_0 : DmaSem sig := 49
abbrev cc0_sem30_1 : DmaSem sig := 50
abbrev cc0_sem31_0 : DmaSem sig := 51
abbrev cc0_sem31_1 : DmaSem sig := 52
abbrev cc0_sem32_0 : DmaSem sig := 53
abbrev cc0_sem32_1 : DmaSem sig := 54

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_4 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_5 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_6 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_8 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c28_i32 : BitVec 32 := 28#32
  let c0_i32_0 : BitVec 32 := 0#32
  ![v2.toNat, c28_i32.toNat]

def cc0_transform_11 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c29_i32 : BitVec 32 := 29#32
  let c0_i32_0 : BitVec 32 := 0#32
  ![v2.toNat, c29_i32.toNat]

def cc0_transform_12 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c15_i32 : BitVec 32 := 15#32
  let c0_i32_0 : BitVec 32 := 0#32
  ![v2.toNat, c15_i32.toNat]

def cc0_transform_13 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let c0_i32_0 : BitVec 32 := 0#32
  ![v2.toNat, c32_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2176 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x512 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x512 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S512x512 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== Reference6Ideal.lean ====
abbrev S8192x6912 : Shape := ⟨2, ![8192, 6912]⟩
abbrev S2x1984 : Shape := ⟨2, ![2, 1984]⟩
abbrev S1x64 : Shape := ⟨2, ![1, 64]⟩
abbrev S2x512 : Shape := ⟨2, ![2, 512]⟩
abbrev S2x96x512 : Shape := ⟨3, ![2, 96, 512]⟩
abbrev S1x512 : Shape := ⟨2, ![1, 512]⟩
abbrev S1x64x512 : Shape := ⟨3, ![1, 64, 512]⟩
abbrev S2x256x512 : Shape := ⟨3, ![2, 256, 512]⟩
abbrev S8192x512 : Shape := ⟨2, ![8192, 512]⟩
abbrev S8192x1632 : Shape := ⟨2, ![8192, 1632]⟩
abbrev S1x8192x1632 : Shape := ⟨3, ![1, 8192, 1632]⟩
abbrev S8192x96 : Shape := ⟨2, ![8192, 96]⟩
abbrev S1x8192x96 : Shape := ⟨3, ![1, 8192, 96]⟩
abbrev S8192x256 : Shape := ⟨2, ![8192, 256]⟩
abbrev S1x8192x256 : Shape := ⟨3, ![1, 8192, 256]⟩
abbrev S1x8192x1984 : Shape := ⟨3, ![1, 8192, 1984]⟩
abbrev S8192x64 : Shape := ⟨2, ![8192, 64]⟩
abbrev S1x8192x64 : Shape := ⟨3, ![1, 8192, 64]⟩
abbrev S1x1984 : Shape := ⟨2, ![1, 1984]⟩
abbrev S1984 : Shape := ⟨1, ![1984]⟩
abbrev S_ : Shape := ⟨0, ![]⟩
abbrev S1x8193x1984 : Shape := ⟨3, ![1, 8193, 1984]⟩
abbrev S1x1x1984 : Shape := ⟨3, ![1, 1, 1984]⟩
abbrev S1x8192x512 : Shape := ⟨3, ![1, 8192, 512]⟩
abbrev S512 : Shape := ⟨1, ![512]⟩
abbrev S1x96x512 : Shape := ⟨3, ![1, 96, 512]⟩
abbrev S96x512 : Shape := ⟨2, ![96, 512]⟩
abbrev S1x1x512 : Shape := ⟨3, ![1, 1, 512]⟩
abbrev S64 : Shape := ⟨1, ![64]⟩
abbrev S1x8193x64 : Shape := ⟨3, ![1, 8193, 64]⟩
abbrev S1x1x64 : Shape := ⟨3, ![1, 1, 64]⟩
abbrev S64x512 : Shape := ⟨2, ![64, 512]⟩
abbrev S1x256x512 : Shape := ⟨3, ![1, 256, 512]⟩
abbrev S256x512 : Shape := ⟨2, ![256, 512]⟩
abbrev S1x8192x8x64 : Shape := ⟨4, ![1, 8192, 8, 64]⟩
abbrev S1x8192x8 : Shape := ⟨3, ![1, 8192, 8]⟩
abbrev S1x8192x8x1 : Shape := ⟨4, ![1, 8192, 8, 1]⟩

abbrev nBuf : Space → Nat
  | .hbm => 162
  | .vmem => 0
  | .smem => 0
  | _ => 0

abbrev hbmTy0_0 (i : Nat) : BufTy := match i % 128 with
  | 0 => ⟨S8192x6912, .f32⟩
  | 1 => ⟨S2x1984, .f32⟩
  | 2 => ⟨S1x64, .f32⟩
  | 3 => ⟨S2x512, .f32⟩
  | 4 => ⟨S2x96x512, .f32⟩
  | 5 => ⟨S2x512, .f32⟩
  | 6 => ⟨S2x96x512, .f32⟩
  | 7 => ⟨S1x512, .f32⟩
  | 8 => ⟨S1x64x512, .f32⟩
  | 9 => ⟨S2x256x512, .f32⟩
  | 10 => ⟨S2x512, .f32⟩
  | 11 => ⟨S2x512, .f32⟩
  | 12 => ⟨S8192x512, .f32⟩
  | 13 => ⟨S8192x1632, .f32⟩
  | 14 => ⟨S1x8192x1632, .f32⟩
  | 15 => ⟨S8192x96, .f32⟩
  | 16 => ⟨S1x8192x96, .f32⟩
  | 17 => ⟨S8192x256, .f32⟩
  | 18 => ⟨S1x8192x256, .f32⟩
  | 19 => ⟨S1x8192x1984, .f32⟩
  | 20 => ⟨S8192x64, .f32⟩
  | 21 => ⟨S1x8192x64, .f32⟩
  | 22 => ⟨S1x1984, .f32⟩
  | 23 => ⟨S1984, .f32⟩
  | 24 => ⟨S_, .i32⟩
  | 25 => ⟨S_, .f32⟩
  | 26 => ⟨S1x8193x1984, .f32⟩
  | 27 => ⟨S1x8192x1984, .f32⟩
  | 28 => ⟨S1x8192x1984, .f32⟩
  | 29 => ⟨S1x1x1984, .f32⟩
  | 30 => ⟨S1x8192x1984, .f32⟩
  | 31 => ⟨S1x8192x1984, .f32⟩
  | 32 => ⟨S1x8192x1984, .f32⟩
  | 33 => ⟨S1x8192x512, .f32⟩
  | 34 => ⟨S1x8192x512, .f32⟩
  | 35 => ⟨S1x8192x512, .f32⟩
  | 36 => ⟨S1x8192x96, .f32⟩
  | 37 => ⟨S1x8192x96, .f32⟩
  | 38 => ⟨S1x8192x256, .f32⟩
  | 39 => ⟨S1x512, .f32⟩
  | 40 => ⟨S512, .f32⟩
  | 41 => ⟨S1x8192x96, .f32⟩
  | 42 => ⟨S1x96x512, .f32⟩
  | 43 => ⟨S96x512, .f32⟩
  | 44 => ⟨S1x8192x512, .f32⟩
  | 45 => ⟨S1x1x512, .f32⟩
  | 46 => ⟨S1x8192x512, .f32⟩
  | 47 => ⟨S1x8192x512, .f32⟩
  | 48 => ⟨S1x8192x512, .f32⟩
  | 49 => ⟨S_, .f32⟩
  | 50 => ⟨S1x8192x512, .f32⟩
  | 51 => ⟨S1x8192x512, .f32⟩
  | 52 => ⟨S1x8192x512, .f32⟩
  | 53 => ⟨S1x8192x512, .f32⟩
  | 54 => ⟨S1x8192x512, .i1⟩
  | 55 => ⟨S1x8192x512, .f32⟩
  | 56 => ⟨S1x8192x512, .f32⟩
  | 57 => ⟨S1x8192x512, .f32⟩
  | 58 => ⟨S1x8192x512, .f32⟩
  | 59 => ⟨S1x8192x512, .f32⟩
  | 60 => ⟨S1x8192x512, .f32⟩
  | 61 => ⟨S1x8192x512, .f32⟩
  | 62 => ⟨S1x8192x512, .f32⟩
  | 63 => ⟨S1x8192x512, .f32⟩
  | 64 => ⟨S_, .f32⟩
  | 65 => ⟨S1x8192x512, .f32⟩
  | 66 => ⟨S1x8192x512, .f32⟩
  | 67 => ⟨S64, .f32⟩
  | 68 => ⟨S_, .i32⟩
  | 69 => ⟨S_, .f32⟩
  | 70 => ⟨S1x8193x64, .f32⟩
  | 71 => ⟨S1x8192x64, .f32⟩
  | 72 => ⟨S1x8192x64, .f32⟩
  | 73 => ⟨S1x1x64, .f32⟩
  | 74 => ⟨S1x8192x64, .f32⟩
  | 75 => ⟨S1x8192x64, .f32⟩
  | 76 => ⟨S1x8192x64, .f32⟩
  | 77 => ⟨S1x8192x512, .f32⟩
  | 78 => ⟨S1x8192x512, .f32⟩
  | 79 => ⟨S512, .f32⟩
  | 80 => ⟨S64x512, .f32⟩
  | 81 => ⟨S1x8192x512, .f32⟩
  | 82 => ⟨S1x1x512, .f32⟩
  | 83 => ⟨S1x8192x512, .f32⟩
  | 84 => ⟨S1x8192x512, .f32⟩
  | 85 => ⟨S1x8192x512, .f32⟩
  | 86 => ⟨S1x8192x512, .f32⟩
  | 87 => ⟨S_, .f32⟩
  | 88 => ⟨S1x8192x512, .f32⟩
  | 89 => ⟨S1x8192x512, .f32⟩
  | 90 => ⟨S_, .f32⟩
  | 91 => ⟨S1x8192x512, .f32⟩
  | 92 => ⟨S1x8192x512, .f32⟩
  | 93 => ⟨S1x8192x512, .f32⟩
  | 94 => ⟨S1x8192x512, .f32⟩
  | 95 => ⟨S1x512, .f32⟩
  | 96 => ⟨S512, .f32⟩
  | 97 => ⟨S1x96x512, .f32⟩
  | 98 => ⟨S96x512, .f32⟩
  | 99 => ⟨S1x8192x512, .f32⟩
  | 100 => ⟨S1x1x512, .f32⟩
  | 101 => ⟨S1x8192x512, .f32⟩
  | 102 => ⟨S1x8192x512, .f32⟩
  | 103 => ⟨S1x8192x512, .f32⟩
  | 104 => ⟨S1x8192x512, .f32⟩
  | 105 => ⟨S_, .f32⟩
  | 106 => ⟨S1x8192x512, .f32⟩
  | 107 => ⟨S1x8192x512, .f32⟩
  | 108 => ⟨S_, .f32⟩
  | 109 => ⟨S1x8192x512, .f32⟩
  | 110 => ⟨S1x8192x512, .f32⟩
  | 111 => ⟨S1x8192x256, .f32⟩
  | 112 => ⟨S1x8192x256, .f32⟩
  | 113 => ⟨S_, .f32⟩
  | 114 => ⟨S1x8192x256, .f32⟩
  | 115 => ⟨S1x8192x256, .f32⟩
  | 116 => ⟨S_, .f32⟩
  | 117 => ⟨S1x8192x256, .f32⟩
  | 118 => ⟨S1x8192x256, .f32⟩
  | 119 => ⟨S1x256x512, .f32⟩
  | 120 => ⟨S256x512, .f32⟩
  | 121 => ⟨S1x8192x512, .f32⟩
  | 122 => ⟨S1x512, .f32⟩
  | 123 => ⟨S512, .f32⟩
  | 124 => ⟨S1x1x512, .f32⟩
  | 125 => ⟨S1x8192x512, .f32⟩
  | 126 => ⟨S1x8192x512, .f32⟩
  | 127 => ⟨S1x8192x8x64, .f32⟩
  | _ => ⟨S8192x6912, .f32⟩

abbrev hbmTy0_1 (i : Nat) : BufTy := match i % 128 with
  | 0 => ⟨S1x8192x8x64, .f32⟩
  | 1 => ⟨S_, .f32⟩
  | 2 => ⟨S1x8192x8, .f32⟩
  | 3 => ⟨S1x8192x8x1, .f32⟩
  | 4 => ⟨S1x8192x8x1, .f32⟩
  | 5 => ⟨S_, .f32⟩
  | 6 => ⟨S1x8192x8x1, .f32⟩
  | 7 => ⟨S1x8192x8x1, .f32⟩
  | 8 => ⟨S1x8192x8x64, .f32⟩
  | 9 => ⟨S1x8192x8x64, .f32⟩
  | 10 => ⟨S_, .f32⟩
  | 11 => ⟨S1x8192x512, .f32⟩
  | 12 => ⟨S1x8192x512, .f32⟩
  | 13 => ⟨S1x512, .f32⟩
  | 14 => ⟨S512, .f32⟩
  | 15 => ⟨S1x1x512, .f32⟩
  | 16 => ⟨S1x8192x512, .f32⟩
  | 17 => ⟨S1x8192x512, .f32⟩
  | 18 => ⟨S_, .f32⟩
  | 19 => ⟨S1x8192x512, .f32⟩
  | 20 => ⟨S1x8192x512, .f32⟩
  | 21 => ⟨S1x8192x512, .f32⟩
  | 22 => ⟨S1x8192x512, .f32⟩
  | 23 => ⟨S8192x512, .f32⟩
  | 24 => ⟨S1x8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S1x8192x512, .f32⟩
  | 32 => ⟨S8192x512, .f32⟩
  | 33 => ⟨S8192x512, .f32⟩
  | _ => ⟨S8192x6912, .f32⟩

abbrev hbmTy (i : Nat) : BufTy := match i / 128 with
  | 0 => hbmTy0_0 i
  | 1 => hbmTy0_1 i
  | _ => ⟨S8192x6912, .f32⟩

abbrev bufTy : (tb : Table) → Fin (tcTables nBuf tb) → BufTy
  | .hbm, ⟨i, _⟩ => hbmTy i
  | _, _ => ⟨S8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_v34 : Ref sig .tc := ⟨.hbm, 62, rfl⟩
abbrev main_v35 : Ref sig .tc := ⟨.hbm, 63, rfl⟩
abbrev main_cst : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_0 : Ref sig .tc := ⟨.hbm, 68, rfl⟩
abbrev main_call2_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_1 : Ref sig .tc := ⟨.hbm, 87, rfl⟩
abbrev main_v56 : Ref sig .tc := ⟨.hbm, 88, rfl⟩
abbrev main_v57 : Ref sig .tc := ⟨.hbm, 89, rfl⟩
abbrev main_cst_2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_3 : Ref sig .tc := ⟨.hbm, 105, rfl⟩
abbrev main_v72 : Ref sig .tc := ⟨.hbm, 106, rfl⟩
abbrev main_v73 : Ref sig .tc := ⟨.hbm, 107, rfl⟩
abbrev main_cst_4 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_5 : Ref sig .tc := ⟨.hbm, 113, rfl⟩
abbrev main_v78 : Ref sig .tc := ⟨.hbm, 114, rfl⟩
abbrev main_v79 : Ref sig .tc := ⟨.hbm, 115, rfl⟩
abbrev main_cst_6 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_7 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_8 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_9 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_10 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.Value
public import Idealize.ShloMosaic.Lib.Pipeline.ReadBack
public import Idealize.ShloMosaic.Lib.Pointwise.Index
public import Idealize.ShloMosaic.Lib.Pipeline.ReadBack
public import Idealize.ShloMosaic.Lib.Pointwise.Index
public import Idealize.ShloMosaic.Lib.Pipeline.ReadBack
public import Idealize.ShloMosaic.Lib.Pointwise.Index
public import Idealize.ShloMosaic.Lib.Pipeline.ReadBack
public import Idealize.ShloMosaic.Lib.Pointwise.Index
public import Idealize.ShloMosaic.Lib.Pipeline.ReadBack
public import Idealize.ShloMosaic.Lib.Pointwise.Index
public import Idealize.ShloMosaic.Lib.Tactic

@[expose] public section

set_option maxRecDepth 16384

noncomputable section

namespace Cert.KernelIdeal.Retention

open Idealize.ShloMosaic Idealize.ShloMosaic.TcCoe Idealize.SL.Sem

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## One head of one block

The block holds 512 rows of four heads of 128 columns each. Every operation below is on one head. -/

/-- The 128 columns of head `h`. -/
def cols {α : Type} (h : Fin 4) (x : S512x512.Idx → α) : S512x128.Idx → α :=
  fun j => x (ix2 (j 0) ⟨128 * h.val + (j 1).val, by have := (j 1).isLt; have := h.isLt; simp at *; omega⟩)

/-- The matrix of head `h` in a stack of four. -/
def slab {α : Type} {a b : Nat} (h : Fin 4) (x : (⟨3, ![4, a, b]⟩ : Shape).Idx → α) : (⟨2, ![a, b]⟩ : Shape).Idx → α :=
  fun j => x (ix3 h (j 0) (j 1))

/-- The rotation of a head's rows by the position angles: the row times the cosines plus the row rolled by half
    its length times the signed sines. -/
def rope (c s x : FVec F S512x128 .f32) : FVec F S512x128 .f32 :=
  addf (mulf x (k0_pay4 c)) (mulf (dynamicRotate 1 64#32 none x rotates_S512x128_d1) (k0_pay5 s))

/-- A head's key rows: rotated and scaled. -/
def keyRows (c s x : FVec F S512x128 .f32) : FVec F S512x128 .f32 :=
  mulf (rope c s x) (broadcast S512x128 (Scalar.ofBits .f32 0x3DB504F3#32))

/-- What a head's rows give: the masked products inside the block plus the products with the state before it. -/
def headOut (q k v : FVec F S512x128 .f32) (dm : FVec F S512x512 .f32) (qd : FVec F S512x128 .f32)
    (st : FVec F S128x128 .f32) : FVec F S512x128 .f32 :=
  addf
    (matmul dot_S512x512_S512x128_S512x128_1_0_0_1_n_n none
      (truncf .bf16 (mulf (matmul dot_S512x128_S512x128_S512x512_1_1_0_0_n_n none (truncf .bf16 q bitsLt_bf16_f32)
        (truncf .bf16 k bitsLt_bf16_f32) (constant S512x512 .f32 0x00000000#32)) dm) bitsLt_bf16_f32)
      (truncf .bf16 v bitsLt_bf16_f32) (constant S512x128 .f32 0x00000000#32))
    (mulf (matmul dot_S512x128_S128x128_S512x128_1_0_0_1_n_n none (truncf .bf16 q bitsLt_bf16_f32)
      (truncf .bf16 st bitsLt_bf16_f32) (constant S512x128 .f32 0x00000000#32)) qd)

/-- A head's state after the block: the state before it, decayed, plus the block's own products. -/
def headState (k v : FVec F S512x128 .f32) (kd : FVec F S512x128 .f32) (cd : FVec F S1x128 .f32)
    (st : FVec F S128x128 .f32) : FVec F S128x128 .f32 :=
  addf (mulf (broadcastTo S128x128 cd broadcasts_S1x128_S128x128) st)
    (matmul dot_S512x128_S512x128_S128x128_0_0_1_1_n_n none (truncf .bf16 (mulf k kd) bitsLt_bf16_f32)
      (truncf .bf16 v bitsLt_bf16_f32) (constant S128x128 .f32 0x00000000#32))

/-- The states of the four heads after the block. -/
def newStates (x1 x2 : FVec F S512x512 .f32) (x4 x5 : FVec F S512x128 .f32) (x8 : FVec F S4x512x128 .f32)
    (x9 : FVec F S4x1x128 .f32) (st : FVec F S4x128x128 .f32) : FVec F S4x128x128 .f32 :=
  fun y => headState (keyRows x4 x5 (cols (y 0) x1)) (cols (y 0) x2) (slab (y 0) x8) (slab (y 0) x9) (slab (y 0) st)
    (ix2 (y 1) (y 2))

/-- What head `h` of the block gives. -/
def blockHead (x0 x1 x2 : FVec F S512x512 .f32) (x4 x5 : FVec F S512x128 .f32) (x6 : FVec F S4x512x512 .f32)
    (x7 : FVec F S4x512x128 .f32) (st : FVec F S4x128x128 .f32) (h : Fin 4) : FVec F S512x128 .f32 :=
  headOut (rope x4 x5 (cols h x0)) (keyRows x4 x5 (cols h x1)) (cols h x2) (slab h x6) (slab h x7) (slab h st)

/-- What the block writes back: the four heads, each row normalised, beside each other and gated. -/
def blockOut (x3 : FVec F S512x512 .f32) (o : Fin 4 → FVec F S512x128 .f32) : FVec F S512x512 .bf16 :=
  k0_pay2 x3 (k0_pay41 (o 0)) (k0_pay41 (o 1)) (k0_pay41 (o 2)) (o 3)

/-! ## The loads and slices of the body, as heads -/

theorem slice_cols {α : Type} (h : Fin 4) (o : Nat) (ho : o = 128 * h.val) (x : S512x512.Idx → α)
    (hs : S512x512.Slices ![0, o] S512x128) : extractStridedSlice S512x128 ![0, o] x hs = cols h x := by
  subst ho
  funext j
  exact extractStridedSlice_apply _ _ _ _ _ (fun a => match a with
    | ⟨0, _⟩ => by simp
    | ⟨1, _⟩ => by simp)

theorem load_slab {α : EltTy → Type} {e : EltTy} {a b : Nat} (h : Fin 4) (o : Nat) (ho : o = h.val)
    (x : (⟨3, ![4, a, b]⟩ : Shape).Idx → α e) (inb) (hs : (⟨3, ![1, a, b]⟩ : Shape).ShapeCasts ⟨2, ![a, b]⟩) :
    shapeCast ⟨2, ![a, b]⟩ (View.ld x (Rect.unit ![o, 0, 0] ![1, a, b] inb)) hs = slab h x := by
  subst ho
  funext j
  refine (shapeCast_dropUnit_apply ![a, b] _ hs j).trans ?_
  refine congrArg x (funext fun d => Fin.ext ?_)
  match d with
  | ⟨0, _⟩ => simp [Rect.unit, Rect.toLoadRect, LoadRect.idx]; rfl
  | ⟨1, _⟩ => simp [Rect.unit, Rect.toLoadRect, LoadRect.idx]; rfl
  | ⟨2, _⟩ => simp [Rect.unit, Rect.toLoadRect, LoadRect.idx]; rfl

/-- A head's slice of the states after the block, with its leading unit axis, is the four heads' states there. -/
theorem newStates_piece (x1 x2 : FVec F S512x512 .f32) (x4 x5 : FVec F S512x128 .f32) (x8 : FVec F S4x512x128 .f32)
    (x9 : FVec F S4x1x128 .f32) (st : FVec F S4x128x128 .f32) (h : Fin 4) (o : Nat) (ho : o = h.val) (inb) (hs)
    (x : (Rect.unit (s := S4x128x128) ![o, 0, 0] ![1, 128, 128] inb).shape.Idx) :
    shapeCast S1x128x128 (headState (keyRows x4 x5 (cols h x1)) (cols h x2) (slab h x8) (slab h x9) (slab h st)) hs x
      = newStates x1 x2 x4 x5 x8 x9 st ((Rect.unit ![o, 0, 0] ![1, 128, 128] inb).emb x) := by
  subst ho
  refine (shapeCast_addUnit_apply ![128, 128] _ hs x).trans ?_
  have e0 : ((Rect.unit (s := S4x128x128) ![h.val, 0, 0] ![1, 128, 128] inb).emb x) 0 = h := by
    refine Fin.ext ?_
    have h0 : (x 0).val < 1 := (x 0).isLt
    simp [Rect.unit, Rect.emb]
    omega
  unfold newStates
  rw [e0]
  refine congrArg _ (funext fun d => Fin.ext ?_)
  match d with
  | ⟨0, _⟩ => simp [Rect.unit, Rect.emb]
  | ⟨1, _⟩ => simp [Rect.unit, Rect.emb]

/-- The four heads' stores, over any earlier ones, leave the four heads' states. -/
theorem canon_states (x1 x2 : FVec F S512x512 .f32) (x4 x5 : FVec F S512x128 .f32) (x8 : FVec F S4x512x128 .f32)
    (x9 : FVec F S4x1x128 .f32) (st : FVec F S4x128x128 .f32) (L : List (View.Piece (Elt F) S4x128x128 .f32)) :
    View.canon ([⟨Rect.unit ![3, 0, 0] ![1, 128, 128] inb_S4x128x128_S1x128x128_3_0_0, shapeCast S1x128x128 (headState (keyRows x4 x5 (cols 3 x1)) (cols 3 x2) (slab 3 x8) (slab 3 x9) (slab 3 st)) shapeCasts_S128x128_S1x128x128⟩,
      ⟨Rect.unit ![2, 0, 0] ![1, 128, 128] inb_S4x128x128_S1x128x128_2_0_0, shapeCast S1x128x128 (headState (keyRows x4 x5 (cols 2 x1)) (cols 2 x2) (slab 2 x8) (slab 2 x9) (slab 2 st)) shapeCasts_S128x128_S1x128x128⟩,
      ⟨Rect.unit ![1, 0, 0] ![1, 128, 128] inb_S4x128x128_S1x128x128_1_0_0, shapeCast S1x128x128 (headState (keyRows x4 x5 (cols 1 x1)) (cols 1 x2) (slab 1 x8) (slab 1 x9) (slab 1 st)) shapeCasts_S128x128_S1x128x128⟩,
      ⟨Rect.unit ![0, 0, 0] ![1, 128, 128] inb_S4x128x128_S1x128x128_0_0_0, shapeCast S1x128x128 (headState (keyRows x4 x5 (cols 0 x1)) (cols 0 x2) (slab 0 x8) (slab 0 x9) (slab 0 st)) shapeCasts_S128x128_S1x128x128⟩] ++ L)
      = newStates x1 x2 x4 x5 x8 x9 st := by
  funext y
  refine View.canon_append_of_piecesOf (newStates x1 x2 x4 x5 x8 x9 st) L _ ?_ y ?_
  · exact ⟨newStates_piece x1 x2 x4 x5 x8 x9 st 3 3 rfl
      inb_S4x128x128_S1x128x128_3_0_0 _, newStates_piece x1 x2 x4 x5 x8 x9 st 2 2 rfl
      inb_S4x128x128_S1x128x128_2_0_0 _,
      newStates_piece x1 x2 x4 x5 x8 x9 st 1 1 rfl
      inb_S4x128x128_S1x128x128_1_0_0 _, newStates_piece x1 x2 x4 x5 x8 x9 st 0 0 rfl
      inb_S4x128x128_S1x128x128_0_0_0 _, trivial⟩
  · exact View.cover_of_tiledL (s := S4x128x128) _ S1x128x128.size (by sl_kernel_rfl) y

/-- A point that goes on from the one before writes back its four heads, normalised and gated. -/
theorem out_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512x512 .f32) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x128 .f32) (harg10 : arg10.IsWhole) (arg11 : Memref sig .tc .vmem S512x512 .bf16) (harg11 : arg11.IsWhole) (arg12 : Memref sig .tc .vmem S4x128x128 .f32) (harg12 : arg12.IsWhole) (hc0 : ¬cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x512x512 .f32) (x7 : Vec F S4x512x128 .f32) (x8 : Vec F S4x512x128 .f32) (x9 : Vec F S4x1x128 .f32) (xs0 : Vec F S4x128x128 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0
      = blockOut x3 (blockHead x0 x1 x2 x4 x5 x6 x7 xs0) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S512x512) hz2, View.ld_unit_zero (S := S512x128) hz2]
  rw [View.canon_unit_zero hz2]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay41, slice_cols 0 0 rfl, slice_cols 1 128 rfl,
    slice_cols 2 256 rfl, slice_cols 3 384 rfl, load_slab 0 0 rfl, load_slab 1 1 rfl, load_slab 2 2 rfl, load_slab 3 3 rfl]
  rfl

/-- A point that goes on from the one before leaves the four heads' states after the block. -/
theorem state_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512x512 .f32) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x128 .f32) (harg10 : arg10.IsWhole) (arg11 : Memref sig .tc .vmem S512x512 .bf16) (harg11 : arg11.IsWhole) (arg12 : Memref sig .tc .vmem S4x128x128 .f32) (harg12 : arg12.IsWhole) (hc0 : ¬cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x512x512 .f32) (x7 : Vec F S4x512x128 .f32) (x8 : Vec F S4x512x128 .f32) (x9 : Vec F S4x1x128 .f32) (xs0 : Vec F S4x128x128 .f32) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0
      = newStates x1 x2 x4 x5 x8 x9 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S512x512) hz2, View.ld_unit_zero (S := S512x128) hz2]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay41, slice_cols 0 0 rfl, slice_cols 1 128 rfl,
    slice_cols 2 256 rfl, slice_cols 3 384 rfl, load_slab 0 0 rfl, load_slab 1 1 rfl, load_slab 2 2 rfl, load_slab 3 3 rfl]
  exact canon_states x1 x2 x4 x5 x8 x9 xs0 []

/-- A point that starts afresh, from a zero state, writes back its four heads, normalised and gated. -/
theorem out_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512x512 .f32) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x128 .f32) (harg10 : arg10.IsWhole) (arg11 : Memref sig .tc .vmem S512x512 .bf16) (harg11 : arg11.IsWhole) (arg12 : Memref sig .tc .vmem S4x128x128 .f32) (harg12 : arg12.IsWhole) (hc0 : cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x512x512 .f32) (x7 : Vec F S4x512x128 .f32) (x8 : Vec F S4x512x128 .f32) (x9 : Vec F S4x1x128 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9
      = blockOut x3 (blockHead x0 x1 x2 x4 x5 x6 x7 k0_pay3) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S512x512) hz2, View.ld_unit_zero (S := S512x128) hz2]
  rw [View.canon_unit_zero hz2]
  simp only [View.readCov_fill arg12.view inb_S4x128x128_S4x128x128_0_0_0 _ _ _ (fun a => congrFun hz3 a)]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay41, slice_cols 0 0 rfl, slice_cols 1 128 rfl,
    slice_cols 2 256 rfl, slice_cols 3 384 rfl, load_slab 0 0 rfl, load_slab 1 1 rfl, load_slab 2 2 rfl, load_slab 3 3 rfl]
  rfl

/-- A point that starts afresh, from a zero state, leaves the four heads' states after the block. -/
theorem state_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512x512 .f32) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x1x128 .f32) (harg10 : arg10.IsWhole) (arg11 : Memref sig .tc .vmem S512x512 .bf16) (harg11 : arg11.IsWhole) (arg12 : Memref sig .tc .vmem S4x128x128 .f32) (harg12 : arg12.IsWhole) (hc0 : cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x512x512 .f32) (x7 : Vec F S4x512x128 .f32) (x8 : Vec F S4x512x128 .f32) (x9 : Vec F S4x1x128 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9
      = newStates x1 x2 x4 x5 x8 x9 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S512x512) hz2, View.ld_unit_zero (S := S512x128) hz2]
  simp (discharger := decide) only [↓View.readCov_skip]
  simp only [View.readCov_fill arg12.view inb_S4x128x128_S4x128x128_0_0_0 _ _ _ (fun a => congrFun hz3 a)]
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay41, slice_cols 0 0 rfl, slice_cols 1 128 rfl,
    slice_cols 2 256 rfl, slice_cols 3 384 rfl, load_slab 0 0 rfl, load_slab 1 1 rfl, load_slab 2 2 rfl, load_slab 3 3 rfl]
  exact canon_states x1 x2 x4 x5 x8 x9 k0_pay3 [_]

end Cert.KernelIdeal.Retention
-- ==== Proof.RetMath.lean ====
/-
  Retention over the real numbers, for one head. `q`, `k`, `v` are the head's rows by token, `L` the logarithm of the
  head's decay. The recurrent form walks the tokens in chunks of `C` rows and carries a state between chunks; both
  programs compute it, with different `C`. Here the state and the outputs of the recurrent form are shown to be the
  sums over all earlier tokens that define retention, which do not mention `C`.
-/
module

public import Idealize.ShloMosaic.PureOps.Ideal

@[expose] public section

noncomputable section

namespace Retention

open Finset

/-- The decay over `n` steps: `exp (n · L)`. -/
def decay (L n : ℝ) : ℝ := Real.exp (n * L)

theorem decay_mul (L a b : ℝ) : decay L a * decay L b = decay L (a + b) := by
  unfold decay; rw [← Real.exp_add]; ring_nf

variable (q k v : ℕ → ℕ → ℝ) (L : ℝ)

/-- What the tokens before `n` leave for the next one: the decayed sum of the products of their keys and values. -/
def state (n d e : ℕ) : ℝ := ∑ s ∈ range n, decay L ((n : ℝ) - 1 - s) * (k s d * v s e)

/-- Retention's output at token `t`: every token up to `t` contributes its value, weighted by the product of its key
    with the query and decayed by its distance. -/
def out (t e : ℕ) : ℝ :=
  ∑ s ∈ range (t + 1), decay L ((t : ℝ) - s) * (∑ d ∈ range 128, q t d * k s d) * v s e

theorem state_zero (d e : ℕ) : state k v L 0 d e = 0 := by simp [state]

/-- One chunk's update of the state: the old state decayed over the chunk, plus the chunk's own tokens. -/
theorem state_add (n C d e : ℕ) :
    state k v L (n + C) d e
      = decay L C * state k v L n d e
        + ∑ m ∈ range C, k (n + m) d * decay L ((C : ℝ) - 1 - m) * v (n + m) e := by
  unfold state
  rw [sum_range_add, mul_sum]
  congr 1
  · refine sum_congr rfl fun s _ => ?_
    have : decay L (((n + C : ℕ) : ℝ) - 1 - s) = decay L C * decay L ((n : ℝ) - 1 - s) := by
      rw [decay_mul]; congr 1; push_cast; ring
    rw [this]; ring
  · refine sum_congr rfl fun m _ => ?_
    have : ((n + C : ℕ) : ℝ) - 1 - ((n + m : ℕ) : ℝ) = (C : ℝ) - 1 - m := by push_cast; ring
    rw [this]; ring

/-- The decay matrix of a chunk: row `r` sees column `m` when `m ≤ r`. -/
def mask (r m : ℕ) : ℝ := if m ≤ r then decay L ((r : ℝ) - m) else 0

/-- The output at row `r` of the chunk that starts at token `n`: the chunk's own tokens through the decay matrix, and
    all earlier ones through the state. -/
theorem out_add (n C r e : ℕ) (hr : r < C) :
    out q k v L (n + r) e
      = (∑ m ∈ range C, (∑ d ∈ range 128, q (n + r) d * k (n + m) d) * mask L r m * v (n + m) e)
        + (∑ d ∈ range 128, q (n + r) d * state k v L n d e) * decay L ((r : ℝ) + 1) := by
  unfold out
  rw [show n + r + 1 = n + (r + 1) by omega, sum_range_add, add_comm]
  congr 1
  · rw [show C = (r + 1) + (C - (r + 1)) by omega, sum_range_add _ (r + 1)]
    rw [sum_eq_zero (s := range (C - (r + 1)))]
    · rw [add_zero]
      refine sum_congr rfl fun m hm => ?_
      have hm' : m ≤ r := by have := mem_range.mp hm; omega
      rw [mask, if_pos hm']
      have : ((n + r : ℕ) : ℝ) - ((n + m : ℕ) : ℝ) = (r : ℝ) - m := by push_cast; ring
      rw [this]; ring
    · intro m _
      rw [mask, if_neg (by omega)]; ring
  · unfold state
    rw [sum_mul]
    simp only [mul_sum, sum_mul]
    rw [sum_comm]
    refine sum_congr rfl fun d _ => sum_congr rfl fun s _ => ?_
    have : decay L (((n + r : ℕ) : ℝ) - s) = decay L ((n : ℝ) - 1 - s) * decay L ((r : ℝ) + 1) := by
      rw [decay_mul]; congr 1; push_cast; ring
    rw [this]; ring

end Retention
-- ==== Proof.Words.lean ====
/-
  The scalars both programs make their tables from, read as real numbers: position and head numbers, the literals, the
  logarithm of a head's decay, and the decays and angles themselves.
-/
module

public import proofs.«01_k».proof.Proof.RetMath

@[expose] public section

noncomputable section

namespace Retention

open Idealize.ShloMosaic

/-- A number below 2³¹, held in a 32-bit word and converted to a float, is that number. -/
theorem word_nat (n : ℕ) (h : n < 2 ^ 31) :
    (FloatOps.sitofp .f32 (BitVec.ofNat 32 n) : Ideal .f32) = ((n : ℝ) : EReal) := by
  show (((BitVec.ofNat 32 n).toInt : ℝ) : EReal) = _
  have : (BitVec.ofNat 32 n).toInt = (n : ℤ) := by
    rw [BitVec.toInt_eq_toNat_of_lt] <;> rw [BitVec.toNat_ofNat, Nat.mod_eq_of_lt (by omega)]
    omega
  rw [this]; norm_cast

theorem lit_2 : Ideal.ofBits .f32 0x40000000#32 = ((2 : ℝ) : EReal) := by
  simp [Ideal.ofBits, Ideal.ieee, -EReal.coe_mul]; norm_num
theorem lit_neg5 : Ideal.ofBits .f32 0xC0A00000#32 = ((-5 : ℝ) : EReal) := by
  simp [Ideal.ofBits, Ideal.ieee, -EReal.coe_mul]; norm_num
theorem lit_511 : Ideal.ofBits .f32 0x43FF8000#32 = ((511 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num

/-- The scale of the keys: the float nearest 128^(-1/2). -/
def scale : ℝ := (Ideal.ofBits .f32 0x3DB504F3#32).toReal

theorem lit_scale : Ideal.ofBits .f32 0x3DB504F3#32 = ((scale : ℝ) : EReal) := by
  unfold scale
  simp [Ideal.ofBits, Ideal.ieee, -EReal.coe_mul]

/-- The logarithm of head `h`'s decay, `log (1 - 2^(-5-h))`. -/
def logDecay (h : ℕ) : ℝ := Real.log (1 - (2 : ℝ) ^ ((-5 : ℝ) - h))

theorem word_logDecay (h : ℕ) (hh : h < 2 ^ 31) :
    Ideal.log (1 - Ideal.pow (Ideal.ofBits .f32 0x40000000#32)
      (Ideal.ofBits .f32 0xC0A00000#32 - (FloatOps.sitofp .f32 (BitVec.ofNat 32 h) : Ideal .f32))) = ((logDecay h : ℝ) : EReal) := by
  rw [lit_2, lit_neg5, word_nat h hh, ← EReal.coe_sub, Ideal.pow_coe_coe, ← EReal.coe_one, ← EReal.coe_sub,
    Ideal.log_coe, if_neg]
  · rfl
  · have : (2 : ℝ) ^ ((-5 : ℝ) - h) < 1 :=
      Real.rpow_lt_one_of_one_lt_of_neg (by norm_num) (by have : (0 : ℝ) ≤ h := Nat.cast_nonneg h; linarith)
    exact not_le.mpr (by have h2 : Real.rpow 2 ((-5 : ℝ) - h) = (2 : ℝ) ^ ((-5 : ℝ) - h) := rfl
                         rw [h2]; linarith)

/-- A decay over `n` steps, as the programs compute it. -/
theorem word_decay (n : ℝ) (h : ℕ) :
    Ideal.exp ((n : EReal) * ((logDecay h : ℝ) : EReal)) = ((decay (logDecay h) n : ℝ) : EReal) := by
  rw [← EReal.coe_mul, Ideal.exp_coe]; rfl

/-- The decay matrix at row `r` and column `k`, as the programs compute it. -/
theorem word_mask (r k h : ℕ) (hr : r < 2 ^ 31) (hk : k < 2 ^ 31) :
    (if (0 : EReal) ≤ (FloatOps.sitofp .f32 (BitVec.ofNat 32 r) : Ideal .f32) - (FloatOps.sitofp .f32 (BitVec.ofNat 32 k) : Ideal .f32) then
      Ideal.exp (max ((FloatOps.sitofp .f32 (BitVec.ofNat 32 r) : Ideal .f32) - (FloatOps.sitofp .f32 (BitVec.ofNat 32 k) : Ideal .f32)) 0
        * ((logDecay h : ℝ) : EReal))
     else 0) = ((mask (logDecay h) r k : ℝ) : EReal) := by
  rw [word_nat r hr, word_nat k hk, ← EReal.coe_sub]
  unfold mask
  by_cases hle : k ≤ r
  · have h0 : (0 : ℝ) ≤ (r : ℝ) - k := sub_nonneg.mpr (by exact_mod_cast hle)
    rw [if_pos hle, if_pos (by exact_mod_cast h0), max_eq_left (by exact_mod_cast h0), word_decay]
  · have h0 : ¬ (0 : ℝ) ≤ (r : ℝ) - k := by
      have : (r : ℝ) < k := by exact_mod_cast not_le.mp hle
      intro hc; linarith
    rw [if_neg hle, if_neg (by exact_mod_cast h0), EReal.coe_zero]

/-- The angle of token `t` in the column pair `j`. -/
def angle (t j : ℕ) : ℝ := (t : ℝ) * (10000 : ℝ) ^ (-(j : ℝ) / 64)

/-- The angle of token `t` in the column pair `j`, as the programs compute it. -/
theorem word_angle (t j : ℕ) (ht : t < 2 ^ 31) (hj : j < 2 ^ 31) :
    (FloatOps.sitofp .f32 (BitVec.ofNat 32 t) : Ideal .f32) * Ideal.pow (Ideal.ofBits .f32 0x461C4000#32)
      (Ideal.div (-(FloatOps.sitofp .f32 (BitVec.ofNat 32 j) : Ideal .f32)) (Ideal.ofBits .f32 0x42800000#32)) = ((angle t j : ℝ) : EReal) := by
  rw [lit_10000, lit_64, word_nat t ht, word_nat j hj, Ideal.div_coe (by norm_num), ← EReal.coe_neg, ← EReal.coe_mul,
    Ideal.pow_coe_coe, ← EReal.coe_mul]
  unfold angle
  rw [show -(j : ℝ) / 64 = -(j : ℝ) * (1 / 64) by ring]
  rfl

end Retention
-- ==== Proof.Spec.lean ====
/-
  What the retention of this layer computes, from the rows of its argument: column `128 * h + d` of the first, second
  and third 512 columns is coordinate `d` of head `h`'s query, key and value, and the fourth 512 columns are the gate.
  The rows here are real numbers, numbered by naturals.
-/
module

public import proofs.«01_k».proof.Proof.Words

@[expose] public section

noncomputable section

namespace Retention

open Idealize.ShloMosaic

/-- A sum of real numbers, added as extended reals, is their sum. -/
theorem sum_coe {n : ℕ} (f : Fin n → ℝ) : ∑ x, (f x : EReal) = ((∑ x, f x : ℝ) : EReal) := by
  induction n with
  | zero => simp
  | succ n ih => rw [Fin.sum_univ_succ, Fin.sum_univ_succ, ih, EReal.coe_add]

/-- A row of a head turned by its token's angles: coordinates `d` and `d + 64` are a pair. -/
def turn (f : ℕ → ℝ) (t d : ℕ) : ℝ :=
  if d < 64 then f d * Real.cos (angle t (d % 64)) - f (d + 64) * Real.sin (angle t (d % 64))
  else f (d - 64) * Real.sin (angle t (d % 64)) + f d * Real.cos (angle t (d % 64))

variable (p : ℕ → ℕ → ℝ) (h : ℕ)

/-- Head `h`'s queries. -/
def qRow (t d : ℕ) : ℝ := turn (fun d => p t (128 * h + d)) t d
/-- Head `h`'s keys. -/
def kRow (t d : ℕ) : ℝ := turn (fun d => p t (512 + (128 * h + d))) t d * scale
/-- Head `h`'s values. -/
def vRow (t e : ℕ) : ℝ := p t (1024 + (128 * h + e))

/-- Head `h`'s output row at token `t`. -/
def headRow (t e : ℕ) : ℝ := out (qRow p h) (kRow p h) (vRow p h) (logDecay h) t e

/-- Head `h`'s state before token `t`. -/
def headSum (t d e : ℕ) : ℝ := state (kRow p h) (vRow p h) (logDecay h) t d e

/-- A row divided by the root of its mean square. -/
def normed (f : ℕ → ℝ) (e : ℕ) : EReal :=
  (f e : EReal) * Ideal.rsqrt (Ideal.div (∑ x : Fin 128, (f x.val : EReal) * (f x.val : EReal))
    (Ideal.ofBits .f32 0x43000000#32) + Ideal.ofBits .f32 0x358637BD#32)

/-- A gate times its logistic. -/
def silu (g : EReal) : EReal := g * Ideal.logistic g

end Retention
-- ==== Proof.Head.lean ====
/-
  One block of the kernel's program over the real numbers. When the block's rows are the rows `n, …, n + 511` of the
  argument, its tables are the decays and angles of those rows, and the state it is given is the sum over the tokens
  before `n`, then each head's rows are the retention's rows and the state it leaves is the sum over the tokens before
  `n + 512`.
-/
module

public import proofs.«01_k».proof.Proof.Block
public import proofs.«01_k».proof.Proof.Spec
public import Idealize.ShloMosaic.Lib.Pointwise

@[expose] public section

set_option maxRecDepth 16384

noncomputable section

namespace Cert.KernelIdeal.Retention

open Idealize.ShloMosaic Idealize.ShloMosaic.TcCoe Idealize.SL.Sem
open Cert.KernelIdeal Cert.KernelIdeal.Gen
open _root_.Retention

/-- The rotated rows: rolling by half a row and signing the sines is turning each pair. -/
theorem rope_at (f : ℕ → ℕ → ℝ) (n : ℕ) (c s x : FVec Ideal S512x128 .f32)
    (hc : ∀ (r : Fin 512) (d : Fin 128), c (ix2 r d) = ((Real.cos (angle (n + r.val) (d.val % 64)) : ℝ) : EReal))
    (hs : ∀ (r : Fin 512) (d : Fin 128), s (ix2 r d) = (((if d.val < 64 then -Real.sin (angle (n + r.val) (d.val % 64))
      else Real.sin (angle (n + r.val) (d.val % 64))) : ℝ) : EReal))
    (hx : ∀ (r : Fin 512) (d : Fin 128), x (ix2 r d) = ((f (n + r.val) d.val : ℝ) : EReal)) (r : Fin 512) (e : Fin 128) :
    rope c s x (ix2 r e) = ((turn (f (n + r.val)) (n + r.val) e.val : ℝ) : EReal) := by
  have he := e.isLt
  unfold rope k0_pay4 k0_pay5
  pointwise
  rw [hx, hx, hc, hs, ← EReal.coe_mul, ← EReal.coe_mul, ← EReal.coe_add]
  congr 1
  unfold turn
  by_cases h : e.val < 64
  · rw [if_pos h, if_pos h]
    simp only [show (e.val + 128 - 64) % 128 = e.val + 64 by omega]
    ring
  · rw [if_neg h, if_neg h]
    simp only [show (e.val + 128 - 64) % 128 = e.val - 64 by omega]
    ring

/-- A head's output rows are the retention's. -/
theorem headOut_at (q k v : ℕ → ℕ → ℝ) (L : ℝ) (n : ℕ) (Q K V : FVec Ideal S512x128 .f32) (dm : FVec Ideal S512x512 .f32)
    (qd : FVec Ideal S512x128 .f32) (st : FVec Ideal S128x128 .f32)
    (hQ : ∀ (r : Fin 512) (d : Fin 128), Q (ix2 r d) = ((q (n + r.val) d.val : ℝ) : EReal))
    (hK : ∀ (r : Fin 512) (d : Fin 128), K (ix2 r d) = ((k (n + r.val) d.val : ℝ) : EReal))
    (hV : ∀ (r : Fin 512) (d : Fin 128), V (ix2 r d) = ((v (n + r.val) d.val : ℝ) : EReal))
    (hdm : ∀ r m : Fin 512, dm (ix2 r m) = ((mask L r.val m.val : ℝ) : EReal))
    (hqd : ∀ (r : Fin 512) (d : Fin 128), qd (ix2 r d) = ((decay L ((r.val : ℝ) + 1) : ℝ) : EReal))
    (hst : ∀ d e : Fin 128, st (ix2 d e) = ((state k v L n d.val e.val : ℝ) : EReal)) (r : Fin 512) (e : Fin 128) :
    headOut Q K V dm qd st (ix2 r e) = ((out q k v L (n + r.val) e.val : ℝ) : EReal) := by
  unfold headOut
  pointwise
  simp only [hQ, hK, hV, hdm, hqd, hst, ← EReal.coe_mul, sum_coe, ← EReal.coe_add]
  rw [out_add q k v L n 512 r.val e.val r.isLt]
  simp only [Finset.sum_range]

/-- A head's state after the block is the sum over the tokens before the block's end. -/
theorem headState_at (k v : ℕ → ℕ → ℝ) (L : ℝ) (n : ℕ) (K V kd : FVec Ideal S512x128 .f32) (cd : FVec Ideal S1x128 .f32)
    (st : FVec Ideal S128x128 .f32)
    (hK : ∀ (r : Fin 512) (d : Fin 128), K (ix2 r d) = ((k (n + r.val) d.val : ℝ) : EReal))
    (hV : ∀ (r : Fin 512) (d : Fin 128), V (ix2 r d) = ((v (n + r.val) d.val : ℝ) : EReal))
    (hkd : ∀ (r : Fin 512) (d : Fin 128), kd (ix2 r d) = ((decay L ((512 : ℝ) - 1 - r.val) : ℝ) : EReal))
    (hcd : ∀ (r : Fin 1) (d : Fin 128), cd (ix2 r d) = ((decay L 512 : ℝ) : EReal))
    (hst : ∀ d e : Fin 128, st (ix2 d e) = ((state k v L n d.val e.val : ℝ) : EReal)) (d e : Fin 128) :
    headState K V kd cd st (ix2 d e) = ((state k v L (n + 512) d.val e.val : ℝ) : EReal) := by
  unfold headState
  pointwise
  simp only [hK, hV, hkd, hcd, hst, ← EReal.coe_mul, sum_coe, ← EReal.coe_add]
  rw [state_add k v L n 512 d.val e.val]
  simp only [Finset.sum_range, Nat.cast_ofNat]

/-- A row divided by the root of its mean square, as the block computes it. -/
theorem norm_at (f : ℕ → ℕ → ℝ) (o : FVec Ideal S512x128 .f32)
    (ho : ∀ (r : Fin 512) (d : Fin 128), o (ix2 r d) = ((f r.val d.val : ℝ) : EReal)) (r : Fin 512) (e : Fin 128) :
    k0_pay41 o (ix2 r e) = normed (f r.val) e.val := by
  unfold k0_pay41
  pointwise
  simp only [ho]
  rfl

/-- What the block writes: the gate's silu times the normalised row of the column's head. -/
theorem blockOut_at (f : ℕ → ℕ → ℕ → ℝ) (g : FVec Ideal S512x512 .f32) (o : Fin 4 → FVec Ideal S512x128 .f32)
    (ho : ∀ (h : Fin 4) (r : Fin 512) (d : Fin 128), o h (ix2 r d) = ((f h.val r.val d.val : ℝ) : EReal)) (r c : Fin 512) :
    blockOut g o (ix2 r c) = silu (g (ix2 r c)) * normed (f (c.val / 128) r.val) (c.val % 128) := by
  have hc := c.isLt
  unfold blockOut k0_pay2
  pointwise
  unfold silu
  congr 1
  split
  · rename_i h
    rw [norm_at (f 0) (o 0) (ho 0), show c.val / 128 = 0 by omega, show c.val % 128 = c.val by omega]
  · split
    · rename_i h1 h
      rw [norm_at (f 1) (o 1) (ho 1), show c.val / 128 = 1 by omega, show c.val % 128 = c.val - 128 by omega]
    · split
      · rename_i h2 h1 h
        rw [norm_at (f 2) (o 2) (ho 2), show c.val / 128 = 2 by omega, show c.val % 128 = c.val - 128 - 128 by omega]
      · rename_i h3 h2 h1
        simp only [ho 3]
        rw [show c.val / 128 = 3 by omega, show c.val % 128 = c.val - 128 - 128 - 128 by omega]
        rfl

variable (p : ℕ → ℕ → ℝ) (n : ℕ)

/-- What the block is given: its rows of the argument and its tables. -/
structure Given (x0 x1 x2 : FVec Ideal S512x512 .f32) (x4 x5 : FVec Ideal S512x128 .f32) (x6 : FVec Ideal S4x512x512 .f32)
    (x7 x8 : FVec Ideal S4x512x128 .f32) (x9 : FVec Ideal S4x1x128 .f32) : Prop where
  q : ∀ r c : Fin 512, x0 (ix2 r c) = ((p (n + r.val) c.val : ℝ) : EReal)
  k : ∀ r c : Fin 512, x1 (ix2 r c) = ((p (n + r.val) (512 + c.val) : ℝ) : EReal)
  v : ∀ r c : Fin 512, x2 (ix2 r c) = ((p (n + r.val) (1024 + c.val) : ℝ) : EReal)
  cos : ∀ (r : Fin 512) (d : Fin 128), x4 (ix2 r d) = ((Real.cos (angle (n + r.val) (d.val % 64)) : ℝ) : EReal)
  sin : ∀ (r : Fin 512) (d : Fin 128), x5 (ix2 r d) = (((if d.val < 64 then -Real.sin (angle (n + r.val) (d.val % 64))
      else Real.sin (angle (n + r.val) (d.val % 64))) : ℝ) : EReal)
  mask : ∀ (h : Fin 4) (r m : Fin 512), x6 (ix3 h r m) = ((_root_.Retention.mask (logDecay h.val) r.val m.val : ℝ) : EReal)
  rowDecay : ∀ (h : Fin 4) (r : Fin 512) (d : Fin 128), x7 (ix3 h r d) = ((decay (logDecay h.val) ((r.val : ℝ) + 1) : ℝ) : EReal)
  keyDecay : ∀ (h : Fin 4) (r : Fin 512) (d : Fin 128), x8 (ix3 h r d) = ((decay (logDecay h.val) ((512 : ℝ) - 1 - r.val) : ℝ) : EReal)
  blockDecay : ∀ (h : Fin 4) (r : Fin 1) (d : Fin 128), x9 (ix3 h r d) = ((decay (logDecay h.val) 512 : ℝ) : EReal)

variable {p n} {x0 x1 x2 : FVec Ideal S512x512 .f32} {x4 x5 : FVec Ideal S512x128 .f32} {x6 : FVec Ideal S4x512x512 .f32}
    {x7 x8 : FVec Ideal S4x512x128 .f32} {x9 : FVec Ideal S4x1x128 .f32} {st : FVec Ideal S4x128x128 .f32}

theorem Given.queries (G : Given p n x0 x1 x2 x4 x5 x6 x7 x8 x9) (h : Fin 4) (r : Fin 512) (d : Fin 128) :
    rope x4 x5 (cols h x0) (ix2 r d) = ((qRow p h.val (n + r.val) d.val : ℝ) : EReal) :=
  rope_at (fun t d => p t (128 * h.val + d)) n x4 x5 _ G.cos G.sin (fun r d => G.q r _) r d

theorem Given.keys (G : Given p n x0 x1 x2 x4 x5 x6 x7 x8 x9) (h : Fin 4) (r : Fin 512) (d : Fin 128) :
    keyRows x4 x5 (cols h x1) (ix2 r d) = ((kRow p h.val (n + r.val) d.val : ℝ) : EReal) := by
  unfold keyRows
  pointwise
  rw [rope_at (fun t d => p t (512 + (128 * h.val + d))) n x4 x5 _ G.cos G.sin (fun r d => G.k r _) r d, lit_scale,
    ← EReal.coe_mul]
  rfl

theorem Given.values (G : Given p n x0 x1 x2 x4 x5 x6 x7 x8 x9) (h : Fin 4) (r : Fin 512) (d : Fin 128) :
    cols h x2 (ix2 r d) = ((vRow p h.val (n + r.val) d.val : ℝ) : EReal) := G.v r _

/-- A block that is given the sums over the tokens before it computes the retention's rows. -/
theorem Given.head (G : Given p n x0 x1 x2 x4 x5 x6 x7 x8 x9)
    (hst : ∀ (h : Fin 4) (d e : Fin 128), st (ix3 h d e) = ((headSum p h.val n d.val e.val : ℝ) : EReal))
    (h : Fin 4) (r : Fin 512) (e : Fin 128) :
    blockHead x0 x1 x2 x4 x5 x6 x7 st h (ix2 r e) = ((headRow p h.val (n + r.val) e.val : ℝ) : EReal) :=
  headOut_at _ _ _ _ n _ _ _ _ _ _ (G.queries h) (G.keys h) (G.values h) (fun r m => G.mask h r m)
    (fun r d => G.rowDecay h r d) (fun d e => hst h d e) r e

/-- A block that is given the sums over the tokens before it leaves those over the tokens before its end. -/
theorem Given.states (G : Given p n x0 x1 x2 x4 x5 x6 x7 x8 x9)
    (hst : ∀ (h : Fin 4) (d e : Fin 128), st (ix3 h d e) = ((headSum p h.val n d.val e.val : ℝ) : EReal))
    (h : Fin 4) (d e : Fin 128) :
    newStates x1 x2 x4 x5 x8 x9 st (ix3 h d e) = ((headSum p h.val (n + 512) d.val e.val : ℝ) : EReal) :=
  headState_at _ _ _ n _ _ _ _ _ (G.keys h) (G.values h) (fun r d => G.keyDecay h r d)
    (fun r d => G.blockDecay h r d) (fun d e => hst h d e) d e

/-- Before the first token the sums are zero, and so is the state a block starts afresh from. -/
theorem zero_states (h : Fin 4) (d e : Fin 128) :
    (k0_pay3 : FVec Ideal S4x128x128 .f32) (ix3 h d e) = ((headSum p h.val 0 d.val e.val : ℝ) : EReal) := by
  unfold k0_pay3 headSum
  rw [state_zero]
  pointwise
  simp

end Cert.KernelIdeal.Retention
-- ==== Proof.Tables.lean ====
/-
  The tables the kernel's program makes before the call, at an index: the cosines and signed sines of the position
  angles, and each head's decay matrix, row decays, key decays and block decay.
-/
module

public import proofs.«01_k».proof.Proof.Gen.KernelIdeal.Value
public import proofs.«01_k».proof.Proof.Words
public import Idealize.ShloMosaic.Lib.StableHlo.ReadAt
public import Idealize.ShloMosaic.Lib.Pointwise
public import Idealize.ShloMosaic.Lib.Tactic

@[expose] public section

set_option maxRecDepth 16384

noncomputable section

namespace Cert.KernelIdeal.Retention

open Idealize.ShloMosaic Idealize.ShloMosaic.TcCoe Idealize.SL.Sem
open Cert.KernelIdeal Cert.KernelIdeal.Gen
open _root_.Retention

variable (m : ∀ ℓ : Loc nD τ sig, Buf (Elt Ideal) ℓ) (c : Dev nD)

/-- The argument is not written before the call. -/
theorem arg_at (t : Fin 8192) (d : Fin 6912) :
    V m c main_arg0 (ix2 t d) = m ((c : Thread nD τ).loc main_arg0) (ix2 t d) := by
  unfold V
  after_reads_at

/-- The cosine table: both halves of a row hold the cosines of the token's angles. -/
theorem cos_at (t : Fin 8192) (d : Fin 128) :
    V m c main_v18 (ix2 t d) = ((Real.cos (angle t.val (d.val % 64)) : ℝ) : EReal) := by
  have ht := t.isLt
  have hd := d.isLt
  unfold V
  after_reads_at
  split
  · after_reads_at
    refine (congrArg Ideal.cos (word_angle t.val d.val (by omega) (by omega))).trans ?_
    rw [Ideal.cos_coe, Nat.mod_eq_of_lt (by omega)]
  · after_reads_at
    refine (congrArg Ideal.cos (word_angle t.val (d.val - 64) (by omega) (by omega))).trans ?_
    rw [Ideal.cos_coe, show d.val % 64 = d.val - 64 by omega]

/-- The sine table: the first half of a row holds the negated sines, the second half the sines. -/
theorem sin_at (t : Fin 8192) (d : Fin 128) :
    V m c main_v23 (ix2 t d)
      = (((if d.val < 64 then -Real.sin (angle t.val (d.val % 64)) else Real.sin (angle t.val (d.val % 64))) : ℝ) : EReal) := by
  have ht := t.isLt
  have hd := d.isLt
  unfold V
  after_reads_at
  split
  · rename_i h
    after_reads_at
    refine (congrArg (fun x => -Ideal.sin x) (word_angle t.val d.val (by omega) (by omega))).trans ?_
    simp only [Ideal.sin_coe, if_pos h, Nat.mod_eq_of_lt h, EReal.coe_neg]
  · rename_i h
    after_reads_at
    refine (congrArg Ideal.sin (word_angle t.val (d.val - 64) (by omega) (by omega))).trans ?_
    simp only [Ideal.sin_coe, if_neg h, show d.val % 64 = d.val - 64 by omega]

/-- The decay matrix. -/
theorem mask_at (h : Fin 4) (r k : Fin 512) :
    V m c main_v48 (ix3 h r k) = ((mask (logDecay h.val) r.val k.val : ℝ) : EReal) := by
  have hh := h.isLt
  have hr := r.isLt
  have hk := k.isLt
  unfold V
  after_reads_at
  rw [word_logDecay h.val (by omega), ← word_mask r.val k.val h.val (by omega) (by omega)]
  simp [constant, Scalar.ofBits]

/-- The decay of the state at a row. -/
theorem rowDecay_at (h : Fin 4) (r : Fin 512) (d : Fin 128) :
    V m c main_v59 (ix3 h r d) = ((decay (logDecay h.val) ((r.val : ℝ) + 1) : ℝ) : EReal) := by
  have hh := h.isLt
  have hr := r.isLt
  unfold V
  after_reads_at
  rw [word_logDecay h.val (by omega), word_nat r.val (by omega), ← EReal.coe_one, ← EReal.coe_add, word_decay]

/-- The decay of a key until the block's end. -/
theorem keyDecay_at (h : Fin 4) (r : Fin 512) (d : Fin 128) :
    V m c main_v69 (ix3 h r d) = ((decay (logDecay h.val) ((512 : ℝ) - 1 - r.val) : ℝ) : EReal) := by
  have hh := h.isLt
  have hr := r.isLt
  unfold V
  after_reads_at
  rw [word_logDecay h.val (by omega), word_nat r.val (by omega), lit_511, ← EReal.coe_sub, word_decay]
  norm_num

/-- The decay over a block. -/
theorem blockDecay_at (h : Fin 4) (r : Fin 1) (d : Fin 128) :
    V m c main_v75 (ix3 h r d) = ((decay (logDecay h.val) 512 : ℝ) : EReal) := by
  have hh := h.isLt
  unfold V
  after_reads_at
  rw [word_logDecay h.val (by omega), lit_512, word_decay]

end Cert.KernelIdeal.Retention
-- ==== Proof.Fold.lean ====
/-
  The kernel's program run over its sixteen blocks. Each block reads its 512 rows of the argument and its rows of the
  tables. Going from block to block, the four heads' states are the sums over all tokens before the block, so every
  block's rows are the retention's rows.
-/
module

public import proofs.«01_k».proof.Proof.Head
public import proofs.«01_k».proof.Proof.Tables
public import Idealize.ShloMosaic.Lib.Pipeline.Value

@[expose] public section

set_option maxRecDepth 16384

noncomputable section

namespace Cert.KernelIdeal.Retention

open Idealize.ShloMosaic Idealize.ShloMosaic.TcCoe Idealize.SL.Sem
open Cert.KernelIdeal Cert.KernelIdeal.Gen Cert.KernelIdeal.Value
open _root_.Retention

variable (m : ∀ ℓ : Loc nD τ sig, Buf (Elt Ideal) ℓ) (c : Dev nD)

/-- The argument's words. -/
abbrev argument : S8192x6912.Idx → EReal := m ((c : Thread nD τ).loc main_arg0)

/-- The row of block `t`'s place `r`. -/
abbrev row (t : Fin cfg0.N) (r : Fin 512) : Fin 8192 :=
  ⟨512 * t.val + r.val, by have h := lt_of_lt_of_eq t.isLt N_0; omega⟩

theorem place_0 : ∀ t : Fin cfg0.N, win0_0.index t (0 : Fin 2) = t.val ∧ win0_0.index t (1 : Fin 2) = 0 :=
  (by decide +kernel : ∀ t : Fin grid0.N, _)

/-- Block `t` of the argument's columns from 0. -/
theorem block_0 (t : Fin cfg0.N) (r k : Fin 512) :
    X0_0 m c t (ix2 r k) = argument m c (ix2 (row t r) ⟨0 + k.val, by omega⟩) := by
  obtain ⟨h0, h1⟩ := place_0 t
  unfold X0_0 Pipeline.Window.fill
  rw [dif_pos (moved0_0 t _)]
  unfold iblk
  refine Eq.trans (congrArg (V m c main_arg0) (?_ : _ = ix2 (row t r) ⟨0 + k.val, by omega⟩)) (arg_at m c _ _)
  refine funext fun a => Fin.ext ?_
  match a with
  | ⟨0, _⟩ =>
    show win0_0.index t (0 : Fin 2) * 512 + 1 * r.val = 512 * t.val + r.val
    rw [h0]; omega
  | ⟨1, _⟩ =>
    show win0_0.index t (1 : Fin 2) * 512 + 1 * k.val = 0 + k.val
    rw [h1]; omega

theorem place_1 : ∀ t : Fin cfg0.N, win0_1.index t (0 : Fin 2) = t.val ∧ win0_1.index t (1 : Fin 2) = 1 :=
  (by decide +kernel : ∀ t : Fin grid0.N, _)

/-- Block `t` of the argument's columns from 512. -/
theorem block_1 (t : Fin cfg0.N) (r k : Fin 512) :
    X0_1 m c t (ix2 r k) = argument m c (ix2 (row t r) ⟨512 + k.val, by omega⟩) := by
  obtain ⟨h0, h1⟩ := place_1 t
  unfold X0_1 Pipeline.Window.fill
  rw [dif_pos (moved0_1 t _)]
  unfold iblk
  refine Eq.trans (congrArg (V m c main_arg0) (?_ : _ = ix2 (row t r) ⟨512 + k.val, by omega⟩)) (arg_at m c _ _)
  refine funext fun a => Fin.ext ?_
  match a with
  | ⟨0, _⟩ =>
    show win0_1.index t (0 : Fin 2) * 512 + 1 * r.val = 512 * t.val + r.val
    rw [h0]; omega
  | ⟨1, _⟩ =>
    show win0_1.index t (1 : Fin 2) * 512 + 1 * k.val = 512 + k.val
    rw [h1]; omega

theorem place_2 : ∀ t : Fin cfg0.N, win0_2.index t (0 : Fin 2) = t.val ∧ win0_2.index t (1 : Fin 2) = 2 :=
  (by decide +kernel : ∀ t : Fin grid0.N, _)

/-- Block `t` of the argument's columns from 1024. -/
theorem block_2 (t : Fin cfg0.N) (r k : Fin 512) :
    X0_2 m c t (ix2 r k) = argument m c (ix2 (row t r) ⟨1024 + k.val, by omega⟩) := by
  obtain ⟨h0, h1⟩ := place_2 t
  unfold X0_2 Pipeline.Window.fill
  rw [dif_pos (moved0_2 t _)]
  unfold iblk
  refine Eq.trans (congrArg (V m c main_arg0) (?_ : _ = ix2 (row t r) ⟨1024 + k.val, by omega⟩)) (arg_at m c _ _)
  refine funext fun a => Fin.ext ?_
  match a with
  | ⟨0, _⟩ =>
    show win0_2.index t (0 : Fin 2) * 512 + 1 * r.val = 512 * t.val + r.val
    rw [h0]; omega
  | ⟨1, _⟩ =>
    show win0_2.index t (1 : Fin 2) * 512 + 1 * k.val = 1024 + k.val
    rw [h1]; omega

theorem place_3 : ∀ t : Fin cfg0.N, win0_3.index t (0 : Fin 2) = t.val ∧ win0_3.index t (1 : Fin 2) = 3 :=
  (by decide +kernel : ∀ t : Fin grid0.N, _)

/-- Block `t` of the argument's columns from 1536. -/
theorem block_3 (t : Fin cfg0.N) (r k : Fin 512) :
    X0_3 m c t (ix2 r k) = argument m c (ix2 (row t r) ⟨1536 + k.val, by omega⟩) := by
  obtain ⟨h0, h1⟩ := place_3 t
  unfold X0_3 Pipeline.Window.fill
  rw [dif_pos (moved0_3 t _)]
  unfold iblk
  refine Eq.trans (congrArg (V m c main_arg0) (?_ : _ = ix2 (row t r) ⟨1536 + k.val, by omega⟩)) (arg_at m c _ _)
  refine funext fun a => Fin.ext ?_
  match a with
  | ⟨0, _⟩ =>
    show win0_3.index t (0 : Fin 2) * 512 + 1 * r.val = 512 * t.val + r.val
    rw [h0]; omega
  | ⟨1, _⟩ =>
    show win0_3.index t (1 : Fin 2) * 512 + 1 * k.val = 1536 + k.val
    rw [h1]; omega

theorem place_4 : ∀ t : Fin cfg0.N, win0_4.index t (0 : Fin 2) = t.val ∧ win0_4.index t (1 : Fin 2) = 0 :=
  (by decide +kernel : ∀ t : Fin grid0.N, _)

/-- Block `t` of the cosine table. -/
theorem block_4 (t : Fin cfg0.N) (r : Fin 512) (k : Fin 128) :
    iblk m c 4 t (ix2 r k) = V m c main_v18 (ix2 (row t r) k) := by
  obtain ⟨h0, h1⟩ := place_4 t
  unfold iblk
  refine congrArg (V m c main_v18) (funext fun a => Fin.ext ?_)
  match a with
  | ⟨0, _⟩ =>
    show win0_4.index t (0 : Fin 2) * 512 + 1 * r.val = 512 * t.val + r.val
    rw [h0]; omega
  | ⟨1, _⟩ =>
    show win0_4.index t (1 : Fin 2) * 128 + 1 * k.val = k.val
    rw [h1]; omega

theorem place_5 : ∀ t : Fin cfg0.N, win0_5.index t (0 : Fin 2) = t.val ∧ win0_5.index t (1 : Fin 2) = 0 :=
  (by decide +kernel : ∀ t : Fin grid0.N, _)

/-- Block `t` of the sine table. -/
theorem block_5 (t : Fin cfg0.N) (r : Fin 512) (k : Fin 128) :
    iblk m c 5 t (ix2 r k) = V m c main_v23 (ix2 (row t r) k) := by
  obtain ⟨h0, h1⟩ := place_5 t
  unfold iblk
  refine congrArg (V m c main_v23) (funext fun a => Fin.ext ?_)
  match a with
  | ⟨0, _⟩ =>
    show win0_5.index t (0 : Fin 2) * 512 + 1 * r.val = 512 * t.val + r.val
    rw [h0]; omega
  | ⟨1, _⟩ =>
    show win0_5.index t (1 : Fin 2) * 128 + 1 * k.val = k.val
    rw [h1]; omega

theorem place_6 : ∀ t : Fin cfg0.N, win0_6.index t (0 : Fin 3) = 0 ∧ win0_6.index t (1 : Fin 3) = 0
    ∧ win0_6.index t (2 : Fin 3) = 0 :=
  (by decide +kernel : ∀ t : Fin grid0.N, _)

/-- Every block sees the whole table of decay matrices. -/
theorem block_6 (t : Fin cfg0.N) (h : Fin 4) (r : Fin 512) (k : Fin 512) :
    iblk m c 6 t (ix3 h r k) = V m c main_v48 (ix3 h r k) := by
  obtain ⟨h0, h1, h2⟩ := place_6 t
  unfold iblk
  refine congrArg (V m c main_v48) (funext fun a => Fin.ext ?_)
  match a with
  | ⟨0, _⟩ =>
    show win0_6.index t (0 : Fin 3) * 4 + 1 * h.val = h.val
    rw [h0]; omega
  | ⟨1, _⟩ =>
    show win0_6.index t (1 : Fin 3) * 512 + 1 * r.val = r.val
    rw [h1]; omega
  | ⟨2, _⟩ =>
    show win0_6.index t (2 : Fin 3) * 512 + 1 * k.val = k.val
    rw [h2]; omega

theorem place_7 : ∀ t : Fin cfg0.N, win0_7.index t (0 : Fin 3) = 0 ∧ win0_7.index t (1 : Fin 3) = 0
    ∧ win0_7.index t (2 : Fin 3) = 0 :=
  (by decide +kernel : ∀ t : Fin grid0.N, _)

/-- Every block sees the whole table of row decays. -/
theorem block_7 (t : Fin cfg0.N) (h : Fin 4) (r : Fin 512) (k : Fin 128) :
    iblk m c 7 t (ix3 h r k) = V m c main_v59 (ix3 h r k) := by
  obtain ⟨h0, h1, h2⟩ := place_7 t
  unfold iblk
  refine congrArg (V m c main_v59) (funext fun a => Fin.ext ?_)
  match a with
  | ⟨0, _⟩ =>
    show win0_7.index t (0 : Fin 3) * 4 + 1 * h.val = h.val
    rw [h0]; omega
  | ⟨1, _⟩ =>
    show win0_7.index t (1 : Fin 3) * 512 + 1 * r.val = r.val
    rw [h1]; omega
  | ⟨2, _⟩ =>
    show win0_7.index t (2 : Fin 3) * 128 + 1 * k.val = k.val
    rw [h2]; omega

theorem place_8 : ∀ t : Fin cfg0.N, win0_8.index t (0 : Fin 3) = 0 ∧ win0_8.index t (1 : Fin 3) = 0
    ∧ win0_8.index t (2 : Fin 3) = 0 :=
  (by decide +kernel : ∀ t : Fin grid0.N, _)

/-- Every block sees the whole table of key decays. -/
theorem block_8 (t : Fin cfg0.N) (h : Fin 4) (r : Fin 512) (k : Fin 128) :
    iblk m c 8 t (ix3 h r k) = V m c main_v69 (ix3 h r k) := by
  obtain ⟨h0, h1, h2⟩ := place_8 t
  unfold iblk
  refine congrArg (V m c main_v69) (funext fun a => Fin.ext ?_)
  match a with
  | ⟨0, _⟩ =>
    show win0_8.index t (0 : Fin 3) * 4 + 1 * h.val = h.val
    rw [h0]; omega
  | ⟨1, _⟩ =>
    show win0_8.index t (1 : Fin 3) * 512 + 1 * r.val = r.val
    rw [h1]; omega
  | ⟨2, _⟩ =>
    show win0_8.index t (2 : Fin 3) * 128 + 1 * k.val = k.val
    rw [h2]; omega

theorem place_9 : ∀ t : Fin cfg0.N, win0_9.index t (0 : Fin 3) = 0 ∧ win0_9.index t (1 : Fin 3) = 0
    ∧ win0_9.index t (2 : Fin 3) = 0 :=
  (by decide +kernel : ∀ t : Fin grid0.N, _)

/-- Every block sees the whole table of block decays. -/
theorem block_9 (t : Fin cfg0.N) (h : Fin 4) (r : Fin 1) (k : Fin 128) :
    iblk m c 9 t (ix3 h r k) = V m c main_v75 (ix3 h r k) := by
  obtain ⟨h0, h1, h2⟩ := place_9 t
  unfold iblk
  refine congrArg (V m c main_v75) (funext fun a => Fin.ext ?_)
  match a with
  | ⟨0, _⟩ =>
    show win0_9.index t (0 : Fin 3) * 4 + 1 * h.val = h.val
    rw [h0]; omega
  | ⟨1, _⟩ =>
    show win0_9.index t (1 : Fin 3) * 1 + 1 * r.val = r.val
    rw [h1]; omega
  | ⟨2, _⟩ =>
    show win0_9.index t (2 : Fin 3) * 128 + 1 * k.val = k.val
    rw [h2]; omega

/-- The first 1536 columns of the argument are the real numbers `p`. -/
def Reads (X : S8192x6912.Idx → EReal) (p : ℕ → ℕ → ℝ) : Prop :=
  ∀ (t : Fin 8192) (k : Fin 6912), k.val < 1536 → X (ix2 t k) = ((p t.val k.val : ℝ) : EReal)

variable {p : ℕ → ℕ → ℝ}

/-- Block `t` is given rows `512 * t, …` of the argument and of the tables. -/
theorem given (hp : Reads (argument m c) p) (t : Fin cfg0.N) :
    Given p (512 * t.val) (X0_0 m c t) (X0_1 m c t) (X0_2 m c t) (iblk m c 4 t) (iblk m c 5 t) (iblk m c 6 t)
      (iblk m c 7 t) (iblk m c 8 t) (iblk m c 9 t) where
  q r k := by
    rw [block_0, hp _ _ (by show 0 + k.val < 1536; omega)]
    simp only [Nat.zero_add]
  k r k := by rw [block_1, hp _ _ (by show 512 + k.val < 1536; omega)]
  v r k := by rw [block_2, hp _ _ (by show 1024 + k.val < 1536; omega)]
  cos r d := (block_4 m c t r d).trans (cos_at m c _ _)
  sin r d := (block_5 m c t r d).trans (sin_at m c _ _)
  mask h r k := (block_6 m c t h r k).trans (mask_at m c _ _ _)
  rowDecay h r d := (block_7 m c t h r d).trans (rowDecay_at m c _ _ _)
  keyDecay h r d := (block_8 m c t h r d).trans (keyDecay_at m c _ _ _)
  blockDecay h r d := (block_9 m c t h r d).trans (blockDecay_at m c _ _ _)

/-- What block `t` leaves: the gated and normalised rows of the retention, and the sums over the tokens before its end. -/
structure Left (p : ℕ → ℕ → ℝ) (t : Fin cfg0.N) (S : Vec Ideal S512x512 .bf16 × Vec Ideal S4x128x128 .f32) : Prop where
  rows : ∀ r k : Fin 512, S.1 (ix2 r k) = silu (argument m c (ix2 (row t r) ⟨1536 + k.val, by omega⟩))
    * normed (headRow p (k.val / 128) (512 * t.val + r.val)) (k.val % 128)
  states : ∀ (h : Fin 4) (d e : Fin 128), S.2 (ix3 h d e) = ((headSum p h.val (512 * t.val + 512) d.val e.val : ℝ) : EReal)

/-- The gated rows, from the heads' rows. -/
theorem rows_of (t : Fin cfg0.N) (o : Fin 4 → FVec Ideal S512x128 .f32)
    (ho : ∀ (h : Fin 4) (r : Fin 512) (d : Fin 128), o h (ix2 r d) = ((headRow p h.val (512 * t.val + r.val) d.val : ℝ) : EReal))
    (r k : Fin 512) :
    blockOut (X0_3 m c t) o (ix2 r k) = silu (argument m c (ix2 (row t r) ⟨1536 + k.val, by omega⟩))
      * normed (headRow p (k.val / 128) (512 * t.val + r.val)) (k.val % 128) := by
  rw [blockOut_at (fun h r d => headRow p h (512 * t.val + r) d) (X0_3 m c t) o ho r k, block_3]

/-- The first block leaves that. -/
theorem left_first (hp : Reads (argument m c) p) (t : Fin cfg0.N) (h0 : t.val = 0) (S) :
    Left m c p t (stAt0 m c t.val t.isLt S) := by
  rw [stAt0_A m c t S (by omega)]
  have hz : ∀ (h : Fin 4) (d e : Fin 128),
      (k0_pay3 : FVec Ideal S4x128x128 .f32) (ix3 h d e) = ((headSum p h.val (512 * t.val) d.val e.val : ℝ) : EReal) := by
    rw [h0]; exact zero_states
  constructor
  · intro r k
    dsimp only
    rw [out_A]
    exact rows_of m c t _ (fun h r d => (given m c hp t).head hz h r d) r k
  · intro h d e
    dsimp only
    rw [state_A]
    exact (given m c hp t).states hz h d e

/-- A later block leaves that, over what the block before left. -/
theorem left_next (hp : Reads (argument m c) p) (t t' : Fin cfg0.N) (h' : t.val = t'.val + 1) (S) (hS : Left m c p t' S) :
    Left m c p t (stAt0 m c t.val t.isLt S) := by
  have hN : t.val < 16 := lt_of_lt_of_eq t.isLt N_0
  rw [stAt0_B m c t S (by omega)]
  have hz : ∀ (h : Fin 4) (d e : Fin 128), S.2 (ix3 h d e) = ((headSum p h.val (512 * t.val) d.val e.val : ℝ) : EReal) := by
    intro h d e; rw [hS.states h d e, h', show 512 * (t'.val + 1) = 512 * t'.val + 512 by omega]
  constructor
  · intro r k
    dsimp only
    rw [out_B]
    exact rows_of m c t _ (fun h r d => (given m c hp t).head hz h r d) r k
  · intro h d e
    dsimp only
    rw [state_B]
    exact (given m c hp t).states hz h d e

/-- Every block leaves that. -/
theorem left_all (hp : Reads (argument m c) p) : ∀ (n : ℕ) (hn : 0 + n < cfg0.N),
    Left m c p ⟨n, by omega⟩ (Pipeline.accAt (fun n h => stAt0 m c n h junk0) (stAt0 m c) 0 n hn)
  | 0, hn => left_first m c hp ⟨0, by omega⟩ rfl junk0
  | n + 1, hn => by
    rw [Pipeline.accAt_succ]
    have key := left_next m c hp ⟨n + 1, by omega⟩ ⟨n, by omega⟩ rfl _ (left_all hp n (by omega))
    simpa only [Nat.zero_add] using key

/-- What the array holds after the run: the gated and normalised retention rows. -/
theorem result (hp : Reads (argument m c) p) (t : Fin 8192) (k : Fin 512) :
    G10 m c (ix2 t k) = silu (argument m c (ix2 t ⟨1536 + k.val, by omega⟩))
      * normed (headRow p (k.val / 128) t.val) (k.val % 128) := by
  have ht := t.isLt
  have hk := k.isLt
  have hpt : pt10Of (ix2 t k) = t.val / 512 := by
    show 1 * (t.val / 512 - 0) + 1 * (k.val / 512 - 0) = t.val / 512
    omega
  have hlt : pt10Of (ix2 t k) < cfg0.N := by rw [hpt, show cfg0.N = 16 from N_0]; omega
  unfold G10
  rw [dif_pos hlt, fold0_congr m c _ _ (t.val / 512) (by rw [← hpt]; omega) hpt]
  have hl : loc10Of (ix2 t k) = ix2 (⟨t.val % 512, by omega⟩ : Fin 512) k := by
    refine funext fun a => Fin.ext ?_
    match a with
    | ⟨0, _⟩ => rfl
    | ⟨1, _⟩ => exact Nat.mod_eq_of_lt hk
  rw [hl, (left_all m c hp (t.val / 512) _).rows]
  have hr : 512 * (t.val / 512) + t.val % 512 = t.val := by omega
  rw [show row ⟨t.val / 512, by rw [← hpt]; exact hlt⟩ (⟨t.val % 512, by omega⟩ : Fin 512) = t from Fin.ext hr]
  dsimp only
  rw [hr]

end Cert.KernelIdeal.Retention
-- ==== Proof.RefRun.lean ====
/-
  The reference's run read as a sequence of states: what its host loop carries after each trip, and its result as a
  function of the last one.
-/
module

public import proofs.«01_k».proof.Proof.Gen.ReferenceIdeal.Run
public import proofs.«01_k».proof.Proof.Gen.ReferenceIdeal.Step

@[expose] public section

set_option maxRecDepth 16384

noncomputable section

namespace Cert.ReferenceIdeal.Retention

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The buffers the loop carries hold the state `s` before trip `j`: the three chunked operands, the carried state, the
    outputs written so far, the four decay tables and the trip's number. -/
structure Carries (V : Valuation τ sig (Elt F)) (s : State F) (j : ℕ) : Prop where
  queries : V (Proc.devRef .tc main_v124_0) = s.main_v124_0
  keys : V (Proc.devRef .tc main_v124_1) = s.main_v124_1
  values : V (Proc.devRef .tc main_v124_2) = s.main_v124_2
  state : V (Proc.devRef .tc main_v124_8) = s.main_v124_8
  outputs : V (Proc.devRef .tc main_v124_9) = s.main_v124_9
  mask : V (Proc.devRef .tc main_v124_3) = Step.K_main_v93 (F := F)
  queryDecay : V (Proc.devRef .tc main_v124_4) = Step.K_main_v102 (F := F)
  chunkDecay : V (Proc.devRef .tc main_v124_5) = Step.K_main_v115 (F := F)
  keyDecay : V (Proc.devRef .tc main_v124_6) = Step.K_main_v111 (F := F)
  trip : V (Proc.devRef .tc main_v124_7) = constantI S_ 32 (BitVec.ofNat 32 j)

variable {V : Valuation τ sig (Elt F)} {s : State F} {j : ℕ}

/-- The trip's new state is the step's. -/
theorem next_state (h : Carries V s j) : step_main_v124_8 V = (step j s).main_v124_8 := by
  unfold step_main_v124_8 res_main_while0b_v145 res_main_while0b_v146
  rw [h.keys, h.values, h.state, h.chunkDecay, h.keyDecay, h.trip]
  rfl

/-- The trip's outputs are the step's. -/
theorem next_outputs (h : Carries V s j) : step_main_v124_9 V = (step j s).main_v124_9 := by
  unfold step_main_v124_9 res_main_while0b_v144 res_main_while0b_v145 res_main_while0b_v146
  rw [h.queries, h.keys, h.values, h.state, h.outputs, h.mask, h.queryDecay, h.trip]
  rfl

/-- The trip counts itself. -/
theorem next_trip (h : Carries V s j) : step_main_v124_7 V = constantI S_ 32 (BitVec.ofNat 32 (j + 1)) := by
  unfold step_main_v124_7
  rw [h.trip]
  funext i
  show BitVec.ofNat 32 j + 1#32 = BitVec.ofNat 32 (j + 1)
  rw [BitVec.ofNat_add]

/-- A trip takes carried buffers holding `s` to ones holding the step of `s`. -/
theorem Carries.next (h : Carries V s j) : Carries (STEP V) (step j s) (j + 1) where
  queries := (STEP_main_v124_0 V).trans h.queries
  keys := (STEP_main_v124_1 V).trans h.keys
  values := (STEP_main_v124_2 V).trans h.values
  state := (STEP_main_v124_8 V).trans (next_state h)
  outputs := (STEP_main_v124_9 V).trans (next_outputs h)
  mask := (STEP_main_v124_3 V).trans h.mask
  queryDecay := (STEP_main_v124_4 V).trans h.queryDecay
  chunkDecay := (STEP_main_v124_5 V).trans h.chunkDecay
  keyDecay := (STEP_main_v124_6 V).trans h.keyDecay
  trip := (STEP_main_v124_7 V).trans (next_trip h)

variable (m : (ℓ : Loc nD τ sig) → Buf (Elt F) ℓ) (c : Dev nD) (ρ : Dev nD → PrngReg)

/-- The state after `n` trips from the argument `x`. -/
def after (x : (⟨S8192x6912, .f32⟩ : BufTy).Contents (Elt F)) : ℕ → State F
  | 0 => init x
  | n + 1 => step n (after x n)

set_option maxRecDepth 65536 in
set_option maxHeartbeats 800000 in
/-- The operations before the loop leave the first state. -/
theorem carries_entry : Carries (entryContents preI m c) (after (m ((c.tc : Thread nD τ).loc main_arg0)) 0) 0 := by
  constructor <;> (simp only [entryContents, afterL_cons, afterL_nil]; after_reads_simp) <;> rfl

theorem carries_after : ∀ n, Carries (STEP^[n] (entryContents preI m c)) (after (m ((c.tc : Thread nD τ).loc main_arg0)) n) n
  | 0 => carries_entry m c
  | n + 1 => by
    rw [Function.iterate_succ_apply']
    exact (carries_after n).next

/-- The reference's run: its result is `R_main_v143` of the state after all 64 trips and of the argument. -/
theorem run : θ_run (defs (F := F)) (onTc (τ := τ) (main (F := F))) ⟨m, fun _ => 0, ρ⟩ fun r => ∀ c : Dev nD,
      r.2.mem ((c.tc : Thread nD τ).loc main_v143)
        = Step.R_main_v143 (after (m ((c.tc : Thread nD τ).loc main_arg0)) 64) (m ((c.tc : Thread nD τ).loc main_arg0))
      ∧ r.2.mem ((c.tc : Thread nD τ).loc main_arg0) = m ((c.tc : Thread nD τ).loc main_arg0) :=
  (θ_run defs _ _).mono (fun _ h c => ⟨(h c).1.trans (by
      unfold out_main_v143
      rw [(carries_after m c 64).outputs, iter_main_arg0 m c 64]
      rfl), (h c).2⟩) (Value.run m ρ)

end Cert.ReferenceIdeal.Retention

end
-- ==== Proof.RefTables.lean ====
/-
  The tables the reference makes before its loop, at an index: the cosines and sines of the position angles, and each
  head's decay matrix, row decays, key decays and chunk decay.
-/
module

public import proofs.«01_k».proof.Proof.Gen.ReferenceIdeal.Step
public import proofs.«01_k».proof.Proof.Words
public import Idealize.ShloMosaic.Lib.StableHlo.ReadAt
public import Idealize.ShloMosaic.Lib.Pointwise
public import Idealize.ShloMosaic.Lib.Tactic

@[expose] public section

set_option maxRecDepth 16384

noncomputable section

namespace Cert.ReferenceIdeal.Retention

open Idealize.ShloMosaic Idealize.ShloMosaic.TcCoe Idealize.SL.Sem
open Cert.ReferenceIdeal Cert.ReferenceIdeal.Step
open _root_.Retention

/-- The cos table of the queries. -/
theorem cos_queries (t : Fin 8192) (j : Fin 64) :
    K_main_v19 (F := Ideal) (ix2 t j) = ((Real.cos (angle t.val j.val) : ℝ) : EReal) := by
  simp only [K_main_v19, K_main_v18, K_main_v16, K_main_v14, K_main_v13, K_main_v5, K_main_v17, K_main_v15, K_main_v12, K_main_v11, K_main_cst_0, K_main_v10, K_main_v8, K_main_v7, K_main_v9, K_main_cst]
  pointwise
  refine (congrArg Ideal.cos (word_angle t.val j.val (by omega) (by omega))).trans ?_
  rw [Ideal.cos_coe]

/-- The sin table of the queries. -/
theorem sin_queries (t : Fin 8192) (j : Fin 64) :
    K_main_v21 (F := Ideal) (ix2 t j) = ((Real.sin (angle t.val j.val) : ℝ) : EReal) := by
  simp only [K_main_v21, K_main_v18, K_main_v16, K_main_v14, K_main_v13, K_main_v5, K_main_v17, K_main_v15, K_main_v12, K_main_v11, K_main_cst_0, K_main_v10, K_main_v8, K_main_v7, K_main_v9, K_main_cst]
  pointwise
  refine (congrArg Ideal.sin (word_angle t.val j.val (by omega) (by omega))).trans ?_
  rw [Ideal.sin_coe]

/-- The cos table of the keys. -/
theorem cos_keys (t : Fin 8192) (j : Fin 64) :
    K_main_v49 (F := Ideal) (ix2 t j) = ((Real.cos (angle t.val j.val) : ℝ) : EReal) := by
  simp only [K_main_v49, K_main_v48, K_main_v46, K_main_v44, K_main_v43, K_main_v5, K_main_v47, K_main_v45, K_main_v42, K_main_v41, K_main_cst_2, K_main_v40, K_main_v38, K_main_v37, K_main_v39, K_main_cst_1]
  pointwise
  refine (congrArg Ideal.cos (word_angle t.val j.val (by omega) (by omega))).trans ?_
  rw [Ideal.cos_coe]

/-- The sin table of the keys. -/
theorem sin_keys (t : Fin 8192) (j : Fin 64) :
    K_main_v51 (F := Ideal) (ix2 t j) = ((Real.sin (angle t.val j.val) : ℝ) : EReal) := by
  simp only [K_main_v51, K_main_v48, K_main_v46, K_main_v44, K_main_v43, K_main_v5, K_main_v47, K_main_v45, K_main_v42, K_main_v41, K_main_cst_2, K_main_v40, K_main_v38, K_main_v37, K_main_v39, K_main_cst_1]
  pointwise
  refine (congrArg Ideal.sin (word_angle t.val j.val (by omega) (by omega))).trans ?_
  rw [Ideal.sin_coe]

/-- The logarithm of a head's decay. -/
theorem log_at (h : Fin 4) :
    K_main_v76 (F := Ideal) (ix1 h) = ((logDecay h.val : ℝ) : EReal) := by
  simp only [K_main_v76, K_main_v75, K_main_v74, K_main_cst_6, K_main_v73, K_main_v72, K_main_cst_5, K_main_v71, K_main_v70, K_main_cst_4, K_main_v69]
  pointwise
  exact word_logDecay h.val (by omega)

/-- The decay matrix. -/
theorem mask_at (h : Fin 4) (r k : Fin 128) :
    K_main_v93 (F := Ideal) (ix3 h r k) = ((mask (logDecay h.val) r.val k.val : ℝ) : EReal) := by
  simp only [K_main_v93, K_main_call0_v1, K_main_v84, K_main_v82, K_main_v80, K_main_v78, K_main_v77, K_main_v81, K_main_v79, K_main_v83, K_main_cst_7, K_main_v92, K_main_v91, K_main_v89, K_main_v87, K_main_v86, K_main_v85, K_main_cst_8, K_main_v90, K_main_v88, K_main_call0_v2, K_main_call0_v0, K_main_cst_9]
  pointwise
  rw [log_at, ← word_mask r.val k.val h.val (by omega) (by omega)]
  simp [constant, Scalar.ofBits]

/-- The decay of the state at a row. -/
theorem rowDecay_at (b : Fin 1) (h : Fin 4) (r : Fin 128) (d : Fin 1) :
    K_main_v102 (F := Ideal) (ix4 b h r d) = ((decay (logDecay h.val) ((r.val : ℝ) + 1) : ℝ) : EReal) := by
  simp only [K_main_v102, K_main_v101, K_main_v100, K_main_v98, K_main_v96, K_main_v95, K_main_v77, K_main_v94, K_main_cst_10, K_main_v99, K_main_v97]
  pointwise
  rw [log_at, word_nat r.val (by omega), ← EReal.coe_one, ← EReal.coe_add, word_decay]

/-- The decay of a key until the chunk's end. -/
theorem keyDecay_at (b : Fin 1) (h : Fin 4) (r : Fin 128) (d : Fin 1) :
    K_main_v111 (F := Ideal) (ix4 b h r d) = ((decay (logDecay h.val) ((128 : ℝ) - 1 - r.val) : ℝ) : EReal) := by
  simp only [K_main_v111, K_main_v110, K_main_v109, K_main_v107, K_main_v105, K_main_v104, K_main_v103, K_main_cst_11, K_main_v77, K_main_v108, K_main_v106]
  pointwise
  rw [log_at, word_nat r.val (by omega), lit_127, ← EReal.coe_sub, word_decay]
  norm_num

/-- The decay over a chunk. -/
theorem chunkDecay_at (b : Fin 1) (h : Fin 4) (r : Fin 1) (d : Fin 1) :
    K_main_v115 (F := Ideal) (ix4 b h r d) = ((decay (logDecay h.val) 128 : ℝ) : EReal) := by
  simp only [K_main_v115, K_main_v114, K_main_v113, K_main_v112, K_main_cst_12]
  pointwise
  rw [log_at, lit_128, word_decay]

end Cert.ReferenceIdeal.Retention
-- ==== Proof.RefValue.lean ====
/-
  What the reference computes: its chunked operands are the turned queries and keys and the values, its state after
  `n` trips is the sum over the first `128 * n` tokens, and its result is the gated and normalised retention rows.
-/
module

public import proofs.«01_k».proof.Proof.RefRun
public import proofs.«01_k».proof.Proof.RefTables
public import proofs.«01_k».proof.Proof.Spec
public import Idealize.ShloMosaic.Lib.DynamicIndex
public import Idealize.ShloMosaic.Lib.Pipeline.Value

@[expose] public section

set_option maxRecDepth 16384

noncomputable section

namespace Cert.ReferenceIdeal.Retention

open Idealize.ShloMosaic Idealize.ShloMosaic.TcCoe Idealize.SL.Sem
open Cert.ReferenceIdeal Cert.ReferenceIdeal.Step
open _root_.Retention

/-! ## The operands -/

/-- A chunk's row of an array of heads is the array's row at the chunk's place. -/
theorem chunk_at (Y : (⟨S1x8192x4x128, .f32⟩ : BufTy).Contents (Elt Ideal)) (j : Fin 64) (b : Fin 1) (h : Fin 4) (r d : Fin 128) :
    transpose S64x1x4x128x128 [1, 0, 3, 2, 4] (shapeCast S1x64x128x4x128 Y Gen.shapeCasts_S1x8192x4x128_S1x64x128x4x128)
      Gen.transposes_S1x64x128x4x128_S64x1x4x128x128_1_0_3_2_4 (ix5 j b h r d)
      = Y (ix4 (0 : Fin 1) (⟨128 * j.val + r.val, by omega⟩ : Fin 8192) h d) := by
  have e : transpose S64x1x4x128x128 [1, 0, 3, 2, 4] (shapeCast S1x64x128x4x128 Y Gen.shapeCasts_S1x8192x4x128_S1x64x128x4x128)
      Gen.transposes_S1x64x128x4x128_S64x1x4x128x128_1_0_3_2_4 (ix5 j b h r d)
      = shapeCast S1x64x128x4x128 Y Gen.shapeCasts_S1x8192x4x128_S1x64x128x4x128 (ix5 b j r h d) := by
    generalize shapeCast S1x64x128x4x128 Y Gen.shapeCasts_S1x8192x4x128_S1x64x128x4x128 = Z
    obtain rfl : b = 0 := Subsingleton.elim _ _
    pointwise
  rw [e]
  refine _root_.Idealize.ShloMosaic.shapeCast_apply _ _ _ _ ?_
  rw [Shape.rowMajor_val_five, Shape.rowMajor_val_four]
  have hb := b.isLt
  show ((0 * 8192 + (128 * j.val + r.val)) * 4 + h.val) * 128 + d.val
    = (((b.val * 64 + j.val) * 128 + r.val) * 4 + h.val) * 128 + d.val
  omega

variable (x : (⟨S8192x6912, .f32⟩ : BufTy).Contents (Elt Ideal)) {p : ℕ → ℕ → ℝ}

/-- The argument's columns up to 1536 are the real numbers `p`. -/
def Reads (p : ℕ → ℕ → ℝ) : Prop :=
  ∀ (t : Fin 8192) (k : Fin 6912), k.val < 1536 → x (ix2 t k) = ((p t.val k.val : ℝ) : EReal)

variable {x}

theorem query_columns (hp : Reads x p) (b : Fin 1) (t : Fin 8192) (h : Fin 4) (d : Fin 128) :
    A_main_v6 x (ix4 b t h d) = ((p t.val (128 * h.val + d.val) : ℝ) : EReal) := by
  unfold A_main_v6 A_main_v2 A_main_v1 A_main_v0
  pointwise
  rw [hp _ _ (by show h.val * 128 + d.val < 1536; omega)]
  simp only [Nat.mul_comm h.val 128]

theorem key_columns (hp : Reads x p) (b : Fin 1) (t : Fin 8192) (h : Fin 4) (d : Fin 128) :
    A_main_v36 x (ix4 b t h d) = ((p t.val (512 + (128 * h.val + d.val)) : ℝ) : EReal) := by
  unfold A_main_v36 A_main_v3 A_main_v1 A_main_v0
  pointwise
  rw [hp _ _ (by show 512 + (h.val * 128 + d.val) < 1536; omega)]
  simp only [Nat.mul_comm h.val 128]

theorem value_columns (hp : Reads x p) (b : Fin 1) (t : Fin 8192) (h : Fin 4) (d : Fin 128) :
    A_main_v68 x (ix4 b t h d) = ((p t.val (1024 + (128 * h.val + d.val)) : ℝ) : EReal) := by
  unfold A_main_v68 A_main_v4 A_main_v1 A_main_v0
  pointwise
  rw [hp _ _ (by show 1024 + (h.val * 128 + d.val) < 1536; omega)]
  simp only [Nat.mul_comm h.val 128]

/-- The queries turned by their angles. -/
theorem turned_queries (hp : Reads x p) (b : Fin 1) (t : Fin 8192) (h : Fin 4) (d : Fin 128) :
    A_main_v35 x (ix4 b t h d) = ((qRow p h.val t.val d.val : ℝ) : EReal) := by
  simp only [A_main_v35, A_main_v34, A_main_v29, A_main_v31, A_main_v33, A_main_v26, A_main_v28, A_main_v23, A_main_v24,
    K_main_v25, K_main_v27, K_main_v30, K_main_v32, K_main_v20, K_main_v22]
  pointwise
  split
  · rename_i hd'
    have hd : d.val < 64 := hd'
    unfold qRow turn
    rw [if_pos hd, query_columns hp, query_columns hp, cos_queries, sin_queries, ← EReal.coe_mul, ← EReal.coe_mul, ← EReal.coe_sub]
    dsimp only
    rw [Nat.mod_eq_of_lt hd, Nat.add_comm 64 d.val]
  · rename_i hd'
    have hd : ¬ d.val < 64 := hd'
    unfold qRow turn
    rw [if_neg hd, query_columns hp, query_columns hp, cos_queries, sin_queries, ← EReal.coe_mul, ← EReal.coe_mul, ← EReal.coe_add]
    dsimp only
    rw [show d.val % 64 = d.val - 64 by omega, show 64 + (d.val - 64) = d.val by omega]

/-- The keys turned by their angles and scaled. -/
theorem turned_keys (hp : Reads x p) (b : Fin 1) (t : Fin 8192) (h : Fin 4) (d : Fin 128) :
    A_main_v67 x (ix4 b t h d) = ((kRow p h.val t.val d.val : ℝ) : EReal) := by
  simp only [A_main_v67, K_main_v66, K_main_cst_3, A_main_v65, A_main_v64, A_main_v59, A_main_v61, A_main_v63, A_main_v56, A_main_v58, A_main_v53, A_main_v54,
    K_main_v55, K_main_v57, K_main_v60, K_main_v62, K_main_v50, K_main_v52]
  pointwise
  rw [lit_scale]
  split
  · rename_i hd'
    have hd : d.val < 64 := hd'
    unfold kRow turn
    rw [if_pos hd, key_columns hp, key_columns hp, cos_keys, sin_keys, ← EReal.coe_mul, ← EReal.coe_mul, ← EReal.coe_sub, ← EReal.coe_mul]
    dsimp only
    rw [Nat.mod_eq_of_lt hd, Nat.add_comm 64 d.val]
  · rename_i hd'
    have hd : ¬ d.val < 64 := hd'
    unfold kRow turn
    rw [if_neg hd, key_columns hp, key_columns hp, cos_keys, sin_keys, ← EReal.coe_mul, ← EReal.coe_mul, ← EReal.coe_add, ← EReal.coe_mul]
    dsimp only
    rw [show d.val % 64 = d.val - 64 by omega, show 64 + (d.val - 64) = d.val by omega]

/-! ## The loop -/

/-- The state before trip `n`: the chunked operands, the sum over the tokens before it, and the rows of the chunks done. -/
structure Holds (p : ℕ → ℕ → ℝ) (n : ℕ) (s : State Ideal) : Prop where
  q : ∀ (j : Fin 64) (b : Fin 1) (h : Fin 4) (r d : Fin 128),
    s.main_v124_0 (ix5 j b h r d) = ((qRow p h.val (128 * j.val + r.val) d.val : ℝ) : EReal)
  k : ∀ (j : Fin 64) (b : Fin 1) (h : Fin 4) (r d : Fin 128),
    s.main_v124_1 (ix5 j b h r d) = ((kRow p h.val (128 * j.val + r.val) d.val : ℝ) : EReal)
  v : ∀ (j : Fin 64) (b : Fin 1) (h : Fin 4) (r d : Fin 128),
    s.main_v124_2 (ix5 j b h r d) = ((vRow p h.val (128 * j.val + r.val) d.val : ℝ) : EReal)
  sums : ∀ (b : Fin 1) (h : Fin 4) (d e : Fin 128),
    s.main_v124_8 (ix4 b h d e) = ((headSum p h.val (128 * n) d.val e.val : ℝ) : EReal)
  rows : ∀ (j : Fin 64) (b : Fin 1) (h : Fin 4) (r e : Fin 128), j.val < n →
    s.main_v124_9 (ix5 j b h r e) = ((headRow p h.val (128 * j.val + r.val) e.val : ℝ) : EReal)

/-- The first state. -/
theorem holds_init (hp : Reads x p) : Holds p 0 (init x) where
  q j b h r d := (chunk_at _ j b h r d).trans (turned_queries hp _ _ _ _)
  k j b h r d := (chunk_at _ j b h r d).trans (turned_keys hp _ _ _ _)
  v j b h r d := (chunk_at _ j b h r d).trans (value_columns hp _ _ _ _)
  sums b h d e := by
    show K_main_v116 (F := Ideal) (ix4 b h d e) = _
    unfold K_main_v116 K_main_cst_13 headSum
    pointwise
    rw [state_zero]
    rfl
  rows j b h r e hj := absurd hj (Nat.not_lt_zero _)

/-- The block at trip `j` of chunked operands. -/
theorem block_at (X : (⟨S64x1x4x128x128, .f32⟩ : BufTy).Contents (Elt Ideal)) (start : Fin 5 → Int) (j : Fin 64)
    (h0 : start 0 = (j.val : Int)) (h1 : start 1 = 0) (h2 : start 2 = 0) (h3 : start 3 = 0) (h4 : start 4 = 0)
    (b : Fin 1) (h : Fin 4) (r d : Fin 128) :
    shapeCast S1x4x128x128 (Host.dynamicSlice S1x1x4x128x128 X start Gen.sliceFits_S64x1x4x128x128_S1x1x4x128x128)
      Gen.shapeCasts_S1x1x4x128x128_S1x4x128x128 (ix4 b h r d) = X (ix5 j b h r d) := by
  have hj := j.isLt
  obtain rfl : b = 0 := Subsingleton.elim _ _
  have hf : (S64x1x4x128x128 : Shape).Slices ![j.val, 0, 0, 0, 0] S1x1x4x128x128 := ⟨rfl, fun a => by
    fin_cases a
    · show j.val + 1 ≤ 64; omega
    · show 0 + 1 ≤ 1; omega
    · show 0 + 4 ≤ 4; omega
    · show 0 + 128 ≤ 128; omega
    · show 0 + 128 ≤ 128; omega⟩
  rw [Host.dynamicSlice_eq_extractStridedSlice _ _ _ ![j.val, 0, 0, 0, 0] _ hf (by
    intro a
    fin_cases a
    · exact h0
    · exact h1
    · exact h2
    · exact h3
    · exact h4)]
  pointwise

theorem trip_word {j : ℕ} (hj : j < 64) : (BitVec.ofNat 32 j).toInt = (j : Int) := toInt_ofNat_of_lt (by omega)

variable {s : State Ideal} {n : ℕ}

theorem queries_at (j : Fin 64) (b : Fin 1) (h : Fin 4) (r d : Fin 128) : b5 j.val s (ix4 b h r d) = s.main_v124_0 (ix5 j b h r d) :=
  block_at _ _ j (trip_word j.isLt) rfl rfl rfl rfl b h r d

theorem keys_at (j : Fin 64) (b : Fin 1) (h : Fin 4) (r d : Fin 128) : b11 j.val s (ix4 b h r d) = s.main_v124_1 (ix5 j b h r d) :=
  block_at _ _ j (trip_word j.isLt) rfl rfl rfl rfl b h r d

theorem values_at (j : Fin 64) (b : Fin 1) (h : Fin 4) (r d : Fin 128) : b17 j.val s (ix4 b h r d) = s.main_v124_2 (ix5 j b h r d) :=
  block_at _ _ j (trip_word j.isLt) rfl rfl rfl rfl b h r d

/-- A trip's rows are the retention's. -/
theorem trip_rows (H : Holds p n s) (hn : n < 64) (b : Fin 1) (h : Fin 4) (r e : Fin 128) :
    b25 n s (ix4 b h r e) = ((headRow p h.val (128 * n + r.val) e.val : ℝ) : EReal) := by
  simp only [b25, b24, b23, b22, b21, b20, b19, b18]
  pointwise
  simp only [queries_at ⟨n, hn⟩, keys_at ⟨n, hn⟩, values_at ⟨n, hn⟩, H.q, H.k, H.v, H.sums, mask_at, rowDecay_at,
    ← EReal.coe_mul, sum_coe, ← EReal.coe_add]
  unfold headRow
  rw [out_add _ _ _ _ (128 * n) 128 r.val e.val r.isLt]
  simp only [Finset.sum_range]
  rfl

/-- A trip's state is the sum over the tokens before its end. -/
theorem trip_sums (H : Holds p n s) (hn : n < 64) (b : Fin 1) (h : Fin 4) (d e : Fin 128) :
    b31 n s (ix4 b h d e) = ((headSum p h.val (128 * (n + 1)) d.val e.val : ℝ) : EReal) := by
  simp only [b31, b30, b29, b28, b27, b26]
  pointwise
  simp only [keys_at ⟨n, hn⟩, values_at ⟨n, hn⟩, H.k, H.v, H.sums, chunkDecay_at, keyDecay_at,
    ← EReal.coe_mul, sum_coe, ← EReal.coe_add]
  unfold headSum
  rw [show 128 * (n + 1) = 128 * n + 128 by omega, state_add _ _ _ (128 * n) 128]
  simp only [Finset.sum_range, Nat.cast_ofNat]

/-- A trip writes its rows at its place and leaves the others. -/
theorem trip_outputs (hn : n < 64) (j : Fin 64) (b : Fin 1) (h : Fin 4) (r e : Fin 128) :
    b37 n s (ix5 j b h r e) = if j.val = n then b25 n s (ix4 b h r e) else s.main_v124_9 (ix5 j b h r e) := by
  obtain rfl : b = 0 := Subsingleton.elim _ _
  have hf : (S64x1x4x128x128 : Shape).Slices ![n, 0, 0, 0, 0] S1x1x4x128x128 := ⟨rfl, fun a => by
    fin_cases a
    · show n + 1 ≤ 64; omega
    · show 0 + 1 ≤ 1; omega
    · show 0 + 4 ≤ 4; omega
    · show 0 + 128 ≤ 128; omega
    · show 0 + 128 ≤ 128; omega⟩
  unfold b37
  rw [Host.dynamicUpdateSlice_eq_updateSlice _ _ _ _ ![n, 0, 0, 0, 0] (by
    intro a
    fin_cases a
    · show (min (max (BitVec.ofNat 32 n).toInt 0) ((64 - 1 : ℕ) : Int)).toNat = n
      rw [trip_word hn]; omega
    all_goals rfl) hf]
  unfold b32
  generalize b25 n s = o
  pointwise
  by_cases hj : j.val = n
  · rw [if_pos hj, dif_pos ⟨by omega, by omega⟩]
  · rw [if_neg hj, dif_neg (fun hh => hj (by omega))]

/-- A trip takes the state before it to the state before the next. -/
theorem Holds.next (H : Holds p n s) (hn : n < 64) : Holds p (n + 1) (step n s) where
  q := H.q
  k := H.k
  v := H.v
  sums b h d e := by rw [step_main_v124_8, trip_sums H hn]
  rows j b h r e hj := by
    rw [step_main_v124_9, trip_outputs hn]
    split
    · rename_i hjn; rw [trip_rows H hn, hjn]
    · rename_i hjn; exact H.rows j b h r e (by omega)

theorem holds_after (hp : Reads x p) : ∀ n, n ≤ 64 → Holds p n (after x n)
  | 0, _ => holds_init hp
  | n + 1, hn => (holds_after hp n (by omega)).next (by omega)

/-! ## The result -/

/-- The reference's result: the gated and normalised retention rows. -/
theorem result (hp : Reads x p) (t : Fin 8192) (k : Fin 512) :
    R_main_v143 (after x 64) x (ix2 t k) = silu (x (ix2 t ⟨1536 + k.val, by omega⟩))
      * normed (headRow p (k.val / 128) t.val) (k.val % 128) := by
  have H := (holds_after hp 64 le_rfl).rows
  generalize after x 64 = s at H
  unfold R_main_v143
  pointwise
  have ht := t.isLt
  have hq : 128 * (t.val / 128) + t.val % 128 = t.val := by omega
  have H' : ∀ e : Fin 128, s.main_v124_9 (ix5 (⟨t.val / 128, by omega⟩ : Fin 64) (0 : Fin 1) (⟨k.val / 128, by omega⟩ : Fin 4)
      (⟨t.val % 128, by omega⟩ : Fin 128) e) = ((headRow p (k.val / 128) t.val e.val : ℝ) : EReal) := by
    intro e
    rw [H _ _ _ _ _ (by show t.val / 128 < 64; omega)]
    dsimp only
    rw [hq]
  simp only [H']
  rfl

end Cert.ReferenceIdeal.Retention
-- ==== Proof.Equation.lean ====
/-
  The two programs' results are equal. Where the precondition holds, the first 1536 columns of the argument are real
  numbers; both programs then write the same gated and normalised retention rows.
-/
module

public import proofs.«01_k».proof.Defs
public import proofs.«01_k».proof.Proof.Fold
public import proofs.«01_k».proof.Proof.RefValue
public import proofs.«01_k».proof.Proof.Gen.Pre_finite_qkv
public import Idealize.ShloMosaic.Init

@[expose] public section

set_option maxRecDepth 16384

noncomputable section

namespace Cert.Retention

open Idealize.ShloMosaic Idealize.ShloMosaic.TcCoe Idealize.SL.Sem

/-- The infinity's word. -/
theorem lit_inf : Ideal.ofBits .f32 0x7F800000#32 = ⊤ := by
  simp [Ideal.ofBits, Ideal.ieee]

/-- An extended real whose absolute value is below infinity is a real number. -/
theorem real_of_below {x : EReal} (h : BitVec.ofBool (decide (max x (-x) < ⊤)) = 1#1) : x = ((x.toReal : ℝ) : EReal) := by
  have h' : max x (-x) < ⊤ := by
    by_contra hn
    rw [decide_eq_false hn] at h
    exact absurd h (by decide)
  rw [max_lt_iff] at h'
  refine (EReal.coe_toReal h'.1.ne ?_).symm
  rintro rfl
  exact absurd h'.2 (by simp)

/-- The argument's real numbers. -/
def entries (X : (⟨2, ![8192, 6912]⟩ : Shape).Idx → EReal) (t c : ℕ) : ℝ :=
  if h : t < 8192 ∧ c < 6912 then (X (ix2 ⟨t, h.1⟩ ⟨c, h.2⟩)).toReal else 0

/-- Under the precondition the first 1536 columns are the argument's real numbers. -/
theorem reads_of_finite (X : FVec Ideal Cert.Pre_finite_qkv.S8192x6912 .f32)
    (h : Cert.Pre_finite_qkv.fn (F := Ideal) X = fun _ => 1#1) (t : Fin 8192) (k : Fin 6912) (hk : k.val < 1536) :
    X (ix2 t k) = ((entries X t.val k.val : ℝ) : EReal) := by
  have e := congrFun h (ix2 t ⟨k.val, hk⟩)
  unfold Cert.Pre_finite_qkv.fn at e
  pointwise at e
  rw [lit_inf] at e
  unfold entries
  rw [dif_pos ⟨t.isLt, k.isLt⟩]
  exact real_of_below e

/-- The precondition as the two modules read it. -/
theorem results_equal (m : (ℓ : Loc Cert.KernelIdeal.nD Cert.KernelIdeal.τ Cert.KernelIdeal.sig) → Buf (Elt Ideal) ℓ)
    (c : Dev Cert.KernelIdeal.nD)
    (h : Cert.Pre_finite_qkv.fn (F := Ideal) (m ((c.tc : Thread Cert.KernelIdeal.nD Cert.KernelIdeal.τ).loc Cert.KernelIdeal.main_arg0))
      = fun _ => 1#1) :
    Cert.ReferenceIdeal.Step.R_main_v143
        (Cert.ReferenceIdeal.Retention.after (m ((c.tc : Thread Cert.KernelIdeal.nD Cert.KernelIdeal.τ).loc Cert.KernelIdeal.main_arg0)) 64)
        (m ((c.tc : Thread Cert.KernelIdeal.nD Cert.KernelIdeal.τ).loc Cert.KernelIdeal.main_arg0))
      = Cert.KernelIdeal.Value.G10 m c := by
  have hp := reads_of_finite _ h
  funext i
  rw [eq_ix2 i]
  exact (Cert.ReferenceIdeal.Retention.result (x := m ((c.tc : Thread Cert.KernelIdeal.nD Cert.KernelIdeal.τ).loc Cert.KernelIdeal.main_arg0)) hp (i 0) (i 1)).trans
    (Cert.KernelIdeal.Retention.result m c hp (i 0) (i 1)).symm

/-- The equation of the two runs. -/
theorem equation : Cert.algebraic_KernelIdeal_ReferenceIdeal_pre_finite_qkv := by
  intro m g m' g' hpre hagree
  refine ⟨fun c => Cert.KernelIdeal.Value.G10 m c, Cert.KernelIdeal.Value.run m g, ?_⟩
  refine (θ_run Cert.ReferenceIdeal.defs _ _).mono (fun r hr c => ⟨?_, (hr c).2⟩) (Cert.ReferenceIdeal.Retention.run m' g')
  refine (hr c).1.trans ?_
  rw [hagree c]
  exact results_equal m c (hpre c)

/-- The reference's frame: its run leaves the argument, and it declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Retention.run m g)

end Cert.Retention
-- ==== Proof.InProj.lean ====
/-
  The input projection. A row tile's first point normalizes the tile's rows into a scratch; each point multiplies them by a
  column tile of the packed weights.
-/
module

public import proofs.«01_k».proof.Proof.Gen.Kernel2Ideal.Value
public import Idealize.ShloMosaic.Lib.Pipeline.Value
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel2Ideal.InProj

open Idealize.ShloMosaic Idealize.ShloMosaic.TcCoe Idealize.SL.Sem
open Cert.Kernel2Ideal Cert.Kernel2Ideal.Gen Cert.Kernel2Ideal.Value

theorem hz2 : (![0, 0] : Fin 2 → Nat) = fun _ => 0 := by decide

section Steps

variable {F : FTy → Type} [FloatOps F]
variable (m : (ℓ : Loc nD τ sig) → Buf (Elt F) ℓ) (c : Dev nD)

/-- A first point of a row tile normalizes its rows into the scratch. -/
theorem step_first (t : Fin cfg0.N) (h0 : t.val % 9 = 0) :
    outsAt0 m c t.val t.isLt
      = (k0_pay2 (k0_pay1 (iblk m c 0 t) (iblk m c 1 t)) (iblk m c 2 t), k0_pay1 (iblk m c 0 t) (iblk m c 1 t)) := by
  rw [outsAt0_A m c t h0]
  refine congrArg₂ Prod.mk ?_ ?_
  · unfold out0_A_3
    rw [View.read_writes_eq_canon _ _ _ (fun _ => cover0_A_3 ..)]
    unfold kernelRun0_A
    dsimp only
    sl_unfold_words
    rw [View.canon_unit_zero hz2]
    simp only [View.readAt_eq_ld, (hs0_0 t).read_unread, (hs0_1 t).read_unread, (hs0_2 t).read_unread,
      View.ld_unit_zero (S := S1024x2048) hz2, View.ld_unit_zero (S := S1x2048) hz2, View.ld_unit_zero (S := S2048x768) hz2,
      View.readCov_fill scM0_0.view inb_S1024x2048_S1024x2048_0_0 _ _ _ (fun a => congrFun hz2 a)]
  · unfold sout0_A_0
    rw [View.read_writes_eq_canon _ _ _ (fun _ => scover0_A_0 ..)]
    unfold kernelRun0_A
    dsimp only
    sl_unfold_words
    rw [View.canon_unit_zero hz2]
    simp only [View.readAt_eq_ld, (hs0_0 t).read_unread, (hs0_1 t).read_unread, View.ld_unit_zero (S := S1024x2048) hz2,
      View.ld_unit_zero (S := S1x2048) hz2]

/-- A later point keeps the scratch. -/
theorem step_next (t : Fin cfg0.N) (h0 : ¬t.val % 9 = 0) :
    outsAt0 m c t.val t.isLt
      = (k0_pay2 (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h0]
  refine congrArg₂ Prod.mk ?_ ?_
  · unfold out0_B_3
    rw [View.read_writes_eq_canon _ _ _ (fun _ => cover0_B_3 ..)]
    unfold kernelRun0_B
    dsimp only
    sl_unfold_words
    rw [View.canon_unit_zero hz2]
    simp only [View.readAt_eq_ld, (hs0_2 t).read_unread, (Memref.isWhole_whole _).read_unread,
      View.ld_unit_zero (S := S1024x2048) hz2, View.ld_unit_zero (S := S2048x768) hz2]
  · rfl

end Steps

variable (m : (ℓ : Loc nD τ sig) → Buf (Elt Ideal) ℓ) (c : Dev nD)

abbrev stream : S8192x2048.Idx → EReal := m ((c : Thread nD τ).loc main_arg0)
abbrev gain : S2048.Idx → EReal := m ((c : Thread nD τ).loc main_arg1)
abbrev weights : S2048x6912.Idx → EReal := m ((c : Thread nD τ).loc main_arg2)

theorem place_2 : ∀ t : Fin cfg0.N, win0_2.index t (0 : Fin 2) = 0 ∧ win0_2.index t (1 : Fin 2) = t.val % 9 :=
  (by decide +kernel : ∀ t : Fin grid0.N, _)
theorem place_0 : ∀ t : Fin cfg0.N, win0_0.index t (0 : Fin 2) = t.val / 9 ∧ win0_0.index t (1 : Fin 2) = 0 :=
  (by decide +kernel : ∀ t : Fin grid0.N, _)
theorem place_1 : ∀ t : Fin cfg0.N, win0_1.index t (0 : Fin 2) = 0 ∧ win0_1.index t (1 : Fin 2) = 0 :=
  (by decide +kernel : ∀ t : Fin grid0.N, _)

/-- The row and the column of a point's places. -/
abbrev row (n : ℕ) (r : Fin 1024) : Fin 8192 := ⟨(1024 * (n / 9) + r.val) % 8192, Nat.mod_lt _ (by decide)⟩
abbrev col (n : ℕ) (e : Fin 768) : Fin 6912 := ⟨768 * (n % 9) + e.val, by omega⟩

theorem block_0 (t : Fin cfg0.N) (r : Fin 1024) (k : Fin 2048) :
    iblk m c 0 t (ix2 r k) = stream m c (ix2 (row t.val r) k) := by
  have ht := lt_of_lt_of_eq t.isLt N_0
  obtain ⟨h0, h1⟩ := place_0 t
  unfold iblk
  refine Eq.trans (congrArg (V m c main_arg0) (funext fun a => Fin.ext ?_)) (congrFun (V_main_arg0 m c) _)
  match a with
  | ⟨0, _⟩ =>
    show win0_0.index t (0 : Fin 2) * 1024 + 1 * r.val = (1024 * (t.val / 9) + r.val) % 8192
    rw [h0]; omega
  | ⟨1, _⟩ =>
    show win0_0.index t (1 : Fin 2) * 2048 + 1 * k.val = k.val
    rw [h1]; omega

/-- The gain as the host lays it out. -/
theorem gain_at (k : Fin 2048) : V m c main_v0 (ix2 0 k) = gain m c (ix1 k) := by
  unfold V
  after_reads_at

theorem block_1 (t : Fin cfg0.N) (k : Fin 2048) : iblk m c 1 t (ix2 0 k) = gain m c (ix1 k) := by
  obtain ⟨h0, h1⟩ := place_1 t
  rw [← gain_at]
  unfold iblk
  refine congrArg (V m c main_v0) (funext fun a => Fin.ext ?_)
  match a with
  | ⟨0, _⟩ =>
    show win0_1.index t (0 : Fin 2) * 1 + 1 * 0 = 0
    rw [h0]
  | ⟨1, _⟩ =>
    show win0_1.index t (1 : Fin 2) * 2048 + 1 * k.val = k.val
    rw [h1]; omega

theorem block_2 (t : Fin cfg0.N) (k : Fin 2048) (e : Fin 768) :
    iblk m c 2 t (ix2 k e) = weights m c (ix2 k (col t.val e)) := by
  obtain ⟨h0, h1⟩ := place_2 t
  unfold iblk
  refine Eq.trans (congrArg (V m c main_arg2) (funext fun a => Fin.ext ?_)) (congrFun (V_main_arg2 m c) _)
  match a with
  | ⟨0, _⟩ =>
    show win0_2.index t (0 : Fin 2) * 2048 + 1 * k.val = k.val
    rw [h0]; omega
  | ⟨1, _⟩ =>
    show win0_2.index t (1 : Fin 2) * 768 + 1 * e.val = 768 * (t.val % 9) + e.val
    rw [h1]; omega

/-- A normalized entry of the stream. -/
def normed (i : Fin 8192) (k : Fin 2048) : EReal :=
  stream m c (ix2 i k)
    * Ideal.rsqrt (Ideal.div (∑ k : Fin 2048, stream m c (ix2 i k) * stream m c (ix2 i k)) (FloatOps.ofBits (F := Ideal) (φ := .f32) 0x45000000#32) + FloatOps.ofBits (F := Ideal) (φ := .f32) 0x358637BD#32)
    * gain m c (ix1 k)

/-- An entry of the result: the product of the normalized rows with the weights. -/
def value (i : Fin 8192) (j : Fin 6912) : EReal := ∑ k : Fin 2048, normed m c i k * weights m c (ix2 k j)

/-- What a first point puts into the scratch. -/
theorem filled (t : Fin cfg0.N) (r : Fin 1024) (k : Fin 2048) :
    k0_pay1 (F := Ideal) (iblk m c 0 t) (iblk m c 1 t) (ix2 r k) = normed m c (row t.val r) k := by
  unfold normed
  simp only [k0_pay1]
  pointwise
  simp only [block_0, block_1]

/-- After every point the scratch holds the normalized rows of the point's row tile. -/
theorem scratch : ∀ (n : ℕ) (h : n < cfg0.N) (r : Fin 1024) (k : Fin 2048),
    (outsAt0 m c n h).2 (ix2 r k) = normed m c (row n r) k
  | 0, h, r, k => (congrFun (congrArg Prod.snd (step_first m c ⟨0, h⟩ rfl)) (ix2 r k)).trans (filled m c ⟨0, h⟩ r k)
  | n + 1, h, r, k => by
    by_cases h0 : (n + 1) % 9 = 0
    · exact (congrFun (congrArg Prod.snd (step_first m c ⟨n + 1, h⟩ h0)) (ix2 r k)).trans (filled m c ⟨n + 1, h⟩ r k)
    · refine (congrFun (congrArg Prod.snd (step_next m c ⟨n + 1, h⟩ h0)) (ix2 r k)).trans ?_
      refine (scratch n (by omega) r k).trans ?_
      rw [show row n r = row (n + 1) r from Fin.ext (by
        show (1024 * (n / 9) + r.val) % 8192 = (1024 * ((n + 1) / 9) + r.val) % 8192
        rw [show (n + 1) / 9 = n / 9 by omega])]

/-- A point's tile, over a scratch that holds the normalized rows. -/
theorem tile_value (t : Fin cfg0.N) (H : Vec Ideal S1024x2048 .bf16)
    (hH : ∀ (r : Fin 1024) (k : Fin 2048), H (ix2 r k) = normed m c (row t.val r) k) (r : Fin 1024) (e : Fin 768) :
    k0_pay2 (F := Ideal) H (iblk m c 2 t) (ix2 r e) = value m c (row t.val r) (col t.val e) := by
  unfold value
  simp only [k0_pay2]
  pointwise
  simp only [block_2, hH]

/-- What every point writes back. -/
theorem written : ∀ (n : ℕ) (h : n < cfg0.N) (r : Fin 1024) (e : Fin 768),
    (outsAt0 m c n h).1 (ix2 r e) = value m c (row n r) (col n e)
  | 0, h, r, e => (congrFun (congrArg Prod.fst (step_first m c ⟨0, h⟩ rfl)) (ix2 r e)).trans
      (tile_value m c ⟨0, h⟩ _ (filled m c ⟨0, h⟩) r e)
  | n + 1, h, r, e => by
    by_cases h0 : (n + 1) % 9 = 0
    · exact (congrFun (congrArg Prod.fst (step_first m c ⟨n + 1, h⟩ h0)) (ix2 r e)).trans
        (tile_value m c ⟨n + 1, h⟩ _ (filled m c ⟨n + 1, h⟩) r e)
    · have hs := step_next m c ⟨n + 1, h⟩ h0
      refine (congrFun (congrArg Prod.fst hs) (ix2 r e)).trans (tile_value m c ⟨n + 1, h⟩ _ (fun r k => ?_) r e)
      exact (congrFun (congrArg Prod.snd hs) (ix2 r k)).symm.trans (scratch m c (n + 1) h r k)

/-- The array after the run. -/
theorem result (i : Fin 8192) (j : Fin 6912) : G3 m c (ix2 i j) = value m c i j := by
  have hp : pt3Of (ix2 i j) = j.val / 768 + 9 * (i.val / 1024) := by
    show 9 * (i.val / 1024 - 0) + 1 * (j.val / 768 - 0) = _
    omega
  have hN : pt3Of (ix2 i j) < cfg0.N := by rw [hp, show cfg0.N = 72 from N_0]; omega
  unfold G3
  rw [dif_pos hN, ← outsAt0_sweep m c _ hN]
  have hl : loc3Of (ix2 i j) = ix2 ⟨i.val % 1024, Nat.mod_lt _ (by decide)⟩ ⟨j.val % 768, Nat.mod_lt _ (by decide)⟩ := eq_ix2 _
  rw [hl, written]
  refine congrArg₂ (value m c) (Fin.ext ?_) (Fin.ext ?_)
  · show (1024 * (pt3Of (ix2 i j) / 9) + i.val % 1024) % 8192 = i.val
    rw [hp]; omega
  · show 768 * (pt3Of (ix2 i j) % 9) + j.val % 768 = j.val
    rw [hp]; omega

end Cert.Kernel2Ideal.InProj
-- ==== Proof.InProjEquation.lean ====
/-
  The reference's input projection, entry by entry, and the equation of the two programs.
-/
module

public import proofs.«01_k».proof.Defs
public import proofs.«01_k».proof.Proof.InProj
public import proofs.«01_k».proof.Proof.Gen.Reference2Ideal.Run
public import Idealize.ShloMosaic.Init

@[expose] public section

set_option maxRecDepth 16384

noncomputable section

namespace Cert.InProj

open Idealize.ShloMosaic Idealize.ShloMosaic.TcCoe Idealize.SL.Sem

/-- The equation of the two runs. -/
theorem equation : Cert.algebraic_Kernel2Ideal_Reference2Ideal := by
  intro m g m' g' _ hagree
  refine ⟨fun c => Cert.Kernel2Ideal.Value.G3 m c, Cert.Kernel2Ideal.Value.run m g,
    (θ_run Cert.Reference2Ideal.defs _ _).mono (fun r hr c => ⟨(hr c).1.trans ?_, (hr c).2⟩) (Cert.Reference2Ideal.Value.run m' g')⟩
  rw [(hagree c).1, (hagree c).2.1, (hagree c).2.2]
  funext i
  rw [eq_ix2 i]
  refine Eq.trans ?_ (Cert.Kernel2Ideal.InProj.result m c (i 0) (i 1)).symm
  unfold Cert.Kernel2Ideal.InProj.value Cert.Kernel2Ideal.InProj.normed
  pointwise

/-- The reference's frame: its run leaves the arguments, and it declares no semaphore. -/
theorem reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

end Cert.InProj
-- ==== Proof.OutProj.lean ====
/-
  The output projection. The kernel keeps a column tile's weights in a scratch, which the tile's first point fills; each
  point adds three products, one for each mixer's columns, and the residual.
-/
module

public import proofs.«01_k».proof.Proof.Gen.Kernel3Ideal.Value
public import Idealize.ShloMosaic.Lib.Pipeline.Value
public import Idealize.ShloMosaic.Lib.Pipeline.ReadBack
public import Idealize.ShloMosaic.Lib.Pointwise

@[expose] public section

set_option maxRecDepth 16384

noncomputable section

namespace Cert.Kernel3Ideal.OutProj

open Idealize.ShloMosaic Idealize.ShloMosaic.TcCoe Idealize.SL.Sem
open Cert.Kernel3Ideal Cert.Kernel3Ideal.Gen Cert.Kernel3Ideal.Value

theorem hz2 : (![0, 0] : Fin 2 → Nat) = fun _ => 0 := by decide
theorem hz3 : (![0, 0, 0] : Fin 3 → Nat) = fun _ => 0 := by decide

section Steps

variable {F : FTy → Type} [FloatOps F]
variable (m : (ℓ : Loc nD τ sig) → Buf (Elt F) ℓ) (c : Dev nD)

/-- A point's tile, from the scratch's weights. -/
def tile (t : Fin cfg0.N) (W : Vec F S2048x1024 .bf16) : Vec F S1024x1024 .f32 :=
  k0_pay2 (iblk m c 0 t) (View.ld W (Rect.unit (s := S2048x1024) ![0, 0] S512x1024.size inb_S2048x1024_S512x1024_0_0))
    (iblk m c 1 t) (View.ld W (Rect.unit (s := S2048x1024) ![512, 0] S512x1024.size inb_S2048x1024_S512x1024_512_0))
    (iblk m c 2 t) (View.ld W (Rect.unit (s := S2048x1024) ![1024, 0] S1024x1024.size inb_S2048x1024_S1024x1024_1024_0))
    (iblk m c 4 t)

/-- A first point of a column tile fills the scratch. -/
theorem step_first (t : Fin cfg0.N) (h0 : t.val % 8 = 0) :
    outsAt0 m c t.val t.isLt = (tile m c t (k0_pay1 (iblk m c 3 t)), k0_pay1 (iblk m c 3 t)) := by
  rw [outsAt0_A m c t h0]
  refine congrArg₂ Prod.mk ?_ ?_
  · unfold out0_A_5
    rw [View.read_writes_eq_canon _ _ _ (fun _ => cover0_A_5 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread,
      (hs0_4 t).read_unread, View.ld_unit_zero (S := S1024x512) hz2, View.ld_unit_zero (S := S1x2048x1024) hz3,
      View.ld_unit_zero (S := S1024x1024) hz2,
      View.readCov_fill scM0_0.view inb_S2048x1024_S2048x1024_0_0 _ _ _ (fun a => congrFun hz2 a)]
    rfl
  · unfold sout0_A_0
    rw [View.read_writes_eq_canon _ _ _ (fun _ => scover0_A_0 ..)]
    unfold kernelRun0_A
    dsimp only
    sl_unfold_words
    rw [View.canon_unit_zero hz2]
    simp only [View.readAt_eq_ld, (hs0_3 t).read_unread, View.ld_unit_zero (S := S1x2048x1024) hz3]

/-- A later point keeps the scratch. -/
theorem step_next (t : Fin cfg0.N) (h0 : ¬t.val % 8 = 0) :
    outsAt0 m c t.val t.isLt
      = (tile m c t (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  refine congrArg₂ Prod.mk ?_ ?_
  · unfold out0_B_5
    rw [View.read_writes_eq_canon _ _ _ (fun _ => cover0_B_5 ..)]
    unfold kernelRun0_B
    dsimp only
    sl_unfold_words
    rw [View.canon_unit_zero hz2]
    simp only [View.readAt_eq_ld, (hs0_0 t).read_unread, (hs0_1 t).read_unread, (hs0_2 t).read_unread,
      (hs0_4 t).read_unread, (Memref.isWhole_whole _).read_unread, View.ld_unit_zero (S := S1024x512) hz2,
      View.ld_unit_zero (S := S1024x1024) hz2]
    rfl
  · rfl

end Steps

variable (m : (ℓ : Loc nD τ sig) → Buf (Elt Ideal) ℓ) (c : Dev nD)

abbrev ret : S8192x512.Idx → EReal := m ((c : Thread nD τ).loc main_arg0)
abbrev rwkv : S8192x512.Idx → EReal := m ((c : Thread nD τ).loc main_arg1)
abbrev nsa : S8192x1024.Idx → EReal := m ((c : Thread nD τ).loc main_arg2)
abbrev residual : S8192x2048.Idx → EReal := m ((c : Thread nD τ).loc main_arg3)
abbrev weights : S2x2048x2048.Idx → EReal := m ((c : Thread nD τ).loc main_arg4)

theorem place_0 : ∀ t : Fin cfg0.N, win0_0.index t (0 : Fin 2) = t.val % 8 ∧ win0_0.index t (1 : Fin 2) = 0 :=
  (by decide +kernel : ∀ t : Fin grid0.N, _)
theorem place_1 : ∀ t : Fin cfg0.N, win0_1.index t (0 : Fin 2) = t.val % 8 ∧ win0_1.index t (1 : Fin 2) = 0 :=
  (by decide +kernel : ∀ t : Fin grid0.N, _)
theorem place_2 : ∀ t : Fin cfg0.N, win0_2.index t (0 : Fin 2) = t.val % 8 ∧ win0_2.index t (1 : Fin 2) = 0 :=
  (by decide +kernel : ∀ t : Fin grid0.N, _)
theorem place_3 : ∀ t : Fin cfg0.N, win0_3.index t (0 : Fin 3) = 1 ∧ win0_3.index t (1 : Fin 3) = 0
    ∧ win0_3.index t (2 : Fin 3) = t.val / 8 :=
  (by decide +kernel : ∀ t : Fin grid0.N, _)
theorem place_4 : ∀ t : Fin cfg0.N, win0_4.index t (0 : Fin 2) = t.val % 8 ∧ win0_4.index t (1 : Fin 2) = t.val / 8 :=
  (by decide +kernel : ∀ t : Fin grid0.N, _)

/-- The row and the column of a point's places. -/
abbrev row (n : ℕ) (r : Fin 1024) : Fin 8192 := ⟨1024 * (n % 8) + r.val, by omega⟩
abbrev col (n : ℕ) (e : Fin 1024) : Fin 2048 := ⟨(1024 * (n / 8) + e.val) % 2048, Nat.mod_lt _ (by decide)⟩

theorem block_0 (t : Fin cfg0.N) (r : Fin 1024) (k : Fin 512) : iblk m c 0 t (ix2 r k) = ret m c (ix2 (row t.val r) k) := by
  obtain ⟨h0, h1⟩ := place_0 t
  unfold iblk
  refine congrArg (V m c main_arg0) (funext fun a => Fin.ext ?_)
  match a with
  | ⟨0, _⟩ =>
    show win0_0.index t (0 : Fin 2) * 1024 + 1 * r.val = 1024 * (t.val % 8) + r.val
    rw [h0]; omega
  | ⟨1, _⟩ =>
    show win0_0.index t (1 : Fin 2) * 512 + 1 * k.val = k.val
    rw [h1]; omega

theorem block_1 (t : Fin cfg0.N) (r : Fin 1024) (k : Fin 512) : iblk m c 1 t (ix2 r k) = rwkv m c (ix2 (row t.val r) k) := by
  obtain ⟨h0, h1⟩ := place_1 t
  unfold iblk
  refine congrArg (V m c main_arg1) (funext fun a => Fin.ext ?_)
  match a with
  | ⟨0, _⟩ =>
    show win0_1.index t (0 : Fin 2) * 1024 + 1 * r.val = 1024 * (t.val % 8) + r.val
    rw [h0]; omega
  | ⟨1, _⟩ =>
    show win0_1.index t (1 : Fin 2) * 512 + 1 * k.val = k.val
    rw [h1]; omega

theorem block_2 (t : Fin cfg0.N) (r k : Fin 1024) : iblk m c 2 t (ix2 r k) = nsa m c (ix2 (row t.val r) k) := by
  obtain ⟨h0, h1⟩ := place_2 t
  unfold iblk
  refine congrArg (V m c main_arg2) (funext fun a => Fin.ext ?_)
  match a with
  | ⟨0, _⟩ =>
    show win0_2.index t (0 : Fin 2) * 1024 + 1 * r.val = 1024 * (t.val % 8) + r.val
    rw [h0]; omega
  | ⟨1, _⟩ =>
    show win0_2.index t (1 : Fin 2) * 1024 + 1 * k.val = k.val
    rw [h1]; omega

theorem block_3 (t : Fin cfg0.N) (k : Fin 2048) (e : Fin 1024) :
    iblk m c 3 t (ix3 0 k e) = weights m c (ix3 1 k (col t.val e)) := by
  have ht := lt_of_lt_of_eq t.isLt N_0
  obtain ⟨h0, h1, h2⟩ := place_3 t
  unfold iblk
  refine congrArg (V m c main_arg4) (funext fun a => Fin.ext ?_)
  match a with
  | ⟨0, _⟩ =>
    show win0_3.index t (0 : Fin 3) * 1 + 1 * 0 = 1
    rw [h0]
  | ⟨1, _⟩ =>
    show win0_3.index t (1 : Fin 3) * 2048 + 1 * k.val = k.val
    rw [h1]; omega
  | ⟨2, _⟩ =>
    show win0_3.index t (2 : Fin 3) * 1024 + 1 * e.val = (1024 * (t.val / 8) + e.val) % 2048
    rw [h2]; omega

theorem block_4 (t : Fin cfg0.N) (r e : Fin 1024) :
    iblk m c 4 t (ix2 r e) = residual m c (ix2 (row t.val r) (col t.val e)) := by
  have ht := lt_of_lt_of_eq t.isLt N_0
  obtain ⟨h0, h1⟩ := place_4 t
  unfold iblk
  refine congrArg (V m c main_arg3) (funext fun a => Fin.ext ?_)
  match a with
  | ⟨0, _⟩ =>
    show win0_4.index t (0 : Fin 2) * 1024 + 1 * r.val = 1024 * (t.val % 8) + r.val
    rw [h0]; omega
  | ⟨1, _⟩ =>
    show win0_4.index t (1 : Fin 2) * 1024 + 1 * e.val = (1024 * (t.val / 8) + e.val) % 2048
    rw [h1]; omega

/-- The weights that a first point puts into the scratch. -/
theorem filled (t : Fin cfg0.N) (k : Fin 2048) (e : Fin 1024) :
    k0_pay1 (F := Ideal) (iblk m c 3 t) (ix2 k e) = weights m c (ix3 1 k (col t.val e)) := by
  rw [← block_3]
  simp only [k0_pay1]
  pointwise

/-- After every point the scratch holds the weights of the point's column tile. -/
theorem scratch : ∀ (n : ℕ) (h : n < cfg0.N) (k : Fin 2048) (e : Fin 1024),
    (outsAt0 m c n h).2 (ix2 k e) = weights m c (ix3 1 k (col n e))
  | 0, h, k, e => (congrFun (congrArg Prod.snd (step_first m c ⟨0, h⟩ rfl)) (ix2 k e)).trans (filled m c ⟨0, h⟩ k e)
  | n + 1, h, k, e => by
    by_cases h0 : (n + 1) % 8 = 0
    · exact (congrFun (congrArg Prod.snd (step_first m c ⟨n + 1, h⟩ h0)) (ix2 k e)).trans (filled m c ⟨n + 1, h⟩ k e)
    · refine (congrFun (congrArg Prod.snd (step_next m c ⟨n + 1, h⟩ h0)) (ix2 k e)).trans ?_
      refine (scratch n (by omega) k e).trans ?_
      rw [show col n e = col (n + 1) e from Fin.ext (by
        show (1024 * (n / 8) + e.val) % 2048 = (1024 * ((n + 1) / 8) + e.val) % 2048
        rw [show (n + 1) / 8 = n / 8 by omega])]

/-- The three mixers' outputs beside one another. -/
def mixed (i : Fin 8192) (k : Fin 2048) : EReal :=
  if h : k.val < 512 then ret m c (ix2 i ⟨k.val, h⟩)
  else if h' : k.val < 1024 then rwkv m c (ix2 i ⟨k.val - 512, by omega⟩)
  else nsa m c (ix2 i ⟨k.val - 1024, by omega⟩)

/-- An entry of the result: the residual and the product of the mixers' outputs with the weights. -/
def value (i : Fin 8192) (j : Fin 2048) : EReal :=
  residual m c (ix2 i j) + ∑ k : Fin 2048, mixed m c i k * weights m c (ix3 1 k j)

/-- A sum over the 2048 columns, mixer by mixer. -/
theorem sum_mixers (f : Fin 2048 → EReal) :
    ∑ k, f k = (∑ k : Fin 512, f ⟨k.val, by omega⟩ + ∑ k : Fin 512, f ⟨512 + k.val, by omega⟩)
      + ∑ k : Fin 1024, f ⟨1024 + k.val, by omega⟩ := by
  refine (Fin.sum_univ_add (a := 1024) (b := 1024) f).trans (congrArg₂ (· + ·) ?_ rfl)
  exact Fin.sum_univ_add (a := 512) (b := 512) fun k => f (Fin.castAdd 1024 k)

/-- A point's tile, over weights that are the layer's. -/
theorem tile_value (t : Fin cfg0.N) (W : Vec Ideal S2048x1024 .bf16)
    (hW : ∀ (k : Fin 2048) (e : Fin 1024), W (ix2 k e) = weights m c (ix3 1 k (col t.val e))) (r e : Fin 1024) :
    tile m c t W (ix2 r e) = value m c (row t.val r) (col t.val e) := by
  unfold value
  rw [sum_mixers, ← block_4, add_comm]
  simp only [tile, k0_pay2, View.ld_unit]
  pointwise
  refine congrArg₂ (· + ·) (congrArg₂ (· + ·) (congrArg₂ (· + ·) ?_ ?_) ?_) rfl
  · refine Finset.sum_congr rfl fun k _ => ?_
    rw [block_0, hW]
    unfold mixed
    rw [dif_pos k.isLt]
  · refine Finset.sum_congr rfl fun k _ => ?_
    rw [block_1, hW]
    unfold mixed
    rw [dif_neg (by show ¬512 + k.val < 512; omega), dif_pos (by show 512 + k.val < 1024; omega)]
    rw [show (⟨512 + k.val - 512, by omega⟩ : Fin 512) = k from Fin.ext (by show 512 + k.val - 512 = k.val; omega)]
  · refine Finset.sum_congr rfl fun k _ => ?_
    rw [block_2, hW]
    unfold mixed
    rw [dif_neg (by show ¬1024 + k.val < 512; omega), dif_neg (by show ¬1024 + k.val < 1024; omega)]
    rw [show (⟨1024 + k.val - 1024, by omega⟩ : Fin 1024) = k from Fin.ext (by show 1024 + k.val - 1024 = k.val; omega)]

/-- What every point writes back. -/
theorem written : ∀ (n : ℕ) (h : n < cfg0.N) (r e : Fin 1024),
    (outsAt0 m c n h).1 (ix2 r e) = value m c (row n r) (col n e)
  | 0, h, r, e => (congrFun (congrArg Prod.fst (step_first m c ⟨0, h⟩ rfl)) (ix2 r e)).trans
      (tile_value m c ⟨0, h⟩ _ (filled m c ⟨0, h⟩) r e)
  | n + 1, h, r, e => by
    by_cases h0 : (n + 1) % 8 = 0
    · exact (congrFun (congrArg Prod.fst (step_first m c ⟨n + 1, h⟩ h0)) (ix2 r e)).trans
        (tile_value m c ⟨n + 1, h⟩ _ (filled m c ⟨n + 1, h⟩) r e)
    · have hs := step_next m c ⟨n + 1, h⟩ h0
      refine (congrFun (congrArg Prod.fst hs) (ix2 r e)).trans (tile_value m c ⟨n + 1, h⟩ _ (fun k e => ?_) r e)
      exact (congrFun (congrArg Prod.snd hs) (ix2 k e)).symm.trans (scratch m c (n + 1) h k e)

/-- The array after the run. -/
theorem result (i : Fin 8192) (j : Fin 2048) : G5 m c (ix2 i j) = value m c i j := by
  have hp : pt5Of (ix2 i j) = i.val / 1024 + 8 * (j.val / 1024) := by
    show 1 * (i.val / 1024 - 0) + 8 * (j.val / 1024 - 0) = _
    omega
  have hN : pt5Of (ix2 i j) < cfg0.N := by rw [hp, show cfg0.N = 16 from N_0]; omega
  unfold G5
  rw [dif_pos hN, ← outsAt0_sweep m c _ hN]
  have hl : loc5Of (ix2 i j) = ix2 ⟨i.val % 1024, Nat.mod_lt _ (by decide)⟩ ⟨j.val % 1024, Nat.mod_lt _ (by decide)⟩ := eq_ix2 _
  rw [hl, written]
  refine congrArg₂ (value m c) (Fin.ext ?_) (Fin.ext ?_)
  · show 1024 * (pt5Of (ix2 i j) % 8) + i.val % 1024 = i.val
    rw [hp]; omega
  · show (1024 * (pt5Of (ix2 i j) / 8) + j.val % 1024) % 2048 = j.val
    rw [hp]; omega

end Cert.Kernel3Ideal.OutProj
-- ==== Proof.OutProjEquation.lean ====
/-
  The reference's output projection, entry by entry, and the equation of the two programs.
-/
module

public import proofs.«01_k».proof.Defs
public import proofs.«01_k».proof.Proof.OutProj
public import proofs.«01_k».proof.Proof.Gen.Reference3Ideal.Run
public import Idealize.ShloMosaic.Init

@[expose] public section

set_option maxRecDepth 16384

noncomputable section

namespace Cert.OutProj

open Idealize.ShloMosaic Idealize.ShloMosaic.TcCoe Idealize.SL.Sem

/-- The equation of the two runs. -/
theorem equation : Cert.algebraic_Kernel3Ideal_Reference3Ideal := by
  intro m g m' g' _ hagree
  refine ⟨fun c => Cert.Kernel3Ideal.Value.G5 m c, Cert.Kernel3Ideal.Value.run m g,
    (θ_run Cert.Reference3Ideal.defs _ _).mono (fun r hr c => ⟨(hr c).1.trans ?_, (hr c).2⟩) (Cert.Reference3Ideal.Value.run m' g')⟩
  rw [(hagree c).1, (hagree c).2.1, (hagree c).2.2.1, (hagree c).2.2.2.1, (hagree c).2.2.2.2]
  funext i
  rw [eq_ix2 i]
  refine Eq.trans ?_ (Cert.Kernel3Ideal.OutProj.result m c (i 0) (i 1)).symm
  unfold Cert.Kernel3Ideal.OutProj.value
  pointwise
  refine congrArg₂ (· + ·) rfl (Finset.sum_congr rfl fun k _ => congrArg₂ (· * ·) ?_ rfl)
  unfold Cert.Kernel3Ideal.OutProj.mixed
  by_cases h : k.val < 512
  · rw [dif_pos h, dif_pos h]
  · rw [dif_neg h, dif_neg h]
    by_cases h' : k.val < 1024
    · rw [dif_pos (by omega : k.val - 512 < 512), dif_pos h']
    · rw [dif_neg (by omega : ¬k.val - 512 < 512), dif_neg h']
      exact congrArg _ (congrArg (ix2 (i 0)) (Fin.ext (by show k.val - 512 - 512 = k.val - 1024; omega)))

/-- The reference's frame: its run leaves the arguments, and it declares no semaphore. -/
theorem reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

end Cert.OutProj
-- ==== Proof.Up.lean ====
/-
  The up projection. A row tile's first point normalizes the tile's rows into a scratch; each point multiplies them by a
  column tile of the weights and squares the positive part.
-/
module

public import proofs.«01_k».proof.Proof.Gen.Kernel4Ideal.Value
public import Idealize.ShloMosaic.Lib.Pipeline.Value
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel4Ideal.Up

open Idealize.ShloMosaic Idealize.ShloMosaic.TcCoe Idealize.SL.Sem
open Cert.Kernel4Ideal Cert.Kernel4Ideal.Gen Cert.Kernel4Ideal.Value

theorem hz2 : (![0, 0] : Fin 2 → Nat) = fun _ => 0 := by decide
theorem hz3 : (![0, 0, 0] : Fin 3 → Nat) = fun _ => 0 := by decide

section Steps

variable {F : FTy → Type} [FloatOps F]
variable (m : (ℓ : Loc nD τ sig) → Buf (Elt F) ℓ) (c : Dev nD)

/-- A first point of a row tile normalizes its rows into the scratch. -/
theorem step_first (t : Fin cfg0.N) (h0 : t.val % 8 = 0) :
    outsAt0 m c t.val t.isLt
      = (k0_pay2 (k0_pay1 (iblk m c 0 t) (iblk m c 1 t)) (iblk m c 2 t), k0_pay1 (iblk m c 0 t) (iblk m c 1 t)) := by
  rw [outsAt0_A m c t h0]
  refine congrArg₂ Prod.mk ?_ ?_
  · unfold out0_A_3
    rw [View.read_writes_eq_canon _ _ _ (fun _ => cover0_A_3 ..)]
    unfold kernelRun0_A
    dsimp only
    sl_unfold_words
    rw [View.canon_unit_zero hz2]
    simp only [View.readAt_eq_ld, (hs0_0 t).read_unread, (hs0_1 t).read_unread, (hs0_2 t).read_unread,
      View.ld_unit_zero (S := S1024x2048) hz2, View.ld_unit_zero (S := S1x2048) hz2, View.ld_unit_zero (S := S1x2048x1024) hz3,
      View.readCov_fill scM0_0.view inb_S1024x2048_S1024x2048_0_0 _ _ _ (fun a => congrFun hz2 a)]
  · unfold sout0_A_0
    rw [View.read_writes_eq_canon _ _ _ (fun _ => scover0_A_0 ..)]
    unfold kernelRun0_A
    dsimp only
    sl_unfold_words
    rw [View.canon_unit_zero hz2]
    simp only [View.readAt_eq_ld, (hs0_0 t).read_unread, (hs0_1 t).read_unread, View.ld_unit_zero (S := S1024x2048) hz2,
      View.ld_unit_zero (S := S1x2048) hz2]

/-- A later point keeps the scratch. -/
theorem step_next (t : Fin cfg0.N) (h0 : ¬t.val % 8 = 0) :
    outsAt0 m c t.val t.isLt
      = (k0_pay2 (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h0]
  refine congrArg₂ Prod.mk ?_ ?_
  · unfold out0_B_3
    rw [View.read_writes_eq_canon _ _ _ (fun _ => cover0_B_3 ..)]
    unfold kernelRun0_B
    dsimp only
    sl_unfold_words
    rw [View.canon_unit_zero hz2]
    simp only [View.readAt_eq_ld, (hs0_2 t).read_unread, (Memref.isWhole_whole _).read_unread,
      View.ld_unit_zero (S := S1024x2048) hz2, View.ld_unit_zero (S := S1x2048x1024) hz3]
  · rfl

end Steps

variable (m : (ℓ : Loc nD τ sig) → Buf (Elt Ideal) ℓ) (c : Dev nD)

abbrev stream : S8192x2048.Idx → EReal := m ((c : Thread nD τ).loc main_arg0)
abbrev gain : S2x2048.Idx → EReal := m ((c : Thread nD τ).loc main_arg1)
abbrev weights : S2x2048x8192.Idx → EReal := m ((c : Thread nD τ).loc main_arg2)

theorem place_2 : ∀ t : Fin cfg0.N, win0_2.index t (0 : Fin 3) = 1 ∧ win0_2.index t (1 : Fin 3) = 0
    ∧ win0_2.index t (2 : Fin 3) = t.val % 8 :=
  (by decide +kernel : ∀ t : Fin grid0.N, _)
theorem place_0 : ∀ t : Fin cfg0.N, win0_0.index t (0 : Fin 2) = t.val / 8 ∧ win0_0.index t (1 : Fin 2) = 0 :=
  (by decide +kernel : ∀ t : Fin grid0.N, _)
theorem place_1 : ∀ t : Fin cfg0.N, win0_1.index t (0 : Fin 2) = 0 ∧ win0_1.index t (1 : Fin 2) = 0 :=
  (by decide +kernel : ∀ t : Fin grid0.N, _)

/-- The row and the column of a point's places. -/
abbrev row (n : ℕ) (r : Fin 1024) : Fin 8192 := ⟨(1024 * (n / 8) + r.val) % 8192, Nat.mod_lt _ (by decide)⟩
abbrev col (n : ℕ) (e : Fin 1024) : Fin 8192 := ⟨1024 * (n % 8) + e.val, by omega⟩

theorem block_0 (t : Fin cfg0.N) (r : Fin 1024) (k : Fin 2048) :
    iblk m c 0 t (ix2 r k) = stream m c (ix2 (row t.val r) k) := by
  have ht := lt_of_lt_of_eq t.isLt N_0
  obtain ⟨h0, h1⟩ := place_0 t
  unfold iblk
  refine Eq.trans (congrArg (V m c main_arg0) (funext fun a => Fin.ext ?_)) (congrFun (V_main_arg0 m c) _)
  match a with
  | ⟨0, _⟩ =>
    show win0_0.index t (0 : Fin 2) * 1024 + 1 * r.val = (1024 * (t.val / 8) + r.val) % 8192
    rw [h0]; omega
  | ⟨1, _⟩ =>
    show win0_0.index t (1 : Fin 2) * 2048 + 1 * k.val = k.val
    rw [h1]; omega

/-- The gain as the host lays it out. -/
theorem gain_at (k : Fin 2048) : V m c main_v2 (ix2 0 k) = gain m c (ix2 1 k) := by
  unfold V
  after_reads_at

theorem block_1 (t : Fin cfg0.N) (k : Fin 2048) : iblk m c 1 t (ix2 0 k) = gain m c (ix2 1 k) := by
  obtain ⟨h0, h1⟩ := place_1 t
  rw [← gain_at]
  unfold iblk
  refine congrArg (V m c main_v2) (funext fun a => Fin.ext ?_)
  match a with
  | ⟨0, _⟩ =>
    show win0_1.index t (0 : Fin 2) * 1 + 1 * 0 = 0
    rw [h0]
  | ⟨1, _⟩ =>
    show win0_1.index t (1 : Fin 2) * 2048 + 1 * k.val = k.val
    rw [h1]; omega

theorem block_2 (t : Fin cfg0.N) (k : Fin 2048) (e : Fin 1024) :
    iblk m c 2 t (ix3 0 k e) = weights m c (ix3 1 k (col t.val e)) := by
  obtain ⟨h0, h1, h2⟩ := place_2 t
  unfold iblk
  refine Eq.trans (congrArg (V m c main_arg2) (funext fun a => Fin.ext ?_)) (congrFun (V_main_arg2 m c) _)
  match a with
  | ⟨0, _⟩ =>
    show win0_2.index t (0 : Fin 3) * 1 + 1 * 0 = 1
    rw [h0]
  | ⟨1, _⟩ =>
    show win0_2.index t (1 : Fin 3) * 2048 + 1 * k.val = k.val
    rw [h1]; omega
  | ⟨2, _⟩ =>
    show win0_2.index t (2 : Fin 3) * 1024 + 1 * e.val = 1024 * (t.val % 8) + e.val
    rw [h2]; omega

/-- A normalized entry of the stream. -/
def normed (i : Fin 8192) (k : Fin 2048) : EReal :=
  stream m c (ix2 i k)
    * Ideal.rsqrt (Ideal.div (∑ k : Fin 2048, stream m c (ix2 i k) * stream m c (ix2 i k)) (FloatOps.ofBits (F := Ideal) (φ := .f32) 0x45000000#32) + FloatOps.ofBits (F := Ideal) (φ := .f32) 0x358637BD#32)
    * gain m c (ix2 1 k)

/-- An entry of the product of the normalized rows with the weights. -/
def product (i j : Fin 8192) : EReal := ∑ k : Fin 2048, normed m c i k * weights m c (ix3 1 k j)

/-- An entry of the result: the square of the product's positive part. -/
def value (i j : Fin 8192) : EReal := max (product m c i j) 0 * max (product m c i j) 0

/-- What a first point puts into the scratch. -/
theorem filled (t : Fin cfg0.N) (r : Fin 1024) (k : Fin 2048) :
    k0_pay1 (F := Ideal) (iblk m c 0 t) (iblk m c 1 t) (ix2 r k) = normed m c (row t.val r) k := by
  unfold normed
  simp only [k0_pay1]
  pointwise
  simp only [block_0, block_1]

/-- After every point the scratch holds the normalized rows of the point's row tile. -/
theorem scratch : ∀ (n : ℕ) (h : n < cfg0.N) (r : Fin 1024) (k : Fin 2048),
    (outsAt0 m c n h).2 (ix2 r k) = normed m c (row n r) k
  | 0, h, r, k => (congrFun (congrArg Prod.snd (step_first m c ⟨0, h⟩ rfl)) (ix2 r k)).trans (filled m c ⟨0, h⟩ r k)
  | n + 1, h, r, k => by
    by_cases h0 : (n + 1) % 8 = 0
    · exact (congrFun (congrArg Prod.snd (step_first m c ⟨n + 1, h⟩ h0)) (ix2 r k)).trans (filled m c ⟨n + 1, h⟩ r k)
    · refine (congrFun (congrArg Prod.snd (step_next m c ⟨n + 1, h⟩ h0)) (ix2 r k)).trans ?_
      refine (scratch n (by omega) r k).trans ?_
      rw [show row n r = row (n + 1) r from Fin.ext (by
        show (1024 * (n / 8) + r.val) % 8192 = (1024 * ((n + 1) / 8) + r.val) % 8192
        rw [show (n + 1) / 8 = n / 8 by omega])]

/-- A point's tile, over a scratch that holds the normalized rows. -/
theorem tile_value (t : Fin cfg0.N) (H : Vec Ideal S1024x2048 .bf16)
    (hH : ∀ (r : Fin 1024) (k : Fin 2048), H (ix2 r k) = normed m c (row t.val r) k) (r : Fin 1024) (e : Fin 1024) :
    k0_pay2 (F := Ideal) H (iblk m c 2 t) (ix2 r e) = value m c (row t.val r) (col t.val e) := by
  unfold value product
  simp only [k0_pay2]
  pointwise
  simp only [block_2, hH]

/-- What every point writes back. -/
theorem written : ∀ (n : ℕ) (h : n < cfg0.N) (r : Fin 1024) (e : Fin 1024),
    (outsAt0 m c n h).1 (ix2 r e) = value m c (row n r) (col n e)
  | 0, h, r, e => (congrFun (congrArg Prod.fst (step_first m c ⟨0, h⟩ rfl)) (ix2 r e)).trans
      (tile_value m c ⟨0, h⟩ _ (filled m c ⟨0, h⟩) r e)
  | n + 1, h, r, e => by
    by_cases h0 : (n + 1) % 8 = 0
    · exact (congrFun (congrArg Prod.fst (step_first m c ⟨n + 1, h⟩ h0)) (ix2 r e)).trans
        (tile_value m c ⟨n + 1, h⟩ _ (filled m c ⟨n + 1, h⟩) r e)
    · have hs := step_next m c ⟨n + 1, h⟩ h0
      refine (congrFun (congrArg Prod.fst hs) (ix2 r e)).trans (tile_value m c ⟨n + 1, h⟩ _ (fun r k => ?_) r e)
      exact (congrFun (congrArg Prod.snd hs) (ix2 r k)).symm.trans (scratch m c (n + 1) h r k)

/-- The array after the run. -/
theorem result (i : Fin 8192) (j : Fin 8192) : G3 m c (ix2 i j) = value m c i j := by
  have hp : pt3Of (ix2 i j) = j.val / 1024 + 8 * (i.val / 1024) := by
    show 8 * (i.val / 1024 - 0) + 1 * (j.val / 1024 - 0) = _
    omega
  have hN : pt3Of (ix2 i j) < cfg0.N := by rw [hp, show cfg0.N = 64 from N_0]; omega
  unfold G3
  rw [dif_pos hN, ← outsAt0_sweep m c _ hN]
  have hl : loc3Of (ix2 i j) = ix2 ⟨i.val % 1024, Nat.mod_lt _ (by decide)⟩ ⟨j.val % 1024, Nat.mod_lt _ (by decide)⟩ := eq_ix2 _
  rw [hl, written]
  refine congrArg₂ (value m c) (Fin.ext ?_) (Fin.ext ?_)
  · show (1024 * (pt3Of (ix2 i j) / 8) + i.val % 1024) % 8192 = i.val
    rw [hp]; omega
  · show 1024 * (pt3Of (ix2 i j) % 8) + j.val % 1024 = j.val
    rw [hp]; omega

end Cert.Kernel4Ideal.Up
-- ==== Proof.UpEquation.lean ====
/-
  The reference's up projection, entry by entry, and the equation of the two programs.
-/
module

public import proofs.«01_k».proof.Defs
public import proofs.«01_k».proof.Proof.Up
public import proofs.«01_k».proof.Proof.Gen.Reference4Ideal.Run
public import Idealize.ShloMosaic.Init

@[expose] public section

set_option maxRecDepth 16384

noncomputable section

namespace Cert.Up

open Idealize.ShloMosaic Idealize.ShloMosaic.TcCoe Idealize.SL.Sem

/-- The equation of the two runs. -/
theorem equation : Cert.algebraic_Kernel4Ideal_Reference4Ideal := by
  intro m g m' g' _ hagree
  refine ⟨fun c => Cert.Kernel4Ideal.Value.G3 m c, Cert.Kernel4Ideal.Value.run m g,
    (θ_run Cert.Reference4Ideal.defs _ _).mono (fun r hr c => ⟨(hr c).1.trans ?_, (hr c).2⟩) (Cert.Reference4Ideal.Value.run m' g')⟩
  rw [(hagree c).1, (hagree c).2.1, (hagree c).2.2]
  funext i
  rw [eq_ix2 i]
  refine Eq.trans ?_ (Cert.Kernel4Ideal.Up.result m c (i 0) (i 1)).symm
  unfold Cert.Kernel4Ideal.Up.value Cert.Kernel4Ideal.Up.product Cert.Kernel4Ideal.Up.normed
  pointwise

/-- The reference's frame: its run leaves the arguments, and it declares no semaphore. -/
theorem reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

end Cert.Up
-- ==== Proof.Down.lean ====
/-
  The MLP's second product. The kernel goes over the 8192 features in four blocks of 2048: the first adds the residual to
  its block's product, the others add theirs to what is there. So each entry is the residual plus the whole product.
-/
module

public import proofs.«01_k».proof.Proof.Gen.Kernel5Ideal.Value
public import Idealize.ShloMosaic.Lib.Pipeline.Value
public import Idealize.ShloMosaic.Lib.Pointwise

@[expose] public section

set_option maxRecDepth 16384

noncomputable section

namespace Cert.Kernel5Ideal.Down

open Idealize.ShloMosaic Idealize.ShloMosaic.TcCoe Idealize.SL.Sem
open Cert.Kernel5Ideal Cert.Kernel5Ideal.Gen Cert.Kernel5Ideal.Value

theorem hz2 : (![0, 0] : Fin 2 → Nat) = fun _ => 0 := by decide
theorem hz3 : (![0, 0, 0] : Fin 3 → Nat) = fun _ => 0 := by decide

/-- A sum over 8192 places is the sum of its four blocks of 2048. -/
theorem sum_blocks (f : Fin 8192 → EReal) :
    ∑ k, f k = ∑ s : Fin 4, ∑ k : Fin 2048, f ⟨2048 * s.val + k.val, by omega⟩ := by
  rw [← Fintype.sum_prod_type']
  refine (Fintype.sum_equiv (finProdFinEquiv (m := 4) (n := 2048)) _ f fun x => congrArg f (Fin.ext ?_)).symm
  show 2048 * x.1.val + x.2.val = x.2.val + 2048 * x.1.val
  omega

section Steps

variable {F : FTy → Type} [FloatOps F]
variable (m : (ℓ : Loc nD τ sig) → Buf (Elt F) ℓ) (c : Dev nD)

/-- A first point of a tile leaves its product plus the residual. -/
theorem step_first (t : Fin cfg0.N) (h0 : t.val % 4 = 0) :
    outsAt0 m c t.val t.isLt = k0_pay2 (iblk m c 0 t) (iblk m c 1 t) (iblk m c 2 t) := by
  rw [outsAt0_A m c t h0 (by omega)]
  unfold out0_A_3
  rw [View.read_writes_eq_canon _ _ _ (fun _ => cover0_A_3 ..)]
  unfold kernelRun0_A
  dsimp only
  sl_unfold_words
  rw [View.canon_unit_zero hz2]
  simp only [View.readAt_eq_ld, (hs0_0 t).read_unread, (hs0_1 t).read_unread, (hs0_2 t).read_unread,
    View.ld_unit_zero (S := S1024x2048) hz2, View.ld_unit_zero (S := S1x2048x1024) hz3, View.ld_unit_zero (S := S1024x1024) hz2]

/-- A later point adds its product to what the point before left. -/
theorem step_next (t : Fin cfg0.N) (h0 : ¬t.val % 4 = 0) :
    outsAt0 m c t.val t.isLt = k0_pay3 (iblk m c 0 t) (iblk m c 1 t)
      (outsAt0 m c (t.val - 1) (Nat.lt_of_le_of_lt (Nat.sub_le _ _) t.isLt)) := by
  rw [outsAt0_B m c t h0 (by omega)]
  unfold out0_B_3
  rw [View.read_writes_eq_canon _ _ _ (fun _ => cover0_B_3 ..)]
  unfold kernelRun0_B
  dsimp only
  sl_unfold_words
  rw [View.canon_unit_zero hz2]
  simp only [View.readAt_eq_ld, (hs0_0 t).read_unread, (hs0_1 t).read_unread, (hs0_3 t).read_unread,
    View.ld_unit_zero (S := S1024x2048) hz2, View.ld_unit_zero (S := S1x2048x1024) hz3, View.ld_unit_zero (S := S1024x1024) hz2]

end Steps

variable (m : (ℓ : Loc nD τ sig) → Buf (Elt Ideal) ℓ) (c : Dev nD)

abbrev acts : S8192x8192.Idx → EReal := m ((c : Thread nD τ).loc main_arg0)
abbrev residual : S8192x2048.Idx → EReal := m ((c : Thread nD τ).loc main_arg1)
abbrev weights : S2x8192x2048.Idx → EReal := m ((c : Thread nD τ).loc main_arg2)

theorem place_0 : ∀ t : Fin cfg0.N, win0_0.index t (0 : Fin 2) = t.val / 8 ∧ win0_0.index t (1 : Fin 2) = t.val % 4 :=
  (by decide +kernel : ∀ t : Fin grid0.N, _)
theorem place_1 : ∀ t : Fin cfg0.N, win0_1.index t (0 : Fin 3) = 1 ∧ win0_1.index t (1 : Fin 3) = t.val % 4
    ∧ win0_1.index t (2 : Fin 3) = t.val / 4 % 2 :=
  (by decide +kernel : ∀ t : Fin grid0.N, _)
theorem place_2 : ∀ t : Fin cfg0.N, win0_2.index t (0 : Fin 2) = t.val / 8 ∧ win0_2.index t (1 : Fin 2) = t.val / 4 % 2 :=
  (by decide +kernel : ∀ t : Fin grid0.N, _)
theorem place_3 : ∀ t : Fin cfg0.N, win0_3.index t (0 : Fin 2) = t.val / 8 ∧ win0_3.index t (1 : Fin 2) = t.val / 4 % 2 :=
  (by decide +kernel : ∀ t : Fin grid0.N, _)

/-- The row and the column of a tile's places, and the feature of a block's place. -/
abbrev row (q : ℕ) (r : Fin 1024) : Fin 8192 := ⟨(1024 * (q / 2) + r.val) % 8192, Nat.mod_lt _ (by decide)⟩
abbrev col (q : ℕ) (e : Fin 1024) : Fin 2048 := ⟨1024 * (q % 2) + e.val, by omega⟩
abbrev feat (s : ℕ) (k : Fin 2048) : Fin 8192 := ⟨(2048 * s + k.val) % 8192, Nat.mod_lt _ (by decide)⟩

theorem block_0 (t : Fin cfg0.N) (r : Fin 1024) (k : Fin 2048) :
    iblk m c 0 t (ix2 r k) = acts m c (ix2 (row (t.val / 4) r) (feat (t.val % 4) k)) := by
  have ht := lt_of_lt_of_eq t.isLt N_0
  obtain ⟨h0, h1⟩ := place_0 t
  unfold iblk
  refine congrArg (V m c main_arg0) (funext fun a => Fin.ext ?_)
  match a with
  | ⟨0, _⟩ =>
    show win0_0.index t (0 : Fin 2) * 1024 + 1 * r.val = (1024 * (t.val / 4 / 2) + r.val) % 8192
    rw [h0]; omega
  | ⟨1, _⟩ =>
    show win0_0.index t (1 : Fin 2) * 2048 + 1 * k.val = (2048 * (t.val % 4) + k.val) % 8192
    rw [h1]; omega

theorem block_1 (t : Fin cfg0.N) (k : Fin 2048) (e : Fin 1024) :
    iblk m c 1 t (ix3 0 k e) = weights m c (ix3 1 (feat (t.val % 4) k) (col (t.val / 4) e)) := by
  obtain ⟨h0, h1, h2⟩ := place_1 t
  unfold iblk
  refine congrArg (V m c main_arg2) (funext fun a => Fin.ext ?_)
  match a with
  | ⟨0, _⟩ =>
    show win0_1.index t (0 : Fin 3) * 1 + 1 * 0 = 1
    rw [h0]
  | ⟨1, _⟩ =>
    show win0_1.index t (1 : Fin 3) * 2048 + 1 * k.val = (2048 * (t.val % 4) + k.val) % 8192
    rw [h1]; omega
  | ⟨2, _⟩ =>
    show win0_1.index t (2 : Fin 3) * 1024 + 1 * e.val = 1024 * (t.val / 4 % 2) + e.val
    rw [h2]; omega

theorem block_2 (t : Fin cfg0.N) (r e : Fin 1024) :
    iblk m c 2 t (ix2 r e) = residual m c (ix2 (row (t.val / 4) r) (col (t.val / 4) e)) := by
  have ht := lt_of_lt_of_eq t.isLt N_0
  obtain ⟨h0, h1⟩ := place_2 t
  unfold iblk
  refine congrArg (V m c main_arg1) (funext fun a => Fin.ext ?_)
  match a with
  | ⟨0, _⟩ =>
    show win0_2.index t (0 : Fin 2) * 1024 + 1 * r.val = (1024 * (t.val / 4 / 2) + r.val) % 8192
    rw [h0]; omega
  | ⟨1, _⟩ =>
    show win0_2.index t (1 : Fin 2) * 1024 + 1 * e.val = 1024 * (t.val / 4 % 2) + e.val
    rw [h1]; omega

/-- The product's share of the features' block `s`. -/
def part (i : Fin 8192) (j : Fin 2048) (s : ℕ) : EReal :=
  ∑ k : Fin 2048, acts m c (ix2 i (feat s k)) * weights m c (ix3 1 (feat s k) j)

/-- The product that a point forms is its block's share. -/
theorem product (t : Fin cfg0.N) (r e : Fin 1024) :
    k0_pay1 (F := Ideal) (iblk m c 0 t) (iblk m c 1 t) (ix2 r e)
      = part m c (row (t.val / 4) r) (col (t.val / 4) e) (t.val % 4) := by
  unfold part
  simp only [k0_pay1]
  pointwise
  refine Finset.sum_congr rfl fun k _ => ?_
  rw [block_0, block_1]

/-- What a tile holds after its points: the residual and the shares so far. -/
theorem left (q : ℕ) (r e : Fin 1024) : ∀ (j : ℕ) (_ : j < 4) (h : 4 * q + j < cfg0.N),
    outsAt0 m c (4 * q + j) h (ix2 r e)
      = residual m c (ix2 (row q r) (col q e)) + ∑ s ∈ Finset.range (j + 1), part m c (row q r) (col q e) s
  | 0, _, h => by
    refine (congrFun (step_first m c ⟨4 * q, h⟩ (by show 4 * q % 4 = 0; omega)) (ix2 r e)).trans ?_
    have hp := product m c ⟨4 * q, h⟩ r e
    have hb := block_2 m c ⟨4 * q, h⟩ r e
    simp only [show 4 * q / 4 = q by omega, show 4 * q % 4 = 0 by omega] at hp hb
    rw [Finset.sum_range_one, ← hp, ← hb, add_comm]
    rfl
  | j + 1, hj, h => by
    refine (congrFun (step_next m c ⟨4 * q + (j + 1), h⟩ (by show ¬(4 * q + (j + 1)) % 4 = 0; omega)) (ix2 r e)).trans ?_
    have hp := product m c ⟨4 * q + (j + 1), h⟩ r e
    have ih := left q r e j (by omega) (by omega)
    simp only [show (4 * q + (j + 1)) / 4 = q by omega, show (4 * q + (j + 1)) % 4 = j + 1 by omega] at hp
    rw [Finset.sum_range_succ, ← add_assoc (residual m c (ix2 (row q r) (col q e))), ← ih, ← hp]
    simp only [k0_pay3]
    pointwise
    rfl

/-- An entry of the result: the residual and the whole product. -/
def value (i : Fin 8192) (j : Fin 2048) : EReal :=
  residual m c (ix2 i j) + ∑ k : Fin 8192, acts m c (ix2 i k) * weights m c (ix3 1 k j)

/-- The four shares are the whole product. -/
theorem shares (i : Fin 8192) (j : Fin 2048) :
    ∑ s ∈ Finset.range 4, part m c i j s = ∑ k : Fin 8192, acts m c (ix2 i k) * weights m c (ix3 1 k j) := by
  rw [sum_blocks, Finset.sum_range]
  refine Finset.sum_congr rfl fun s _ => Finset.sum_congr rfl fun k _ => ?_
  have hs := s.isLt
  have hk := k.isLt
  rw [show feat s.val k = ⟨2048 * s.val + k.val, by omega⟩ from Fin.ext (by show (2048 * s.val + k.val) % 8192 = 2048 * s.val + k.val; omega)]

/-- The array of the values. -/
def values : Buf (Elt Ideal) ((c : Thread nD τ).loc main_v0) := fun i => value m c (i 0) (i 1)

/-- What a last point of a tile writes back is its block of the values. -/
theorem written (t : Fin cfg0.N) (hf : (cfg0.win 3).flush t = true) :
    (dats m 0 c).flushed 3 t = ((cfg0.win 3).blk t).view.read (Elt Ideal) (values m c) := by
  have ht := lt_of_lt_of_eq t.isLt N_0
  have h3 := (flush0_3 t).mp hf
  obtain ⟨h0, h1⟩ := place_3 t
  rw [flushed3]
  funext y
  have hl := left m c (t.val / 4) (y 0) (y 1) 3 (by omega) (by omega)
  simp only [show 4 * (t.val / 4) + 3 = t.val by omega] at hl
  rw [shares] at hl
  refine Eq.trans (b := outsAt0 m c t.val t.isLt (ix2 (y 0) (y 1))) ?_ (hl.trans ?_)
  · exact congrArg _ (eq_ix2 _)
  · show value m c _ _ = value m c _ _
    have e0 : row (t.val / 4) (y 0) = ((cfg0.win 3).blk t).view.emb y 0 := Fin.ext (by
      show (1024 * (t.val / 4 / 2) + (y 0).val) % 8192 = win0_3.index t (0 : Fin 2) * 1024 + 1 * (y 0).val
      have hy : (y 0).val < 1024 := (y 0).isLt
      rw [h0]; omega)
    have e1 : col (t.val / 4) (y 1) = ((cfg0.win 3).blk t).view.emb y 1 := Fin.ext (by
      show 1024 * (t.val / 4 % 2) + (y 1).val = win0_3.index t (1 : Fin 2) * 1024 + 1 * (y 1).val
      rw [h1]; omega)
    rw [e0, e1]

/-- Every place of the array is in a block that is written back. -/
theorem covered (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  have hN : 4 * (2 * ((i 0).val / 1024) + (i 1).val / 1024) + 3 < cfg0.N := by rw [show cfg0.N = 64 from N_0]; omega
  obtain ⟨t, ht⟩ : ∃ t : Fin cfg0.N, t.val = 4 * (2 * ((i 0).val / 1024) + (i 1).val / 1024) + 3 := ⟨⟨_, hN⟩, rfl⟩
  refine ⟨t, (flush0_3 t).mpr (by omega), ?_⟩
  obtain ⟨h0, h1⟩ := place_3 t
  have e : ((cfg0.win 3).blk t).view.emb (ix2 ⟨(i 0).val % 1024, Nat.mod_lt _ (by decide)⟩ ⟨(i 1).val % 1024, Nat.mod_lt _ (by decide)⟩) = i := by
    refine funext fun a => Fin.ext ?_
    match a with
    | ⟨0, _⟩ =>
      show win0_3.index t (0 : Fin 2) * 1024 + 1 * ((i 0).val % 1024) = (i 0).val
      rw [h0]; omega
    | ⟨1, _⟩ =>
      show win0_3.index t (1 : Fin 2) * 1024 + 1 * ((i 1).val % 1024) = (i 1).val
      rw [h1]; omega
  have hm := ((cfg0.win 3).blk t).view.emb_mem_set (ix2 ⟨(i 0).val % 1024, Nat.mod_lt _ (by decide)⟩ ⟨(i 1).val % 1024, Nat.mod_lt _ (by decide)⟩)
  rwa [e] at hm

/-- The array after the run. -/
theorem final : (dats m 0 c).arrAt 3 cfg0.N = values m c :=
  (dats m 0 c).arrAt_eq_of_cover 3 (values m c) (written m c) (covered)

end Cert.Kernel5Ideal.Down
-- ==== Proof.DownEquation.lean ====
/-
  The reference's second product of the MLP, entry by entry, and the equation of the two programs.
-/
module

public import proofs.«01_k».proof.Defs
public import proofs.«01_k».proof.Proof.Down
public import proofs.«01_k».proof.Proof.Gen.Reference5Ideal.Run
public import Idealize.ShloMosaic.Init

@[expose] public section

set_option maxRecDepth 16384

noncomputable section

namespace Cert.Down

open Idealize.ShloMosaic Idealize.ShloMosaic.TcCoe Idealize.SL.Sem

/-- The equation of the two runs. -/
theorem equation : Cert.algebraic_Kernel5Ideal_Reference5Ideal := by
  intro m g m' g' _ hagree
  refine ⟨fun c => Cert.Kernel5Ideal.Down.values m c,
    (θ_run Cert.Kernel5Ideal.defs _ _).mono (fun r h c => ⟨(h c).1.trans (Cert.Kernel5Ideal.Down.final m c), (h c).2⟩)
      (Cert.Kernel5Ideal.Value.run_blocks m g),
    (θ_run Cert.Reference5Ideal.defs _ _).mono (fun r hr c => ⟨(hr c).1.trans ?_, (hr c).2⟩) (Cert.Reference5Ideal.Value.run m' g')⟩
  rw [(hagree c).1, (hagree c).2.1, (hagree c).2.2]
  funext i
  rw [eq_ix2 i]
  show _ = Cert.Kernel5Ideal.Down.value m c (i 0) (i 1)
  unfold Cert.Kernel5Ideal.Down.value
  pointwise

/-- The reference's frame: its run leaves the arguments, and it declares no semaphore. -/
theorem reference_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

end Cert.Down
-- ==== Proof.Rwkv.RunIdeal.lean ====
/-
  The run of the mixer's preparing kernel at one grid point: its 33 buffers make the term of the run long, so it is given a
  larger share of steps.
-/
module

public import proofs.«01_k».proof.Proof.Gen.Kernel6Ideal.Frame.Runs

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body leaves in each result's buffer, with the proof that it runs to there from the inputs' blocks. -/
noncomputable def kernelRun0_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) :
    Σ' (L26 : List (View.Piece (Elt F) S512x512 .f32)), Σ' (L27 : List (View.Piece (Elt F) S512x512 .f32)), Σ' (L28 : List (View.Piece (Elt F) S512x512 .f32)), Σ' (L29 : List (View.Piece (Elt F) S512x512 .f32)), Σ' (L30 : List (View.Piece (Elt F) S512x512 .f32)), Σ' (L31 : List (View.Piece (Elt F) S512x512 .f32)), { L32 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32)) -∗ K ⟨⟩))
          ⊢ wp frame (wpE (defs₀ (F := F)) Variants.none c none) E (cc0_rwkv_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, ?_, ?_, ?_, ?_, ?_, fun E K => ?run⟩
  case run =>
    simp only [cc0_rwkv_pre_eq_skeleton]; unfold cc0_rwkv_pre_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    iexists _; iexact H32

end Cert.Kernel6Ideal.Gen

end
-- ==== Proof.Rwkv.FrameIdeal.lean ====
/-
  The frame of the mixer's preparing kernel, over its run at a grid point.
-/
module

public import proofs.«01_k».proof.Proof.Rwkv.RunIdeal
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_26 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).1 S512x512.size (by sl_kernel_rfl) y

def out0_A_26 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) : Vec F S512x512 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).1)

theorem cover0_A_27 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.1 S512x512.size (by sl_kernel_rfl) y

def out0_A_27 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) : Vec F S512x512 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.1)

theorem cover0_A_28 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.1 S512x512.size (by sl_kernel_rfl) y

def out0_A_28 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) : Vec F S512x512 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.1)

theorem cover0_A_29 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.1 S512x512.size (by sl_kernel_rfl) y

def out0_A_29 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) : Vec F S512x512 .f32 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.1)

theorem cover0_A_30 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.1 S512x512.size (by sl_kernel_rfl) y

def out0_A_30 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) : Vec F S512x512 .f32 :=
  VO0_30.read (Elt F) (VO0_30.writes (Elt F) VO0_30.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.1)

theorem cover0_A_31 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.2.1 S512x512.size (by sl_kernel_rfl) y

def out0_A_31 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) : Vec F S512x512 .f32 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.2.1)

theorem cover0_A_32 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.2.2.1 S512x512.size (by sl_kernel_rfl) y

def out0_A_32 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x256 .f32) (harg13 : arg13.IsWhole) (arg14 : Memref sig .tc .vmem S8x128 .f32) (harg14 : arg14.IsWhole) (arg15 : Memref sig .tc .vmem S1x2176 .f32) (harg15 : arg15.IsWhole) (arg16 : Memref sig .tc .vmem S1x512 .f32) (harg16 : arg16.IsWhole) (arg17 : Memref sig .tc .vmem S128x512 .f32) (harg17 : arg17.IsWhole) (arg18 : Memref sig .tc .vmem S1x512 .f32) (harg18 : arg18.IsWhole) (arg19 : Memref sig .tc .vmem S128x512 .f32) (harg19 : arg19.IsWhole) (arg20 : Memref sig .tc .vmem S1x512 .f32) (harg20 : arg20.IsWhole) (arg21 : Memref sig .tc .vmem S128x512 .f32) (harg21 : arg21.IsWhole) (arg22 : Memref sig .tc .vmem S256x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S512x512 .bf16) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x512 .f32) (harg30 : arg30.IsWhole) (arg31 : Memref sig .tc .vmem S512x512 .f32) (harg31 : arg31.IsWhole) (arg32 : Memref sig .tc .vmem S512x512 .f32) (harg32 : arg32.IsWhole) (arg33 : Memref sig .tc .vmem S512x512 .f32) (harg33 : arg33.IsWhole)
    (x0 : Vec F S512x512 .f32) (x1 : Vec F S512x512 .f32) (x2 : Vec F S512x512 .f32) (x3 : Vec F S512x128 .f32) (x4 : Vec F S512x128 .f32) (x5 : Vec F S512x256 .f32) (x6 : Vec F S512x128 .f32) (x7 : Vec F S8x512 .f32) (x8 : Vec F S8x512 .f32) (x9 : Vec F S8x512 .f32) (x10 : Vec F S8x128 .f32) (x11 : Vec F S8x128 .f32) (x12 : Vec F S8x256 .f32) (x13 : Vec F S8x128 .f32) (x14 : Vec F S1x2176 .f32) (x15 : Vec F S1x512 .f32) (x16 : Vec F S128x512 .f32) (x17 : Vec F S1x512 .f32) (x18 : Vec F S128x512 .f32) (x19 : Vec F S1x512 .f32) (x20 : Vec F S128x512 .f32) (x21 : Vec F S256x512 .f32) (x22 : Vec F S1x512 .f32) (x23 : Vec F S1x512 .f32) (x24 : Vec F S512x512 .bf16) (x25 : Vec F S512x512 .f32) : Vec F S512x512 .f32 :=
  VO0_32.read (Elt F) (VO0_32.writes (Elt F) VO0_32.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25).2.2.2.2.2.2.1)

def outsAt0 (c : Dev nD) (t : Fin cfg0.N) : Vec F S512x512 .f32 × Vec F S512x512 .f32 × Vec F S512x512 .f32 × Vec F S512x512 .f32 × Vec F S512x512 .f32 × Vec F S512x512 .f32 × Vec F S512x512 .f32 :=
  (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t), out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t))

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => X0_7 m c t
    | ⟨8, _⟩ => X0_8 m c t
    | ⟨9, _⟩ => X0_9 m c t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t).1
    | ⟨27, _⟩ => (outsAt0 m c t).2.1
    | ⟨28, _⟩ => (outsAt0 m c t).2.2.1
    | ⟨29, _⟩ => (outsAt0 m c t).2.2.2.1
    | ⟨30, _⟩ => (outsAt0 m c t).2.2.2.2.1
    | ⟨31, _⟩ => (outsAt0 m c t).2.2.2.2.2.1
    | ⟨32, _⟩ => (outsAt0 m c t).2.2.2.2.2.2
    | ⟨_ + 33, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t).1 := by dsimp only [dats]
theorem after0_27 (c : Dev nD) (t : Fin cfg0.N) : (dats m 0 c).after 27 t = (outsAt0 m c t).2.1 := by dsimp only [dats]
theorem after0_28 (c : Dev nD) (t : Fin cfg0.N) : (dats m 0 c).after 28 t = (outsAt0 m c t).2.2.1 := by dsimp only [dats]
theorem after0_29 (c : Dev nD) (t : Fin cfg0.N) : (dats m 0 c).after 29 t = (outsAt0 m c t).2.2.2.1 := by dsimp only [dats]
theorem after0_30 (c : Dev nD) (t : Fin cfg0.N) : (dats m 0 c).after 30 t = (outsAt0 m c t).2.2.2.2.1 := by dsimp only [dats]
theorem after0_31 (c : Dev nD) (t : Fin cfg0.N) : (dats m 0 c).after 31 t = (outsAt0 m c t).2.2.2.2.2.1 := by dsimp only [dats]
theorem after0_32 (c : Dev nD) (t : Fin cfg0.N) : (dats m 0 c).after 32 t = (outsAt0 m c t).2.2.2.2.2.2 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  unfold outsAt0
  unfold out0_A_26 out0_A_27 out0_A_28 out0_A_29 out0_A_30 out0_A_31 out0_A_32; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iintro ⟨H0, H1, H2, H3, H4, H5, H6, H7, H8, H9, H10, H11, H12, H13, H14, H15, H16, H17, H18, H19, H20, H21, H22, H23, H24, H25, ⟨%e26, H26⟩, ⟨%e27, H27⟩, ⟨%e28, H28⟩, ⟨%e29, H29⟩, ⟨%e30, H30⟩, ⟨%e31, H31⟩, ⟨%e32, H32⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H31]
  · unfold owns; iexists _; isplitr
    swap; · iexact H31
    ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H32
  ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel6Ideal.Gen

end
-- ==== Proof.Rwkv.FrameBits.lean ====
/-
  The frame of the mixer's preparing kernel over the machine's floats, from the one run.
-/
module

public import proofs.«01_k».proof.Defs
public import proofs.«01_k».proof.Proof.Gen.Kernel6
public import proofs.«01_k».proof.Proof.Rwkv.FrameIdeal

@[expose] public section

set_option maxRecDepth 16384

noncomputable section

namespace Cert.RwkvPre

open Idealize.ShloMosaic Idealize.ShloMosaic.TcCoe Idealize.ShloMosaic.Tactic Idealize.SL.Sem

/-- A proposition whose text is another's, constants unfolded, holds with it. -/
theorem via {p q : Prop} (h : p) (e : p = q) : q := e ▸ h

/-- The two programs have one text, so the kernel's frame is the ideal kernel's run read over the machine's floats. -/
theorem frame_kernel : Cert.quiescent_Kernel6 :=
  via (fun m ρ (_ : True) => Cert.Kernel6Ideal.Gen.frame (F := Bits) m ρ) (by sl_kernel_rfl)

end Cert.RwkvPre
-- ==== Proof.Rwkv.Open.lean ====
/-
  What a grid point of the mixer's preparing kernel leaves in its seven outputs, as the kernel's steps of the input windows.
-/
module

public import proofs.«01_k».proof.Proof.Rwkv.FrameIdeal
public import Idealize.ShloMosaic.Lib.Pipeline.Value

@[expose] public section

set_option maxRecDepth 16384

noncomputable section

namespace Cert.Kernel6Ideal.RwkvPre

open Idealize.ShloMosaic Idealize.ShloMosaic.TcCoe Idealize.SL.Sem
open Cert.Kernel6Ideal Cert.Kernel6Ideal.Gen

theorem hz2 : (![0, 0] : Fin 2 → Nat) = fun _ => 0 := by decide

variable {F : FTy → Type} [FloatOps F]
variable (m : (ℓ : Loc nD τ sig) → Buf (Elt F) ℓ) (c : Dev nD)

/-- The number of a grid point as the kernel reads it. -/
abbrev point (t : Fin cfg0.N) : BitVec 32 := BitVec.ofNat 32 (grid0.coords t 0).val

/-! The mixed tiles. -/

def rTile (t : Fin cfg0.N) : FVec F S512x512 .f32 :=
  k0_pay5 (grid0.coords t) (X0_0 m c t) (extractStridedSlice (s := S1x2176) S1x512 ![0, 0] (iblk m c 14 t) (by decide)) (extractStridedSlice (s := S8x512) S1x512 ![7, 0] (X0_7 m c t) (by decide))
def kTile (t : Fin cfg0.N) : FVec F S512x512 .f32 :=
  k0_pay6 (grid0.coords t) (X0_1 m c t) (extractStridedSlice (s := S1x2176) S1x512 ![0, 512] (iblk m c 14 t) (by decide)) (extractStridedSlice (s := S8x512) S1x512 ![7, 0] (X0_8 m c t) (by decide))
def vTile (t : Fin cfg0.N) : FVec F S512x512 .f32 :=
  k0_pay7 (point t) (X0_2 m c t) (extractStridedSlice (s := S1x2176) S1x512 ![0, 1024] (iblk m c 14 t) (by decide)) (extractStridedSlice (s := S8x512) S1x512 ![7, 0] (X0_9 m c t) (by decide))
def dTile (t : Fin cfg0.N) : FVec F S512x128 .f32 :=
  k0_pay8 (point t) (iblk m c 3 t) (extractStridedSlice (s := S1x2176) S1x128 ![0, 1536] (iblk m c 14 t) (by decide)) (extractStridedSlice (s := S8x128) S1x128 ![7, 0] (iblk m c 10 t) (by decide))
def aTile (t : Fin cfg0.N) : FVec F S512x128 .f32 :=
  k0_pay10 (point t) (iblk m c 4 t) (k0_pay9 (extractStridedSlice (s := S1x2176) S1x128 ![0, 1664] (iblk m c 14 t) (by decide))) (extractStridedSlice (s := S8x128) S1x128 ![7, 0] (iblk m c 11 t) (by decide))
def gTile (t : Fin cfg0.N) : FVec F S512x256 .f32 :=
  k0_pay11 (point t) (iblk m c 5 t) (extractStridedSlice (s := S1x2176) S1x256 ![0, 1792] (iblk m c 14 t) (by decide)) (extractStridedSlice (s := S8x256) S1x256 ![7, 0] (iblk m c 12 t) (by decide))

/-- The in-context rate of a tile. -/
def rateTile (t : Fin cfg0.N) : FVec F S512x512 .f32 :=
  k0_pay24 (k0_pay18 (iblk m c 17 t)) (k0_pay19 (iblk m c 18 t)) (k0_pay20 (aTile m c t)) (k0_pay21 (iblk m c 18 t))
    (k0_pay22 (aTile m c t)) (k0_pay23 (iblk m c 18 t))

theorem out26 (t : Fin cfg0.N) : (outsAt0 m c t).1 = rTile m c t := by
  unfold outsAt0
  dsimp only
  unfold out0_A_26
  rw [View.read_writes_eq_canon _ _ _ (fun _ => cover0_A_26 ..)]
  unfold kernelRun0_A
  dsimp only
  sl_unfold_words
  rw [View.canon_unit_zero hz2]
  simp only [View.readAt_eq_ld, (hs0_0 t).read_unread, (hs0_7 t).read_unread, (hs0_14 t).read_unread,
    View.ld_unit_zero (S := S512x512) hz2, View.ld_unit_zero (S := S512x128) hz2, View.ld_unit_zero (S := S512x256) hz2,
    View.ld_unit_zero (S := S128x512) hz2, View.ld_unit_zero (S := S256x512) hz2, View.ld_unit_zero (S := S1x512) hz2,
    View.ld_unit]
  rfl

theorem out27 (t : Fin cfg0.N) : (outsAt0 m c t).2.1 = k0_pay17 (k0_pay12 (iblk m c 15 t)) (k0_pay13 (dTile m c t)) (k0_pay14 (iblk m c 16 t)) (k0_pay15 (dTile m c t))
      (k0_pay16 (iblk m c 16 t)) := by
  unfold outsAt0
  dsimp only
  unfold out0_A_27
  rw [View.read_writes_eq_canon _ _ _ (fun _ => cover0_A_27 ..)]
  unfold kernelRun0_A
  dsimp only
  sl_unfold_words
  rw [View.canon_unit_zero hz2]
  simp only [View.readAt_eq_ld, (hs0_3 t).read_unread, (hs0_10 t).read_unread, (hs0_14 t).read_unread, (hs0_15 t).read_unread, (hs0_16 t).read_unread,
    View.ld_unit_zero (S := S512x512) hz2, View.ld_unit_zero (S := S512x128) hz2, View.ld_unit_zero (S := S512x256) hz2,
    View.ld_unit_zero (S := S128x512) hz2, View.ld_unit_zero (S := S256x512) hz2, View.ld_unit_zero (S := S1x512) hz2,
    View.ld_unit]
  rfl

theorem out28 (t : Fin cfg0.N) : (outsAt0 m c t).2.2.1 = k0_pay2 (kTile m c t) (rateTile m c t) (iblk m c 23 t) := by
  unfold outsAt0
  dsimp only
  unfold out0_A_28
  rw [View.read_writes_eq_canon _ _ _ (fun _ => cover0_A_28 ..)]
  unfold kernelRun0_A
  dsimp only
  sl_unfold_words
  rw [View.canon_unit_zero hz2]
  simp only [View.readAt_eq_ld, (hs0_1 t).read_unread, (hs0_4 t).read_unread, (hs0_8 t).read_unread, (hs0_11 t).read_unread, (hs0_14 t).read_unread, (hs0_17 t).read_unread, (hs0_18 t).read_unread, (hs0_23 t).read_unread,
    View.ld_unit_zero (S := S512x512) hz2, View.ld_unit_zero (S := S512x128) hz2, View.ld_unit_zero (S := S512x256) hz2,
    View.ld_unit_zero (S := S128x512) hz2, View.ld_unit_zero (S := S256x512) hz2, View.ld_unit_zero (S := S1x512) hz2,
    View.ld_unit]
  rfl

theorem out29 (t : Fin cfg0.N) : (outsAt0 m c t).2.2.2.1 = k0_pay30 (vTile m c t) (iblk m c 6 t) (k0_pay26 (extractStridedSlice (s := S1x2176) S1x128 ![0, 2048] (iblk m c 14 t) (by decide))) k0_pay27
      (k0_pay28 (iblk m c 6 t)) (k0_pay29 (point t) (extractStridedSlice (s := S8x128) S1x128 ![7, 0] (iblk m c 13 t) (by decide)))
      (iblk m c 25 t) (iblk m c 19 t) (iblk m c 20 t) := by
  unfold outsAt0
  dsimp only
  unfold out0_A_29
  rw [View.read_writes_eq_canon _ _ _ (fun _ => cover0_A_29 ..)]
  unfold kernelRun0_A
  dsimp only
  sl_unfold_words
  rw [View.canon_unit_zero hz2]
  simp only [View.readAt_eq_ld, (hs0_2 t).read_unread, (hs0_6 t).read_unread, (hs0_9 t).read_unread, (hs0_13 t).read_unread, (hs0_14 t).read_unread, (hs0_19 t).read_unread, (hs0_20 t).read_unread, (hs0_25 t).read_unread,
    View.ld_unit_zero (S := S512x512) hz2, View.ld_unit_zero (S := S512x128) hz2, View.ld_unit_zero (S := S512x256) hz2,
    View.ld_unit_zero (S := S128x512) hz2, View.ld_unit_zero (S := S256x512) hz2, View.ld_unit_zero (S := S1x512) hz2,
    View.ld_unit]
  rfl

theorem out30 (t : Fin cfg0.N) : (outsAt0 m c t).2.2.2.2.1 = k0_pay3 (k0_pay31 (kTile m c t) (iblk m c 22 t)) (k0_pay32 (kTile m c t) (iblk m c 22 t) (iblk m c 24 t)) := by
  unfold outsAt0
  dsimp only
  unfold out0_A_30
  rw [View.read_writes_eq_canon _ _ _ (fun _ => cover0_A_30 ..)]
  unfold kernelRun0_A
  dsimp only
  sl_unfold_words
  rw [View.canon_unit_zero hz2]
  simp only [View.readAt_eq_ld, (hs0_1 t).read_unread, (hs0_8 t).read_unread, (hs0_14 t).read_unread, (hs0_22 t).read_unread, (hs0_24 t).read_unread,
    View.ld_unit_zero (S := S512x512) hz2, View.ld_unit_zero (S := S512x128) hz2, View.ld_unit_zero (S := S512x256) hz2,
    View.ld_unit_zero (S := S128x512) hz2, View.ld_unit_zero (S := S256x512) hz2, View.ld_unit_zero (S := S1x512) hz2,
    View.ld_unit]
  rfl

theorem out31 (t : Fin cfg0.N) : (outsAt0 m c t).2.2.2.2.2.1 = k0_pay4 (rateTile m c t) (k0_pay31 (kTile m c t) (iblk m c 22 t)) (k0_pay32 (kTile m c t) (iblk m c 22 t) (iblk m c 24 t)) := by
  unfold outsAt0
  dsimp only
  unfold out0_A_31
  rw [View.read_writes_eq_canon _ _ _ (fun _ => cover0_A_31 ..)]
  unfold kernelRun0_A
  dsimp only
  sl_unfold_words
  rw [View.canon_unit_zero hz2]
  simp only [View.readAt_eq_ld, (hs0_1 t).read_unread, (hs0_4 t).read_unread, (hs0_8 t).read_unread, (hs0_11 t).read_unread, (hs0_14 t).read_unread, (hs0_17 t).read_unread, (hs0_18 t).read_unread, (hs0_22 t).read_unread, (hs0_24 t).read_unread,
    View.ld_unit_zero (S := S512x512) hz2, View.ld_unit_zero (S := S512x128) hz2, View.ld_unit_zero (S := S512x256) hz2,
    View.ld_unit_zero (S := S128x512) hz2, View.ld_unit_zero (S := S256x512) hz2, View.ld_unit_zero (S := S1x512) hz2,
    View.ld_unit]
  rfl

theorem out32 (t : Fin cfg0.N) : (outsAt0 m c t).2.2.2.2.2.2 = k0_pay25 (gTile m c t) (iblk m c 21 t) := by
  unfold outsAt0
  dsimp only
  unfold out0_A_32
  rw [View.read_writes_eq_canon _ _ _ (fun _ => cover0_A_32 ..)]
  unfold kernelRun0_A
  dsimp only
  sl_unfold_words
  rw [View.canon_unit_zero hz2]
  simp only [View.readAt_eq_ld, (hs0_5 t).read_unread, (hs0_12 t).read_unread, (hs0_14 t).read_unread, (hs0_21 t).read_unread,
    View.ld_unit_zero (S := S512x512) hz2, View.ld_unit_zero (S := S512x128) hz2, View.ld_unit_zero (S := S512x256) hz2,
    View.ld_unit_zero (S := S128x512) hz2, View.ld_unit_zero (S := S256x512) hz2, View.ld_unit_zero (S := S1x512) hz2,
    View.ld_unit]
  rfl

end Cert.Kernel6Ideal.RwkvPre
-- ==== Proof.Rwkv.Tables.lean ====
/-
  The arrays that the host lays out for the mixer's preparing kernel, entry by entry: the packed mixing weights, one row of
  each pair of vectors, the low-rank matrices padded with rows of zeros, and the table of the heads' columns.
-/
module

public import proofs.«01_k».proof.Proof.Gen.Kernel6Ideal.Frame.Runs
public import Idealize.ShloMosaic.Lib.StableHlo.ReadAt
public import Idealize.ShloMosaic.Lib.Tactic
public import Idealize.ShloMosaic.Lib.Pipeline.Value
public import Idealize.ShloMosaic.Lib.Pointwise

@[expose] public section

set_option maxRecDepth 16384

noncomputable section

namespace Cert.Kernel6Ideal.RwkvPre

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

abbrev proj : S8192x6912.Idx → EReal := m ((c : Thread nD τ).loc main_arg0)
abbrev mix : S2x1984.Idx → EReal := m ((c : Thread nD τ).loc main_arg1)
abbrev vmix : S1x64.Idx → EReal := m ((c : Thread nD τ).loc main_arg2)
abbrev w0 : S2x512.Idx → EReal := m ((c : Thread nD τ).loc main_arg3)
abbrev w2 : S2x96x512.Idx → EReal := m ((c : Thread nD τ).loc main_arg4)
abbrev a0 : S2x512.Idx → EReal := m ((c : Thread nD τ).loc main_arg5)
abbrev a2 : S2x96x512.Idx → EReal := m ((c : Thread nD τ).loc main_arg6)
abbrev v0 : S1x512.Idx → EReal := m ((c : Thread nD τ).loc main_arg7)
abbrev v2 : S1x64x512.Idx → EReal := m ((c : Thread nD τ).loc main_arg8)
abbrev g2 : S2x256x512.Idx → EReal := m ((c : Thread nD τ).loc main_arg9)
abbrev kk : S2x512.Idx → EReal := m ((c : Thread nD τ).loc main_arg10)
abbrev ka : S2x512.Idx → EReal := m ((c : Thread nD τ).loc main_arg11)
abbrev vfirst : S8192x512.Idx → EReal := m ((c : Thread nD τ).loc main_arg12)

/-- The mixing weights of r, k, v and of the decay's input. -/
theorem mix_at_front (j : Fin 2176) (h : j.val < 1632) : V m c main_v12 (ix2 0 j) = mix m c (ix2 1 ⟨j.val, by omega⟩) := by
  unfold V
  after_reads_at
  pointwise
  by_cases h1 : j.val < 1536
  · rw [dif_pos h1]
    after_reads_at
  · rw [dif_neg h1, dif_pos (by omega)]
    after_reads_at
    exact congrArg (mix m c) (congrArg (ix2 1) (Fin.ext (by show 1536 + (j.val - 1536) = j.val; omega)))

/-- The mixing weights of the in-context rate's input. -/
theorem mix_at_rate (k : Fin 96) (j : Fin 2176) (h : j.val = 1664 + k.val) :
    V m c main_v12 (ix2 0 j) = mix m c (ix2 1 ⟨1632 + k.val, by omega⟩) := by
  unfold V
  after_reads_at
  pointwise
  rw [dif_neg (by omega), dif_neg (by omega), dif_neg (by omega), dif_pos (by omega)]
  after_reads_at
  exact congrArg (mix m c) (congrArg (ix2 1) (Fin.ext (by show 1632 + (j.val - 1536 - 96 - 32) = 1632 + k.val; omega)))

/-- The mixing weights of the gate's input. -/
theorem mix_at_gate (k : Fin 256) (j : Fin 2176) (h : j.val = 1792 + k.val) :
    V m c main_v12 (ix2 0 j) = mix m c (ix2 1 ⟨1728 + k.val, by omega⟩) := by
  unfold V
  after_reads_at
  pointwise
  rw [dif_neg (by omega), dif_neg (by omega), dif_neg (by omega), dif_neg (by omega), dif_neg (by omega), dif_pos (by omega)]
  after_reads_at
  exact congrArg (mix m c) (congrArg (ix2 1) (Fin.ext (by show 1728 + (j.val - 1536 - 96 - 32 - 96 - 32) = 1728 + k.val; omega)))

/-- The mixing weights of the value residual's input. -/
theorem mix_at_residual (k : Fin 64) (j : Fin 2176) (h : j.val = 2048 + k.val) :
    V m c main_v12 (ix2 0 j) = vmix m c (ix2 0 k) := by
  unfold V
  after_reads_at
  pointwise
  rw [dif_neg (by omega), dif_neg (by omega), dif_neg (by omega), dif_neg (by omega), dif_neg (by omega), dif_neg (by omega)]
  after_reads_at
  rw [dif_pos (by omega)]
  exact congrArg (vmix m c) (congrArg (ix2 0) (Fin.ext (by show j.val - 1536 - 96 - 32 - 96 - 32 - 256 = k.val; omega)))

/-- A pad of the whole number zero is the real zero. -/
theorem pad_zero : FloatOps.sitofp (F := Ideal) FTy.f32 0#32 = (0 : EReal) := by
  show (((0#32 : BitVec 32).toInt : ℝ) : EReal) = 0
  simp

theorem w0_at (j : Fin 512) : V m c main_v19 (ix2 0 j) = w0 m c (ix2 1 j) := by
  unfold V
  after_reads_at

theorem a0_at (j : Fin 512) : V m c main_v25 (ix2 0 j) = a0 m c (ix2 1 j) := by
  unfold V
  after_reads_at

theorem kk_at (j : Fin 512) : V m c main_v33 (ix2 0 j) = kk m c (ix2 1 j) := by
  unfold V
  after_reads_at

theorem ka_at (j : Fin 512) : V m c main_v36 (ix2 0 j) = ka m c (ix2 1 j) := by
  unfold V
  after_reads_at

theorem w2_at (k : Fin 128) (j : Fin 512) : V m c main_v22 (ix2 k j) = if h : k.val < 96 then w2 m c (ix3 1 ⟨k.val, h⟩ j) else 0 := by
  unfold V
  after_reads_at
  pointwise
  split
  · rfl
  · exact pad_zero

theorem a2_at (k : Fin 128) (j : Fin 512) : V m c main_v28 (ix2 k j) = if h : k.val < 96 then a2 m c (ix3 1 ⟨k.val, h⟩ j) else 0 := by
  unfold V
  after_reads_at
  pointwise
  split
  · rfl
  · exact pad_zero

theorem v2_at (k : Fin 128) (j : Fin 512) : V m c main_v16 (ix2 k j) = if h : k.val < 64 then v2 m c (ix3 0 ⟨k.val, h⟩ j) else 0 := by
  unfold V
  after_reads_at
  pointwise
  split
  · rfl
  · exact pad_zero

theorem g2_at (k : Fin 256) (j : Fin 512) : V m c main_v30 (ix2 k j) = g2 m c (ix3 1 k j) := by
  unfold V
  after_reads_at

theorem v0_at (j : Fin 512) : V m c main_v14 (ix2 0 j) = v0 m c (ix2 0 j) := by
  unfold V
  after_reads_at

/-- The whole part of a column's number over 64, as the host forms it. -/
theorem head_of : ∀ j : Fin 512,
    Scalar.select
      (IntOp.andi
        (IntOp.cmpi CmpIPredicate.ne
          (if BitVec.ofNat 32 j.val = 0 then (0 : BitVec 32) else if (BitVec.ofNat 32 j.val).msb = true then -1 else 1)
          (if (64#32 : BitVec 32) = 0 then 0 else if BitVec.msb 64#32 = true then -1 else 1))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (j.val / 64) := by
  decide +kernel

theorem same_head : ∀ p q : Fin 8, IntOp.cmpi CmpIPredicate.eq (BitVec.ofNat 32 p.val) (BitVec.ofNat 32 q.val)
    = if p.val = q.val then 1#1 else 0#1 := by
  decide +kernel

/-- The table is one where the row and the column are in one head. -/
theorem gsum_at (k : Fin 512) (j : Fin 512) :
    V m c main_v44 (ix2 k j) = (if k.val / 64 = j.val / 64 then 1 else 0 : EReal) := by
  unfold V
  after_reads_at
  pointwise
  refine (congrArg (FloatOps.uitofp (F := Ideal) FTy.bf16) (congrArg₂ (IntOp.cmpi CmpIPredicate.eq) (head_of k) (head_of j))).trans ?_
  refine (congrArg (FloatOps.uitofp (F := Ideal) FTy.bf16) (same_head ⟨k.val / 64, by omega⟩ ⟨j.val / 64, by omega⟩)).trans ?_
  show ((((if k.val / 64 = j.val / 64 then 1#1 else 0#1 : BitVec 1).toNat : ℕ) : ℝ) : EReal) = _
  split <;> simp

end Cert.Kernel6Ideal.RwkvPre
-- ==== Proof.Rwkv.Reads.lean ====
/-
  What the windows of the mixer's preparing kernel hold at a grid point, entry by entry.
-/
module

public import proofs.«01_k».proof.Proof.Rwkv.Tables

@[expose] public section

set_option maxRecDepth 16384

noncomputable section

namespace Cert.Kernel6Ideal.RwkvPre

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-- The row of a tile's place. -/
abbrev row (t : Fin cfg0.N) (e : Fin 512) : Fin 8192 := ⟨512 * t.val + e.val, by have := lt_of_lt_of_eq t.isLt N_0; omega⟩

theorem place_0 : ∀ t : Fin cfg0.N, win0_0.index t (0 : Fin 2) = t.val ∧ win0_0.index t (1 : Fin 2) = 4 :=
  (by decide +kernel : ∀ t : Fin grid0.N, _)

theorem block_0 (t : Fin cfg0.N) (e : Fin 512) (q : Fin 512) :
    X0_0 m c t (ix2 e q) = proj m c (ix2 (row t e) ⟨2048 + q.val, by omega⟩) := by
  obtain ⟨h0, h1⟩ := place_0 t
  unfold X0_0 Pipeline.Window.fill
  rw [dif_pos (moved0_0 t _)]
  unfold iblk
  refine Eq.trans (congrArg (V m c main_arg0) (funext fun a => Fin.ext ?_)) (congrFun (V_main_arg0 m c) _)
  match a with
  | ⟨0, _⟩ =>
    show win0_0.index t (0 : Fin 2) * 512 + 1 * e.val = 512 * t.val + e.val
    rw [h0]; omega
  | ⟨1, _⟩ =>
    show win0_0.index t (1 : Fin 2) * 512 + 1 * q.val = 2048 + q.val
    rw [h1]; omega

theorem place_7 : ∀ t : Fin cfg0.N, win0_7.index t (0 : Fin 2) = 64 * t.val - 1 ∧ win0_7.index t (1 : Fin 2) = 4 :=
  (by decide +kernel : ∀ t : Fin grid0.N, _)

theorem block_7 (t : Fin cfg0.N) (h : 0 < t.val) (q : Fin 512) :
    X0_7 m c t (ix2 (7 : Fin 8) q)
      = proj m c (ix2 ⟨512 * t.val - 1, by have := lt_of_lt_of_eq t.isLt N_0; omega⟩ ⟨2048 + q.val, by omega⟩) := by
  obtain ⟨h0, h1⟩ := place_7 t
  unfold X0_7 Pipeline.Window.fill
  rw [dif_pos (moved0_7 t _)]
  unfold iblk
  refine Eq.trans (congrArg (V m c main_arg0) (funext fun a => Fin.ext ?_)) (congrFun (V_main_arg0 m c) _)
  match a with
  | ⟨0, _⟩ =>
    show win0_7.index t (0 : Fin 2) * 8 + 1 * 7 = 512 * t.val - 1
    rw [h0]; omega
  | ⟨1, _⟩ =>
    show win0_7.index t (1 : Fin 2) * 512 + 1 * q.val = 2048 + q.val
    rw [h1]; omega

theorem place_1 : ∀ t : Fin cfg0.N, win0_1.index t (0 : Fin 2) = t.val ∧ win0_1.index t (1 : Fin 2) = 5 :=
  (by decide +kernel : ∀ t : Fin grid0.N, _)

theorem block_1 (t : Fin cfg0.N) (e : Fin 512) (q : Fin 512) :
    X0_1 m c t (ix2 e q) = proj m c (ix2 (row t e) ⟨2560 + q.val, by omega⟩) := by
  obtain ⟨h0, h1⟩ := place_1 t
  unfold X0_1 Pipeline.Window.fill
  rw [dif_pos (moved0_1 t _)]
  unfold iblk
  refine Eq.trans (congrArg (V m c main_arg0) (funext fun a => Fin.ext ?_)) (congrFun (V_main_arg0 m c) _)
  match a with
  | ⟨0, _⟩ =>
    show win0_1.index t (0 : Fin 2) * 512 + 1 * e.val = 512 * t.val + e.val
    rw [h0]; omega
  | ⟨1, _⟩ =>
    show win0_1.index t (1 : Fin 2) * 512 + 1 * q.val = 2560 + q.val
    rw [h1]; omega

theorem place_8 : ∀ t : Fin cfg0.N, win0_8.index t (0 : Fin 2) = 64 * t.val - 1 ∧ win0_8.index t (1 : Fin 2) = 5 :=
  (by decide +kernel : ∀ t : Fin grid0.N, _)

theorem block_8 (t : Fin cfg0.N) (h : 0 < t.val) (q : Fin 512) :
    X0_8 m c t (ix2 (7 : Fin 8) q)
      = proj m c (ix2 ⟨512 * t.val - 1, by have := lt_of_lt_of_eq t.isLt N_0; omega⟩ ⟨2560 + q.val, by omega⟩) := by
  obtain ⟨h0, h1⟩ := place_8 t
  unfold X0_8 Pipeline.Window.fill
  rw [dif_pos (moved0_8 t _)]
  unfold iblk
  refine Eq.trans (congrArg (V m c main_arg0) (funext fun a => Fin.ext ?_)) (congrFun (V_main_arg0 m c) _)
  match a with
  | ⟨0, _⟩ =>
    show win0_8.index t (0 : Fin 2) * 8 + 1 * 7 = 512 * t.val - 1
    rw [h0]; omega
  | ⟨1, _⟩ =>
    show win0_8.index t (1 : Fin 2) * 512 + 1 * q.val = 2560 + q.val
    rw [h1]; omega

theorem place_2 : ∀ t : Fin cfg0.N, win0_2.index t (0 : Fin 2) = t.val ∧ win0_2.index t (1 : Fin 2) = 6 :=
  (by decide +kernel : ∀ t : Fin grid0.N, _)

theorem block_2 (t : Fin cfg0.N) (e : Fin 512) (q : Fin 512) :
    X0_2 m c t (ix2 e q) = proj m c (ix2 (row t e) ⟨3072 + q.val, by omega⟩) := by
  obtain ⟨h0, h1⟩ := place_2 t
  unfold X0_2 Pipeline.Window.fill
  rw [dif_pos (moved0_2 t _)]
  unfold iblk
  refine Eq.trans (congrArg (V m c main_arg0) (funext fun a => Fin.ext ?_)) (congrFun (V_main_arg0 m c) _)
  match a with
  | ⟨0, _⟩ =>
    show win0_2.index t (0 : Fin 2) * 512 + 1 * e.val = 512 * t.val + e.val
    rw [h0]; omega
  | ⟨1, _⟩ =>
    show win0_2.index t (1 : Fin 2) * 512 + 1 * q.val = 3072 + q.val
    rw [h1]; omega

theorem place_9 : ∀ t : Fin cfg0.N, win0_9.index t (0 : Fin 2) = 64 * t.val - 1 ∧ win0_9.index t (1 : Fin 2) = 6 :=
  (by decide +kernel : ∀ t : Fin grid0.N, _)

theorem block_9 (t : Fin cfg0.N) (h : 0 < t.val) (q : Fin 512) :
    X0_9 m c t (ix2 (7 : Fin 8) q)
      = proj m c (ix2 ⟨512 * t.val - 1, by have := lt_of_lt_of_eq t.isLt N_0; omega⟩ ⟨3072 + q.val, by omega⟩) := by
  obtain ⟨h0, h1⟩ := place_9 t
  unfold X0_9 Pipeline.Window.fill
  rw [dif_pos (moved0_9 t _)]
  unfold iblk
  refine Eq.trans (congrArg (V m c main_arg0) (funext fun a => Fin.ext ?_)) (congrFun (V_main_arg0 m c) _)
  match a with
  | ⟨0, _⟩ =>
    show win0_9.index t (0 : Fin 2) * 8 + 1 * 7 = 512 * t.val - 1
    rw [h0]; omega
  | ⟨1, _⟩ =>
    show win0_9.index t (1 : Fin 2) * 512 + 1 * q.val = 3072 + q.val
    rw [h1]; omega

theorem place_3 : ∀ t : Fin cfg0.N, win0_3.index t (0 : Fin 2) = t.val ∧ win0_3.index t (1 : Fin 2) = 28 :=
  (by decide +kernel : ∀ t : Fin grid0.N, _)

theorem block_3 (t : Fin cfg0.N) (e : Fin 512) (q : Fin 128) :
    iblk m c 3 t (ix2 e q) = proj m c (ix2 (row t e) ⟨3584 + q.val, by omega⟩) := by
  obtain ⟨h0, h1⟩ := place_3 t
  unfold iblk
  refine Eq.trans (congrArg (V m c main_arg0) (funext fun a => Fin.ext ?_)) (congrFun (V_main_arg0 m c) _)
  match a with
  | ⟨0, _⟩ =>
    show win0_3.index t (0 : Fin 2) * 512 + 1 * e.val = 512 * t.val + e.val
    rw [h0]; omega
  | ⟨1, _⟩ =>
    show win0_3.index t (1 : Fin 2) * 128 + 1 * q.val = 3584 + q.val
    rw [h1]; omega

theorem place_10 : ∀ t : Fin cfg0.N, win0_10.index t (0 : Fin 2) = 64 * t.val - 1 ∧ win0_10.index t (1 : Fin 2) = 28 :=
  (by decide +kernel : ∀ t : Fin grid0.N, _)

theorem block_10 (t : Fin cfg0.N) (h : 0 < t.val) (q : Fin 128) :
    iblk m c 10 t (ix2 (7 : Fin 8) q)
      = proj m c (ix2 ⟨512 * t.val - 1, by have := lt_of_lt_of_eq t.isLt N_0; omega⟩ ⟨3584 + q.val, by omega⟩) := by
  obtain ⟨h0, h1⟩ := place_10 t
  unfold iblk
  refine Eq.trans (congrArg (V m c main_arg0) (funext fun a => Fin.ext ?_)) (congrFun (V_main_arg0 m c) _)
  match a with
  | ⟨0, _⟩ =>
    show win0_10.index t (0 : Fin 2) * 8 + 1 * 7 = 512 * t.val - 1
    rw [h0]; omega
  | ⟨1, _⟩ =>
    show win0_10.index t (1 : Fin 2) * 128 + 1 * q.val = 3584 + q.val
    rw [h1]; omega

theorem place_4 : ∀ t : Fin cfg0.N, win0_4.index t (0 : Fin 2) = t.val ∧ win0_4.index t (1 : Fin 2) = 29 :=
  (by decide +kernel : ∀ t : Fin grid0.N, _)

theorem block_4 (t : Fin cfg0.N) (e : Fin 512) (q : Fin 128) :
    iblk m c 4 t (ix2 e q) = proj m c (ix2 (row t e) ⟨3712 + q.val, by omega⟩) := by
  obtain ⟨h0, h1⟩ := place_4 t
  unfold iblk
  refine Eq.trans (congrArg (V m c main_arg0) (funext fun a => Fin.ext ?_)) (congrFun (V_main_arg0 m c) _)
  match a with
  | ⟨0, _⟩ =>
    show win0_4.index t (0 : Fin 2) * 512 + 1 * e.val = 512 * t.val + e.val
    rw [h0]; omega
  | ⟨1, _⟩ =>
    show win0_4.index t (1 : Fin 2) * 128 + 1 * q.val = 3712 + q.val
    rw [h1]; omega

theorem place_11 : ∀ t : Fin cfg0.N, win0_11.index t (0 : Fin 2) = 64 * t.val - 1 ∧ win0_11.index t (1 : Fin 2) = 29 :=
  (by decide +kernel : ∀ t : Fin grid0.N, _)

theorem block_11 (t : Fin cfg0.N) (h : 0 < t.val) (q : Fin 128) :
    iblk m c 11 t (ix2 (7 : Fin 8) q)
      = proj m c (ix2 ⟨512 * t.val - 1, by have := lt_of_lt_of_eq t.isLt N_0; omega⟩ ⟨3712 + q.val, by omega⟩) := by
  obtain ⟨h0, h1⟩ := place_11 t
  unfold iblk
  refine Eq.trans (congrArg (V m c main_arg0) (funext fun a => Fin.ext ?_)) (congrFun (V_main_arg0 m c) _)
  match a with
  | ⟨0, _⟩ =>
    show win0_11.index t (0 : Fin 2) * 8 + 1 * 7 = 512 * t.val - 1
    rw [h0]; omega
  | ⟨1, _⟩ =>
    show win0_11.index t (1 : Fin 2) * 128 + 1 * q.val = 3712 + q.val
    rw [h1]; omega

theorem place_5 : ∀ t : Fin cfg0.N, win0_5.index t (0 : Fin 2) = t.val ∧ win0_5.index t (1 : Fin 2) = 15 :=
  (by decide +kernel : ∀ t : Fin grid0.N, _)

theorem block_5 (t : Fin cfg0.N) (e : Fin 512) (q : Fin 256) :
    iblk m c 5 t (ix2 e q) = proj m c (ix2 (row t e) ⟨3840 + q.val, by omega⟩) := by
  obtain ⟨h0, h1⟩ := place_5 t
  unfold iblk
  refine Eq.trans (congrArg (V m c main_arg0) (funext fun a => Fin.ext ?_)) (congrFun (V_main_arg0 m c) _)
  match a with
  | ⟨0, _⟩ =>
    show win0_5.index t (0 : Fin 2) * 512 + 1 * e.val = 512 * t.val + e.val
    rw [h0]; omega
  | ⟨1, _⟩ =>
    show win0_5.index t (1 : Fin 2) * 256 + 1 * q.val = 3840 + q.val
    rw [h1]; omega

theorem place_12 : ∀ t : Fin cfg0.N, win0_12.index t (0 : Fin 2) = 64 * t.val - 1 ∧ win0_12.index t (1 : Fin 2) = 15 :=
  (by decide +kernel : ∀ t : Fin grid0.N, _)

theorem block_12 (t : Fin cfg0.N) (h : 0 < t.val) (q : Fin 256) :
    iblk m c 12 t (ix2 (7 : Fin 8) q)
      = proj m c (ix2 ⟨512 * t.val - 1, by have := lt_of_lt_of_eq t.isLt N_0; omega⟩ ⟨3840 + q.val, by omega⟩) := by
  obtain ⟨h0, h1⟩ := place_12 t
  unfold iblk
  refine Eq.trans (congrArg (V m c main_arg0) (funext fun a => Fin.ext ?_)) (congrFun (V_main_arg0 m c) _)
  match a with
  | ⟨0, _⟩ =>
    show win0_12.index t (0 : Fin 2) * 8 + 1 * 7 = 512 * t.val - 1
    rw [h0]; omega
  | ⟨1, _⟩ =>
    show win0_12.index t (1 : Fin 2) * 256 + 1 * q.val = 3840 + q.val
    rw [h1]; omega

theorem place_6 : ∀ t : Fin cfg0.N, win0_6.index t (0 : Fin 2) = t.val ∧ win0_6.index t (1 : Fin 2) = 32 :=
  (by decide +kernel : ∀ t : Fin grid0.N, _)

theorem block_6 (t : Fin cfg0.N) (e : Fin 512) (q : Fin 128) :
    iblk m c 6 t (ix2 e q) = proj m c (ix2 (row t e) ⟨4096 + q.val, by omega⟩) := by
  obtain ⟨h0, h1⟩ := place_6 t
  unfold iblk
  refine Eq.trans (congrArg (V m c main_arg0) (funext fun a => Fin.ext ?_)) (congrFun (V_main_arg0 m c) _)
  match a with
  | ⟨0, _⟩ =>
    show win0_6.index t (0 : Fin 2) * 512 + 1 * e.val = 512 * t.val + e.val
    rw [h0]; omega
  | ⟨1, _⟩ =>
    show win0_6.index t (1 : Fin 2) * 128 + 1 * q.val = 4096 + q.val
    rw [h1]; omega

theorem place_13 : ∀ t : Fin cfg0.N, win0_13.index t (0 : Fin 2) = 64 * t.val - 1 ∧ win0_13.index t (1 : Fin 2) = 32 :=
  (by decide +kernel : ∀ t : Fin grid0.N, _)

theorem block_13 (t : Fin cfg0.N) (h : 0 < t.val) (q : Fin 128) :
    iblk m c 13 t (ix2 (7 : Fin 8) q)
      = proj m c (ix2 ⟨512 * t.val - 1, by have := lt_of_lt_of_eq t.isLt N_0; omega⟩ ⟨4096 + q.val, by omega⟩) := by
  obtain ⟨h0, h1⟩ := place_13 t
  unfold iblk
  refine Eq.trans (congrArg (V m c main_arg0) (funext fun a => Fin.ext ?_)) (congrFun (V_main_arg0 m c) _)
  match a with
  | ⟨0, _⟩ =>
    show win0_13.index t (0 : Fin 2) * 8 + 1 * 7 = 512 * t.val - 1
    rw [h0]; omega
  | ⟨1, _⟩ =>
    show win0_13.index t (1 : Fin 2) * 128 + 1 * q.val = 4096 + q.val
    rw [h1]; omega

theorem place_14 : ∀ t : Fin cfg0.N, win0_14.index t (0 : Fin 2) = 0 ∧ win0_14.index t (1 : Fin 2) = 0 :=
  (by decide +kernel : ∀ t : Fin grid0.N, _)

theorem block_14 (t : Fin cfg0.N) (k : Fin 1) (q : Fin 2176) : iblk m c 14 t (ix2 k q) = V m c main_v12 (ix2 k q) := by
  obtain ⟨h0, h1⟩ := place_14 t
  unfold iblk
  refine congrArg (V m c main_v12) (funext fun a => Fin.ext ?_)
  match a with
  | ⟨0, _⟩ =>
    show win0_14.index t (0 : Fin 2) * 1 + 1 * k.val = k.val
    rw [h0]; omega
  | ⟨1, _⟩ =>
    show win0_14.index t (1 : Fin 2) * 2176 + 1 * q.val = q.val
    rw [h1]; omega

theorem place_15 : ∀ t : Fin cfg0.N, win0_15.index t (0 : Fin 2) = 0 ∧ win0_15.index t (1 : Fin 2) = 0 :=
  (by decide +kernel : ∀ t : Fin grid0.N, _)

theorem block_15 (t : Fin cfg0.N) (k : Fin 1) (q : Fin 512) : iblk m c 15 t (ix2 k q) = V m c main_v19 (ix2 k q) := by
  obtain ⟨h0, h1⟩ := place_15 t
  unfold iblk
  refine congrArg (V m c main_v19) (funext fun a => Fin.ext ?_)
  match a with
  | ⟨0, _⟩ =>
    show win0_15.index t (0 : Fin 2) * 1 + 1 * k.val = k.val
    rw [h0]; omega
  | ⟨1, _⟩ =>
    show win0_15.index t (1 : Fin 2) * 512 + 1 * q.val = q.val
    rw [h1]; omega

theorem place_16 : ∀ t : Fin cfg0.N, win0_16.index t (0 : Fin 2) = 0 ∧ win0_16.index t (1 : Fin 2) = 0 :=
  (by decide +kernel : ∀ t : Fin grid0.N, _)

theorem block_16 (t : Fin cfg0.N) (k : Fin 128) (q : Fin 512) : iblk m c 16 t (ix2 k q) = V m c main_v22 (ix2 k q) := by
  obtain ⟨h0, h1⟩ := place_16 t
  unfold iblk
  refine congrArg (V m c main_v22) (funext fun a => Fin.ext ?_)
  match a with
  | ⟨0, _⟩ =>
    show win0_16.index t (0 : Fin 2) * 128 + 1 * k.val = k.val
    rw [h0]; omega
  | ⟨1, _⟩ =>
    show win0_16.index t (1 : Fin 2) * 512 + 1 * q.val = q.val
    rw [h1]; omega

theorem place_17 : ∀ t : Fin cfg0.N, win0_17.index t (0 : Fin 2) = 0 ∧ win0_17.index t (1 : Fin 2) = 0 :=
  (by decide +kernel : ∀ t : Fin grid0.N, _)

theorem block_17 (t : Fin cfg0.N) (k : Fin 1) (q : Fin 512) : iblk m c 17 t (ix2 k q) = V m c main_v25 (ix2 k q) := by
  obtain ⟨h0, h1⟩ := place_17 t
  unfold iblk
  refine congrArg (V m c main_v25) (funext fun a => Fin.ext ?_)
  match a with
  | ⟨0, _⟩ =>
    show win0_17.index t (0 : Fin 2) * 1 + 1 * k.val = k.val
    rw [h0]; omega
  | ⟨1, _⟩ =>
    show win0_17.index t (1 : Fin 2) * 512 + 1 * q.val = q.val
    rw [h1]; omega

theorem place_18 : ∀ t : Fin cfg0.N, win0_18.index t (0 : Fin 2) = 0 ∧ win0_18.index t (1 : Fin 2) = 0 :=
  (by decide +kernel : ∀ t : Fin grid0.N, _)

theorem block_18 (t : Fin cfg0.N) (k : Fin 128) (q : Fin 512) : iblk m c 18 t (ix2 k q) = V m c main_v28 (ix2 k q) := by
  obtain ⟨h0, h1⟩ := place_18 t
  unfold iblk
  refine congrArg (V m c main_v28) (funext fun a => Fin.ext ?_)
  match a with
  | ⟨0, _⟩ =>
    show win0_18.index t (0 : Fin 2) * 128 + 1 * k.val = k.val
    rw [h0]; omega
  | ⟨1, _⟩ =>
    show win0_18.index t (1 : Fin 2) * 512 + 1 * q.val = q.val
    rw [h1]; omega

theorem place_19 : ∀ t : Fin cfg0.N, win0_19.index t (0 : Fin 2) = 0 ∧ win0_19.index t (1 : Fin 2) = 0 :=
  (by decide +kernel : ∀ t : Fin grid0.N, _)

theorem block_19 (t : Fin cfg0.N) (k : Fin 1) (q : Fin 512) : iblk m c 19 t (ix2 k q) = V m c main_v14 (ix2 k q) := by
  obtain ⟨h0, h1⟩ := place_19 t
  unfold iblk
  refine congrArg (V m c main_v14) (funext fun a => Fin.ext ?_)
  match a with
  | ⟨0, _⟩ =>
    show win0_19.index t (0 : Fin 2) * 1 + 1 * k.val = k.val
    rw [h0]; omega
  | ⟨1, _⟩ =>
    show win0_19.index t (1 : Fin 2) * 512 + 1 * q.val = q.val
    rw [h1]; omega

theorem place_20 : ∀ t : Fin cfg0.N, win0_20.index t (0 : Fin 2) = 0 ∧ win0_20.index t (1 : Fin 2) = 0 :=
  (by decide +kernel : ∀ t : Fin grid0.N, _)

theorem block_20 (t : Fin cfg0.N) (k : Fin 128) (q : Fin 512) : iblk m c 20 t (ix2 k q) = V m c main_v16 (ix2 k q) := by
  obtain ⟨h0, h1⟩ := place_20 t
  unfold iblk
  refine congrArg (V m c main_v16) (funext fun a => Fin.ext ?_)
  match a with
  | ⟨0, _⟩ =>
    show win0_20.index t (0 : Fin 2) * 128 + 1 * k.val = k.val
    rw [h0]; omega
  | ⟨1, _⟩ =>
    show win0_20.index t (1 : Fin 2) * 512 + 1 * q.val = q.val
    rw [h1]; omega

theorem place_21 : ∀ t : Fin cfg0.N, win0_21.index t (0 : Fin 2) = 0 ∧ win0_21.index t (1 : Fin 2) = 0 :=
  (by decide +kernel : ∀ t : Fin grid0.N, _)

theorem block_21 (t : Fin cfg0.N) (k : Fin 256) (q : Fin 512) : iblk m c 21 t (ix2 k q) = V m c main_v30 (ix2 k q) := by
  obtain ⟨h0, h1⟩ := place_21 t
  unfold iblk
  refine congrArg (V m c main_v30) (funext fun a => Fin.ext ?_)
  match a with
  | ⟨0, _⟩ =>
    show win0_21.index t (0 : Fin 2) * 256 + 1 * k.val = k.val
    rw [h0]; omega
  | ⟨1, _⟩ =>
    show win0_21.index t (1 : Fin 2) * 512 + 1 * q.val = q.val
    rw [h1]; omega

theorem place_22 : ∀ t : Fin cfg0.N, win0_22.index t (0 : Fin 2) = 0 ∧ win0_22.index t (1 : Fin 2) = 0 :=
  (by decide +kernel : ∀ t : Fin grid0.N, _)

theorem block_22 (t : Fin cfg0.N) (k : Fin 1) (q : Fin 512) : iblk m c 22 t (ix2 k q) = V m c main_v33 (ix2 k q) := by
  obtain ⟨h0, h1⟩ := place_22 t
  unfold iblk
  refine congrArg (V m c main_v33) (funext fun a => Fin.ext ?_)
  match a with
  | ⟨0, _⟩ =>
    show win0_22.index t (0 : Fin 2) * 1 + 1 * k.val = k.val
    rw [h0]; omega
  | ⟨1, _⟩ =>
    show win0_22.index t (1 : Fin 2) * 512 + 1 * q.val = q.val
    rw [h1]; omega

theorem place_23 : ∀ t : Fin cfg0.N, win0_23.index t (0 : Fin 2) = 0 ∧ win0_23.index t (1 : Fin 2) = 0 :=
  (by decide +kernel : ∀ t : Fin grid0.N, _)

theorem block_23 (t : Fin cfg0.N) (k : Fin 1) (q : Fin 512) : iblk m c 23 t (ix2 k q) = V m c main_v36 (ix2 k q) := by
  obtain ⟨h0, h1⟩ := place_23 t
  unfold iblk
  refine congrArg (V m c main_v36) (funext fun a => Fin.ext ?_)
  match a with
  | ⟨0, _⟩ =>
    show win0_23.index t (0 : Fin 2) * 1 + 1 * k.val = k.val
    rw [h0]; omega
  | ⟨1, _⟩ =>
    show win0_23.index t (1 : Fin 2) * 512 + 1 * q.val = q.val
    rw [h1]; omega

theorem place_24 : ∀ t : Fin cfg0.N, win0_24.index t (0 : Fin 2) = 0 ∧ win0_24.index t (1 : Fin 2) = 0 :=
  (by decide +kernel : ∀ t : Fin grid0.N, _)

theorem block_24 (t : Fin cfg0.N) (k : Fin 512) (q : Fin 512) : iblk m c 24 t (ix2 k q) = V m c main_v44 (ix2 k q) := by
  obtain ⟨h0, h1⟩ := place_24 t
  unfold iblk
  refine congrArg (V m c main_v44) (funext fun a => Fin.ext ?_)
  match a with
  | ⟨0, _⟩ =>
    show win0_24.index t (0 : Fin 2) * 512 + 1 * k.val = k.val
    rw [h0]; omega
  | ⟨1, _⟩ =>
    show win0_24.index t (1 : Fin 2) * 512 + 1 * q.val = q.val
    rw [h1]; omega

theorem place_25 : ∀ t : Fin cfg0.N, win0_25.index t (0 : Fin 2) = t.val ∧ win0_25.index t (1 : Fin 2) = 0 :=
  (by decide +kernel : ∀ t : Fin grid0.N, _)

theorem block_25 (t : Fin cfg0.N) (e q : Fin 512) : iblk m c 25 t (ix2 e q) = vfirst m c (ix2 (row t e) q) := by
  obtain ⟨h0, h1⟩ := place_25 t
  unfold iblk
  refine Eq.trans (congrArg (V m c main_arg12) (funext fun a => Fin.ext ?_)) (congrFun (V_main_arg12 m c) _)
  match a with
  | ⟨0, _⟩ =>
    show win0_25.index t (0 : Fin 2) * 512 + 1 * e.val = 512 * t.val + e.val
    rw [h0]; omega
  | ⟨1, _⟩ =>
    show win0_25.index t (1 : Fin 2) * 512 + 1 * q.val = q.val
    rw [h1]; omega

end Cert.Kernel6Ideal.RwkvPre
-- ==== Proof.Rwkv.Steps.lean ====
/-
  The steps of the mixer's preparing kernel on one tile, entry by entry.
-/
module

public import proofs.«01_k».proof.Proof.Gen.Kernel6Ideal.Skeleton
public import Idealize.ShloMosaic.Lib.Pointwise

@[expose] public section

set_option maxRecDepth 16384

noncomputable section

namespace Cert.Kernel6Ideal.RwkvPre

open Idealize.ShloMosaic Idealize.ShloMosaic.TcCoe Idealize.SL.Sem
open Cert.Kernel6Ideal Cert.Kernel6Ideal.Gen

/-! ## Sums over real entries -/

theorem diff_self {x : EReal} (h : ∃ r : ℝ, x = (r : EReal)) : x - x = 0 := by
  obtain ⟨r, rfl⟩ := h
  rw [← EReal.coe_sub, sub_self, EReal.coe_zero]

/-- A dot of two vectors, each split into a head and a rest, where the weights past the first `n` are zero. -/
theorem split_dot {p n : ℕ} (hn : n ≤ p) (a b : Fin p → EReal)
    (ha : ∀ k : Fin p, k.val < n → ∃ r : ℝ, a k = (r : EReal)) (hb : ∀ k : Fin p, k.val < n → ∃ r : ℝ, b k = (r : EReal))
    (hz : ∀ k : Fin p, n ≤ k.val → b k = 0) :
    ∑ k, a k * b k + (∑ k, a k * (b k - b k) + ∑ k, (a k - a k) * b k)
      = ∑ k : Fin n, a (Fin.castLE hn k) * b (Fin.castLE hn k) := by
  have e1 : ∑ k, a k * (b k - b k) = 0 := by
    refine Finset.sum_eq_zero fun k _ => ?_
    by_cases h : k.val < n
    · rw [diff_self (hb k h), mul_zero]
    · rw [hz k (by omega), sub_zero, mul_zero]
  have e2 : ∑ k, (a k - a k) * b k = 0 := by
    refine Finset.sum_eq_zero fun k _ => ?_
    by_cases h : k.val < n
    · rw [diff_self (ha k h), zero_mul]
    · rw [hz k (by omega), mul_zero]
  rw [e1, e2, add_zero, add_zero]
  obtain ⟨d, rfl⟩ := Nat.exists_eq_add_of_le hn
  rw [Fin.sum_univ_add]
  have e3 : ∑ k : Fin d, a (Fin.natAdd n k) * b (Fin.natAdd n k) = 0 :=
    Finset.sum_eq_zero fun k _ => by rw [hz _ (by simp), mul_zero]
  rw [e3, add_zero]
  rfl

/-- The table of the heads' columns sums a row over one head, rest and all. -/
theorem head_dot (y : Fin 512 → EReal) (hy : ∀ k, ∃ r : ℝ, y k = (r : EReal)) (g : Fin 512 → EReal) (q : Fin 512)
    (hg : ∀ k : Fin 512, g k = if k.val / 64 = q.val / 64 then 1 else 0) :
    ∑ k, y k * g k + ∑ k, (y k - y k) * g k = ∑ k : Fin 64, y ⟨q.val / 64 * 64 + k.val, by omega⟩ := by
  have e1 : ∑ k, (y k - y k) * g k = 0 := Finset.sum_eq_zero fun k _ => by rw [diff_self (hy k), zero_mul]
  rw [e1, add_zero, ← (finProdFinEquiv (m := 8) (n := 64)).sum_comp (fun k : Fin 512 => y k * g k), Fintype.sum_prod_type,
    Finset.sum_eq_single (⟨q.val / 64, by omega⟩ : Fin 8)]
  · refine Finset.sum_congr rfl fun k _ => ?_
    have e : (finProdFinEquiv ((⟨q.val / 64, by omega⟩ : Fin 8), k) : Fin (8 * 64)).val = k.val + 64 * (q.val / 64) := rfl
    show y (finProdFinEquiv _ : Fin (8 * 64)) * g (finProdFinEquiv _ : Fin (8 * 64)) = _
    rw [hg, if_pos (by rw [e]; omega), mul_one]
    exact congrArg y (Fin.ext (e.trans (by show _ = q.val / 64 * 64 + k.val; omega)))
  · intro h _ hne
    refine Finset.sum_eq_zero fun k _ => ?_
    have e : (finProdFinEquiv (h, k) : Fin (8 * 64)).val = k.val + 64 * h.val := rfl
    show y (finProdFinEquiv _ : Fin (8 * 64)) * g (finProdFinEquiv _ : Fin (8 * 64)) = _
    rw [hg, if_neg (fun h' => hne (Fin.ext (by show h.val = q.val / 64; rw [e] at h'; omega))), mul_zero]
  · exact fun h => absurd (Finset.mem_univ _) h

theorem real_tanh (x : EReal) : ∃ r : ℝ, Ideal.tanh x = (r : EReal) := by
  induction x using EReal.rec with
  | bot => exact ⟨-1, by simp⟩
  | top => exact ⟨1, by simp⟩
  | coe r => exact ⟨_, rfl⟩

theorem real_logistic (x : EReal) : ∃ r : ℝ, Ideal.logistic x = (r : EReal) := by
  induction x using EReal.rec with
  | bot => exact ⟨0, by simp⟩
  | top => exact ⟨1, by simp⟩
  | coe r => exact ⟨_, Ideal.logistic_coe r⟩

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, EReal.coe_mul a b |>.symm⟩

theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, EReal.coe_add a b |>.symm⟩

theorem real_sub {x y : EReal} (hx : ∃ r : ℝ, x = (r : EReal)) (hy : ∃ r : ℝ, y = (r : EReal)) : ∃ r : ℝ, x - y = (r : EReal) := by
  obtain ⟨a, rfl⟩ := hx
  obtain ⟨b, rfl⟩ := hy
  exact ⟨a - b, EReal.coe_sub a b |>.symm⟩

/-! ## The steps -/

/-- An entry mixed with the entry one row up; above the tile's first row is the last row of the tile before, or zero. -/
def mixTile (a : BitVec 32) (x : Fin 512 → EReal) (w p : EReal) (e : Fin 512) : EReal :=
  x e + w * (Scalar.select (IntOp.cmpi CmpIPredicate.eq (BitVec.ofNat 32 e.val) 0#32)
    (Scalar.select (Scalar.cmpi CmpIPredicate.sgt a 0#32) p 0) (x ⟨(e.val + 512 - 1) % 512, by omega⟩) - x e)

theorem pay5_at (i : grid0.Coords) (x : FVec Ideal S512x512 .f32) (w p : FVec Ideal S1x512 .f32) (e : Fin 512) (q : Fin 512) :
    k0_pay5 (F := Ideal) i x w p (ix2 e q) = mixTile (BitVec.ofNat 32 (i 0).val) (fun e => x (ix2 e q)) (w (ix2 0 q)) (p (ix2 0 q)) e := by
  simp only [k0_pay5]
  pointwise
  rfl

theorem pay6_at (i : grid0.Coords) (x : FVec Ideal S512x512 .f32) (w p : FVec Ideal S1x512 .f32) (e : Fin 512) (q : Fin 512) :
    k0_pay6 (F := Ideal) i x w p (ix2 e q) = mixTile (BitVec.ofNat 32 (i 0).val) (fun e => x (ix2 e q)) (w (ix2 0 q)) (p (ix2 0 q)) e := by
  simp only [k0_pay6]
  pointwise
  rfl

theorem pay7_at (a : BitVec 32) (x : FVec Ideal S512x512 .f32) (w p : FVec Ideal S1x512 .f32) (e : Fin 512) (q : Fin 512) :
    k0_pay7 (F := Ideal) a x w p (ix2 e q) = mixTile a (fun e => x (ix2 e q)) (w (ix2 0 q)) (p (ix2 0 q)) e := by
  simp only [k0_pay7]
  pointwise
  rfl

theorem pay8_at (a : BitVec 32) (x : FVec Ideal S512x128 .f32) (w p : FVec Ideal S1x128 .f32) (e : Fin 512) (q : Fin 128) :
    k0_pay8 (F := Ideal) a x w p (ix2 e q) = mixTile a (fun e => x (ix2 e q)) (w (ix2 0 q)) (p (ix2 0 q)) e := by
  simp only [k0_pay8]
  pointwise
  rfl

theorem pay11_at (a : BitVec 32) (x : FVec Ideal S512x256 .f32) (w p : FVec Ideal S1x256 .f32) (e : Fin 512) (q : Fin 256) :
    k0_pay11 (F := Ideal) a x w p (ix2 e q) = mixTile a (fun e => x (ix2 e q)) (w (ix2 0 q)) (p (ix2 0 q)) e := by
  simp only [k0_pay11]
  pointwise
  rfl

theorem pay10_at (a : BitVec 32) (x : FVec Ideal S512x128 .f32) (w p : FVec Ideal S1x128 .f32) (e : Fin 512) (q : Fin 128) :
    k0_pay10 (F := Ideal) a x (k0_pay9 w) p (ix2 e q) = mixTile a (fun e => x (ix2 e q)) (w (ix2 0 q)) (p (ix2 0 q)) e := by
  simp only [k0_pay10, k0_pay9]
  pointwise
  rfl

/-- The decay of a number. -/
def decay (z : EReal) : EReal :=
  -Ideal.exp (-(max (-z) 0 + Ideal.log (1 + Ideal.exp (-FloatOps.absf (F := Ideal) (φ := .f32) (-z)))) - Ideal.ofBits FTy.f32 1056964608#32)

theorem pay17_at (b : FVec Ideal S1x512 .f32) (x : FVec Ideal S512x128 .f32) (w : FVec Ideal S128x512 .f32) (e q : Fin 512)
    (hw : ∀ k : Fin 128, k.val < 96 → ∃ r : ℝ, w (ix2 k q) = (r : EReal)) (hz : ∀ k : Fin 128, 96 ≤ k.val → w (ix2 k q) = (0 : EReal)) :
    k0_pay17 (F := Ideal) (k0_pay12 b) (k0_pay13 x) (k0_pay14 w) (k0_pay15 x) (k0_pay16 w) (ix2 e q)
      = decay (b (ix2 0 q) + ∑ k : Fin 96, Ideal.tanh (x (ix2 e ⟨k.val, by omega⟩)) * w (ix2 ⟨k.val, by omega⟩ q)) := by
  simp only [k0_pay17, k0_pay12, k0_pay13, k0_pay14, k0_pay15, k0_pay16]
  pointwise
  have hs := split_dot (n := 96) (by decide) (fun k : Fin 128 => Ideal.tanh (x (ix2 e k))) (fun k => w (ix2 k q))
    (fun _ _ => real_tanh _) hw hz
  rw [hs]
  simp only [zero_sub]
  rfl

theorem pay24_at (b : FVec Ideal S1x512 .f32) (x : FVec Ideal S512x128 .f32) (w : FVec Ideal S128x512 .f32) (e q : Fin 512)
    (hx : ∀ k : Fin 128, k.val < 96 → ∃ r : ℝ, x (ix2 e k) = (r : EReal))
    (hw : ∀ k : Fin 128, k.val < 96 → ∃ r : ℝ, w (ix2 k q) = (r : EReal)) (hz : ∀ k : Fin 128, 96 ≤ k.val → w (ix2 k q) = (0 : EReal)) :
    k0_pay24 (F := Ideal) (k0_pay18 b) (k0_pay19 w) (k0_pay20 x) (k0_pay21 w) (k0_pay22 x) (k0_pay23 w) (ix2 e q)
      = Ideal.logistic (b (ix2 0 q) + ∑ k : Fin 96, x (ix2 e ⟨k.val, by omega⟩) * w (ix2 ⟨k.val, by omega⟩ q)) := by
  simp only [k0_pay24, k0_pay18, k0_pay19, k0_pay20, k0_pay21, k0_pay22, k0_pay23]
  pointwise
  exact congrArg (fun z => Ideal.logistic (b (ix2 0 q) + z))
    (split_dot (n := 96) (by decide) (fun k : Fin 128 => x (ix2 e k)) (fun k => w (ix2 k q)) hx hw hz)

theorem pay25_at (x : FVec Ideal S512x256 .f32) (w : FVec Ideal S256x512 .f32) (e q : Fin 512)
    (hw : ∀ k : Fin 256, ∃ r : ℝ, w (ix2 k q) = (r : EReal)) :
    k0_pay25 (F := Ideal) x w (ix2 e q) = ∑ k : Fin 256, Ideal.logistic (x (ix2 e k)) * w (ix2 k q) := by
  simp only [k0_pay25]
  pointwise
  exact split_dot (n := 256) (by decide) (fun k : Fin 256 => Ideal.logistic (x (ix2 e k))) (fun k => w (ix2 k q))
    (fun _ _ => real_logistic _) (fun k _ => hw k) (fun k h => absurd k.isLt (by omega))

theorem pay30_at (a : BitVec 32) (v : FVec Ideal S512x512 .f32) (x : FVec Ideal S512x128 .f32) (u p : FVec Ideal S1x128 .f32)
    (f : FVec Ideal S512x512 .f32) (b : FVec Ideal S1x512 .f32) (w : FVec Ideal S128x512 .f32) (e q : Fin 512)
    (hx : ∀ k : Fin 128, k.val < 64 → ∃ r : ℝ, mixTile a (fun e => x (ix2 e k)) (u (ix2 0 k)) (p (ix2 0 k)) e = (r : EReal))
    (hw : ∀ k : Fin 128, k.val < 64 → ∃ r : ℝ, w (ix2 k q) = (r : EReal)) (hz : ∀ k : Fin 128, 64 ≤ k.val → w (ix2 k q) = (0 : EReal)) :
    k0_pay30 (F := Ideal) v x (k0_pay26 u) k0_pay27 (k0_pay28 x) (k0_pay29 a p) f b w (ix2 e q)
      = v (ix2 e q) + (f (ix2 e q) - v (ix2 e q)) * Ideal.logistic (b (ix2 0 q) + ∑ k : Fin 64,
          mixTile a (fun e => x (ix2 e ⟨k.val, by omega⟩)) (u (ix2 0 ⟨k.val, by omega⟩)) (p (ix2 0 ⟨k.val, by omega⟩)) e
            * w (ix2 ⟨k.val, by omega⟩ q)) := by
  simp only [k0_pay30, k0_pay26, k0_pay27, k0_pay28, k0_pay29]
  pointwise
  exact congrArg (fun z => v (ix2 e q) + (f (ix2 e q) - v (ix2 e q)) * Ideal.logistic (b (ix2 0 q) + z))
    (split_dot (n := 64) (by decide) (fun k : Fin 128 => mixTile a (fun e => x (ix2 e k)) (u (ix2 0 k)) (p (ix2 0 k)) e)
      (fun k => w (ix2 k q)) hx hw hz)

theorem pay31_at (x : FVec Ideal S512x512 .f32) (w : FVec Ideal S1x512 .f32) (e q : Fin 512) :
    k0_pay31 (F := Ideal) x w (ix2 e q) = x (ix2 e q) * w (ix2 0 q) := by
  simp only [k0_pay31]
  pointwise

theorem pay32_at (x : FVec Ideal S512x512 .f32) (w : FVec Ideal S1x512 .f32) (g : FVec Ideal S512x512 .bf16) (e q : Fin 512)
    (hx : ∀ k : Fin 512, ∃ r : ℝ, x (ix2 e k) * w (ix2 0 k) = (r : EReal))
    (hg : ∀ k : Fin 512, g (ix2 k q) = (if k.val / 64 = q.val / 64 then 1 else 0 : EReal)) :
    k0_pay32 (F := Ideal) x w g (ix2 e q) = Ideal.sqrt (∑ k : Fin 64,
      x (ix2 e ⟨q.val / 64 * 64 + k.val, by omega⟩) * w (ix2 0 ⟨q.val / 64 * 64 + k.val, by omega⟩)
        * (x (ix2 e ⟨q.val / 64 * 64 + k.val, by omega⟩) * w (ix2 0 ⟨q.val / 64 * 64 + k.val, by omega⟩))) := by
  simp only [k0_pay32, k0_pay31]
  pointwise
  exact congrArg Ideal.sqrt (head_dot (fun k => x (ix2 e k) * w (ix2 0 k) * (x (ix2 e k) * w (ix2 0 k)))
    (fun k => real_mul (hx k) (hx k)) (fun k => g (ix2 k q)) q hg)

theorem pay1_at (x y : FVec Ideal S512x512 .f32) (e q : Fin 512) :
    k0_pay1 (F := Ideal) x y (ix2 e q) = Ideal.div (x (ix2 e q)) (max (y (ix2 e q)) (Ideal.ofBits FTy.f32 730643660#32)) := by
  simp only [k0_pay1]
  pointwise

theorem pay2_at (x y : FVec Ideal S512x512 .f32) (w : FVec Ideal S1x512 .f32) (e q : Fin 512) :
    k0_pay2 (F := Ideal) x y w (ix2 e q) = x (ix2 e q) * (1 + (y (ix2 e q) - 1) * w (ix2 0 q)) := by
  simp only [k0_pay2]
  pointwise

theorem pay3_at (x y : FVec Ideal S512x512 .f32) (e q : Fin 512) :
    k0_pay3 (F := Ideal) x y (ix2 e q) = -Ideal.div (x (ix2 e q)) (max (y (ix2 e q)) (Ideal.ofBits FTy.f32 730643660#32)) := by
  simp only [k0_pay3, k0_pay1]
  pointwise
  exact zero_sub _

theorem pay4_at (a x y : FVec Ideal S512x512 .f32) (e q : Fin 512) :
    k0_pay4 (F := Ideal) a x y (ix2 e q)
      = Ideal.div (x (ix2 e q)) (max (y (ix2 e q)) (Ideal.ofBits FTy.f32 730643660#32)) * a (ix2 e q) := by
  simp only [k0_pay4, k0_pay1]
  pointwise

end Cert.Kernel6Ideal.RwkvPre
-- ==== Proof.Rwkv.Values.lean ====
/-
  The mixer's preparing kernel, entry by entry: what a tile of each output holds, in terms of the arguments.
-/
module

public import proofs.«01_k».proof.Proof.Rwkv.Open
public import proofs.«01_k».proof.Proof.Rwkv.Reads
public import proofs.«01_k».proof.Proof.Rwkv.Steps

@[expose] public section

set_option maxRecDepth 16384

noncomputable section

namespace Cert.Kernel6Ideal.RwkvPre

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-! ## The values -/

/-- The entry one row up, zero above the first row. -/
def back (R : Fin 8192) (j : Fin 6912) : EReal := if h : 1 ≤ R.val then proj m c (ix2 ⟨R.val - 1, by omega⟩ j) else 0

/-- An entry mixed with the one above it. -/
def mixed (R : Fin 8192) (j : Fin 6912) (w : EReal) : EReal :=
  proj m c (ix2 R j) + w * (back m c R j - proj m c (ix2 R j))

def rMixed (R : Fin 8192) (q : Fin 512) : EReal := mixed m c R ⟨2048 + q.val, by omega⟩ (mix m c (ix2 1 ⟨q.val, by omega⟩))
def kMixed (R : Fin 8192) (q : Fin 512) : EReal :=
  mixed m c R ⟨2048 + (512 + q.val), by omega⟩ (mix m c (ix2 1 ⟨512 + q.val, by omega⟩))
def vMixed (R : Fin 8192) (q : Fin 512) : EReal :=
  mixed m c R ⟨2048 + (1024 + q.val), by omega⟩ (mix m c (ix2 1 ⟨1024 + q.val, by omega⟩))
def dMixed (R : Fin 8192) (k : Fin 96) : EReal :=
  mixed m c R ⟨2048 + (1536 + k.val), by omega⟩ (mix m c (ix2 1 ⟨1536 + k.val, by omega⟩))
def aMixed (R : Fin 8192) (k : Fin 96) : EReal :=
  mixed m c R ⟨3712 + k.val, by omega⟩ (mix m c (ix2 1 ⟨1632 + k.val, by omega⟩))
def gMixed (R : Fin 8192) (k : Fin 256) : EReal :=
  mixed m c R ⟨3840 + k.val, by omega⟩ (mix m c (ix2 1 ⟨1728 + k.val, by omega⟩))
def xMixed (R : Fin 8192) (k : Fin 64) : EReal := mixed m c R ⟨4096 + k.val, by omega⟩ (vmix m c (ix2 0 k))

/-- The in-context rate. -/
def rate (R : Fin 8192) (q : Fin 512) : EReal :=
  Ideal.logistic (a0 m c (ix2 1 q) + ∑ k : Fin 96, aMixed m c R k * a2 m c (ix3 1 k q))

/-- The key by the factor, before the division by its head's length. -/
def key (R : Fin 8192) (q : Fin 512) : EReal := kMixed m c R q * kk m c (ix2 1 q)

/-- The key divided by its head's length. -/
def unitKey (R : Fin 8192) (q : Fin 512) : EReal :=
  Ideal.div (key m c R q) (max (Ideal.sqrt (∑ k : Fin 64,
    key m c R ⟨q.val / 64 * 64 + k.val, by omega⟩ * key m c R ⟨q.val / 64 * 64 + k.val, by omega⟩)) (Ideal.ofBits FTy.f32 730643660#32))

/-- The seven results. -/
def value0 (R : Fin 8192) (q : Fin 512) : EReal := rMixed m c R q
def value1 (R : Fin 8192) (q : Fin 512) : EReal :=
  decay (w0 m c (ix2 1 q) + ∑ k : Fin 96, Ideal.tanh (dMixed m c R k) * w2 m c (ix3 1 k q))
def value2 (R : Fin 8192) (q : Fin 512) : EReal := kMixed m c R q * (1 + (rate m c R q - 1) * ka m c (ix2 1 q))
def value3 (R : Fin 8192) (q : Fin 512) : EReal :=
  vMixed m c R q + (vfirst m c (ix2 R q) - vMixed m c R q)
    * Ideal.logistic (v0 m c (ix2 0 q) + ∑ k : Fin 64, xMixed m c R k * v2 m c (ix3 0 k q))
def value4 (R : Fin 8192) (q : Fin 512) : EReal := -unitKey m c R q
def value5 (R : Fin 8192) (q : Fin 512) : EReal := unitKey m c R q * rate m c R q
def value6 (R : Fin 8192) (q : Fin 512) : EReal := ∑ k : Fin 256, Ideal.logistic (gMixed m c R k) * g2 m c (ix3 1 k q)

/-- The entries that the kernel splits into a head and a rest are real numbers. -/
structure Reals : Prop where
  k : ∀ (R : Fin 8192) (q : Fin 512), ∃ r : ℝ, proj m c (ix2 R ⟨2560 + q.val, by omega⟩) = (r : EReal)
  a : ∀ (R : Fin 8192) (k : Fin 96), ∃ r : ℝ, proj m c (ix2 R ⟨3712 + k.val, by omega⟩) = (r : EReal)
  x : ∀ (R : Fin 8192) (k : Fin 64), ∃ r : ℝ, proj m c (ix2 R ⟨4096 + k.val, by omega⟩) = (r : EReal)
  mix_k : ∀ q : Fin 512, ∃ r : ℝ, mix m c (ix2 1 ⟨512 + q.val, by omega⟩) = (r : EReal)
  mix_a : ∀ k : Fin 96, ∃ r : ℝ, mix m c (ix2 1 ⟨1632 + k.val, by omega⟩) = (r : EReal)
  mix_x : ∀ k : Fin 64, ∃ r : ℝ, vmix m c (ix2 0 k) = (r : EReal)
  kk : ∀ q : Fin 512, ∃ r : ℝ, kk m c (ix2 1 q) = (r : EReal)
  w2 : ∀ (k : Fin 96) (q : Fin 512), ∃ r : ℝ, w2 m c (ix3 1 k q) = (r : EReal)
  a2 : ∀ (k : Fin 96) (q : Fin 512), ∃ r : ℝ, a2 m c (ix3 1 k q) = (r : EReal)
  v2 : ∀ (k : Fin 64) (q : Fin 512), ∃ r : ℝ, v2 m c (ix3 0 k q) = (r : EReal)
  g2 : ∀ (k : Fin 256) (q : Fin 512), ∃ r : ℝ, g2 m c (ix3 1 k q) = (r : EReal)

/-- A mixed entry of a column of real numbers is a real number. -/
theorem real_mixed (j : Fin 6912) (hj : ∀ R : Fin 8192, ∃ r : ℝ, proj m c (ix2 R j) = (r : EReal)) (w : EReal)
    (hw : ∃ r : ℝ, w = (r : EReal)) (R : Fin 8192) : ∃ r : ℝ, mixed m c R j w = (r : EReal) := by
  unfold mixed back
  refine real_add (hj R) (real_mul hw (real_sub ?_ (hj R)))
  split
  · exact hj _
  · exact ⟨0, rfl⟩

/-! ## The mixed tiles -/

theorem first_row : ∀ e : Fin 512, IntOp.cmpi CmpIPredicate.eq (BitVec.ofNat 32 e.val) 0#32 = if e.val = 0 then 1#1 else 0#1 := by
  decide +kernel

theorem later_tile : ∀ t : Fin cfg0.N, Scalar.cmpi CmpIPredicate.sgt (point t) 0#32 = if 0 < t.val then 1#1 else 0#1 :=
  (by decide +kernel : ∀ t : Fin grid0.N, _)

theorem select_if {α : Type} (p : Prop) [Decidable p] (x y : α) : Scalar.select (if p then 1#1 else 0#1) x y = if p then x else y := by
  split <;> rfl

/-- A tile's mixed column is the argument's mixed column. -/
theorem mixTile_eq (t : Fin cfg0.N) (e : Fin 512) (x : Fin 512 → EReal) (w p : EReal) (j : Fin 6912)
    (hx : ∀ e, x e = proj m c (ix2 (row t e) j))
    (hp : 0 < t.val → p = proj m c (ix2 ⟨512 * t.val - 1, by have := lt_of_lt_of_eq t.isLt N_0; omega⟩ j)) :
    mixTile (point t) x w p e = mixed m c (row t e) j w := by
  have he : e.val < 512 := e.isLt
  unfold mixTile mixed back
  rw [first_row, later_tile, select_if, select_if, hx, hx]
  refine congrArg (fun z => proj m c (ix2 (row t e) j) + w * (z - proj m c (ix2 (row t e) j))) ?_
  by_cases h0 : e.val = 0
  · rw [if_pos h0]
    by_cases ht : 0 < t.val
    · rw [if_pos ht, dif_pos (by show 1 ≤ 512 * t.val + e.val; omega), hp ht]
      exact congrArg (fun r => proj m c (ix2 r j)) (Fin.ext (by show 512 * t.val - 1 = 512 * t.val + e.val - 1; omega))
    · rw [if_neg ht, dif_neg (by show ¬1 ≤ 512 * t.val + e.val; omega)]
  · rw [if_neg h0, dif_pos (by show 1 ≤ 512 * t.val + e.val; omega)]
    exact congrArg (fun r => proj m c (ix2 r j))
      (Fin.ext (by show 512 * t.val + (e.val + 512 - 1) % 512 = 512 * t.val + e.val - 1; omega))

/-- A piece of the packed mixing weights. -/
theorem weights_at {n : ℕ} (o : ℕ) (t : Fin cfg0.N) (h : S1x2176.Slices ![0, o] ⟨2, ![1, n]⟩) (q : Fin n) (hq : o + q.val < 2176) :
    extractStridedSlice (s := S1x2176) ⟨2, ![1, n]⟩ ![0, o] (iblk m c 14 t) h (ix2 0 q) = V m c main_v12 (ix2 0 ⟨o + q.val, hq⟩) := by
  refine Eq.trans ?_ (block_14 m c t 0 ⟨o + q.val, hq⟩)
  pointwise

/-- The last of the eight rows before a tile. -/
theorem last_at {n : ℕ} (x : (⟨2, ![8, n]⟩ : Shape).Idx → EReal) (h : (⟨2, ![8, n]⟩ : Shape).Slices ![7, 0] ⟨2, ![1, n]⟩) (q : Fin n) :
    extractStridedSlice (s := ⟨2, ![8, n]⟩) ⟨2, ![1, n]⟩ ![7, 0] x h (ix2 0 q) = x (ix2 7 q) := by
  refine congrArg x (funext fun a => Fin.ext ?_)
  match a with
  | ⟨0, _⟩ => rfl
  | ⟨1, _⟩ => exact Nat.zero_add q.val

theorem rTile_at (t : Fin cfg0.N) (e q : Fin 512) : rTile m c t (ix2 e q) = rMixed m c (row t e) q := by
  unfold rTile rMixed
  refine (pay5_at _ _ _ _ e q).trans ?_
  rw [weights_at m c 0 t _ q (by omega), mix_at_front m c _ (by show 0 + q.val < 1632; omega), last_at]
  refine (mixTile_eq m c t e _ _ _ ⟨2048 + q.val, by omega⟩ (fun e => block_0 m c t e q) (fun h => block_7 m c t h q)).trans ?_
  exact congrArg (fun z => mixed m c (row t e) _ (mix m c (ix2 1 z))) (Fin.ext (Nat.zero_add _))

theorem kTile_at (t : Fin cfg0.N) (e q : Fin 512) : kTile m c t (ix2 e q) = kMixed m c (row t e) q := by
  unfold kTile kMixed
  refine (pay6_at _ _ _ _ e q).trans ?_
  rw [weights_at m c 512 t _ q (by omega), mix_at_front m c _ (by show 512 + q.val < 1632; omega), last_at]
  exact mixTile_eq m c t e _ _ _ ⟨2048 + (512 + q.val), by omega⟩
    (fun e => (block_1 m c t e q).trans (congrArg (fun j => proj m c (ix2 (row t e) j)) (Fin.ext (by show 2560 + q.val = 2048 + (512 + q.val); omega))))
    (fun h => (block_8 m c t h q).trans (congrArg (fun j => proj m c (ix2 _ j)) (Fin.ext (by show 2560 + q.val = 2048 + (512 + q.val); omega))))

theorem vTile_at (t : Fin cfg0.N) (e q : Fin 512) : vTile m c t (ix2 e q) = vMixed m c (row t e) q := by
  unfold vTile vMixed
  refine (pay7_at _ _ _ _ e q).trans ?_
  rw [weights_at m c 1024 t _ q (by omega), mix_at_front m c _ (by show 1024 + q.val < 1632; omega), last_at]
  exact mixTile_eq m c t e _ _ _ ⟨2048 + (1024 + q.val), by omega⟩
    (fun e => (block_2 m c t e q).trans (congrArg (fun j => proj m c (ix2 (row t e) j)) (Fin.ext (by show 3072 + q.val = 2048 + (1024 + q.val); omega))))
    (fun h => (block_9 m c t h q).trans (congrArg (fun j => proj m c (ix2 _ j)) (Fin.ext (by show 3072 + q.val = 2048 + (1024 + q.val); omega))))

theorem dTile_at (t : Fin cfg0.N) (e : Fin 512) (k : Fin 96) : dTile m c t (ix2 e ⟨k.val, by omega⟩) = dMixed m c (row t e) k := by
  unfold dTile dMixed
  refine (pay8_at _ _ _ _ e ⟨k.val, by omega⟩).trans ?_
  rw [weights_at m c 1536 t _ ⟨k.val, by omega⟩ (by show 1536 + k.val < 2176; omega), mix_at_front m c _ (by show 1536 + k.val < 1632; omega), last_at]
  exact mixTile_eq m c t e _ _ _ ⟨2048 + (1536 + k.val), by omega⟩
    (fun e => (block_3 m c t e ⟨k.val, by omega⟩).trans
      (congrArg (fun j => proj m c (ix2 (row t e) j)) (Fin.ext (by show 3584 + k.val = 2048 + (1536 + k.val); omega))))
    (fun h => (block_10 m c t h ⟨k.val, by omega⟩).trans
      (congrArg (fun j => proj m c (ix2 _ j)) (Fin.ext (by show 3584 + k.val = 2048 + (1536 + k.val); omega))))

theorem aTile_at (t : Fin cfg0.N) (e : Fin 512) (k : Fin 96) : aTile m c t (ix2 e ⟨k.val, by omega⟩) = aMixed m c (row t e) k := by
  unfold aTile aMixed
  refine (pay10_at _ _ _ _ e ⟨k.val, by omega⟩).trans ?_
  rw [weights_at m c 1664 t _ ⟨k.val, by omega⟩ (by show 1664 + k.val < 2176; omega), mix_at_rate m c k _ rfl, last_at]
  exact mixTile_eq m c t e _ _ _ ⟨3712 + k.val, by omega⟩ (fun e => block_4 m c t e ⟨k.val, by omega⟩)
    (fun h => block_11 m c t h ⟨k.val, by omega⟩)

theorem gTile_at (t : Fin cfg0.N) (e : Fin 512) (k : Fin 256) : gTile m c t (ix2 e k) = gMixed m c (row t e) k := by
  unfold gTile gMixed
  refine (pay11_at _ _ _ _ e k).trans ?_
  rw [weights_at m c 1792 t _ k (by omega), mix_at_gate m c k _ rfl, last_at]
  exact mixTile_eq m c t e _ _ _ ⟨3840 + k.val, by omega⟩ (fun e => block_5 m c t e k) (fun h => block_12 m c t h k)

/-! ## The outputs of a tile -/

variable (hR : Reals m c)
include hR

theorem real_k (R : Fin 8192) (q : Fin 512) : ∃ r : ℝ, kMixed m c R q = (r : EReal) := by
  refine real_mixed m c _ (fun R => ?_) _ (hR.mix_k q) R
  rw [show (⟨2048 + (512 + q.val), by omega⟩ : Fin 6912) = ⟨2560 + q.val, by omega⟩ from Fin.ext (by show 2048 + (512 + q.val) = 2560 + q.val; omega)]
  exact hR.k R q

theorem rateTile_at (t : Fin cfg0.N) (e q : Fin 512) : rateTile m c t (ix2 e q) = rate m c (row t e) q := by
  unfold rateTile rate
  refine (pay24_at _ _ _ e q (fun k h => ?_) (fun k h => ?_) (fun k h => ?_)).trans ?_
  · rw [show k = (⟨(⟨k.val, h⟩ : Fin 96).val, k.isLt⟩ : Fin 128) from rfl, aTile_at]
    exact real_mixed m c _ (fun R => hR.a R _) _ (hR.mix_a _) _
  · rw [block_18, a2_at, dif_pos h]
    exact hR.a2 _ _
  · rw [block_18, a2_at, dif_neg (by omega)]
  · rw [block_17, a0_at]
    refine congrArg (fun z => Ideal.logistic (a0 m c (ix2 1 q) + z)) (Finset.sum_congr rfl fun k _ => ?_)
    rw [aTile_at, block_18, a2_at, dif_pos k.isLt]

theorem left1 (t : Fin cfg0.N) (e q : Fin 512) : (outsAt0 m c t).2.1 (ix2 e q) = value1 m c (row t e) q := by
  rw [out27]
  unfold value1
  refine (pay17_at _ _ _ e q (fun k h => ?_) (fun k h => ?_)).trans ?_
  · rw [block_16, w2_at, dif_pos h]
    exact hR.w2 _ _
  · rw [block_16, w2_at, dif_neg (by omega)]
  · rw [block_15, w0_at]
    refine congrArg (fun z => decay (w0 m c (ix2 1 q) + z)) (Finset.sum_congr rfl fun k _ => ?_)
    rw [dTile_at, block_16, w2_at, dif_pos k.isLt]

theorem left2 (t : Fin cfg0.N) (e q : Fin 512) : (outsAt0 m c t).2.2.1 (ix2 e q) = value2 m c (row t e) q := by
  rw [out28]
  unfold value2
  refine (pay2_at _ _ _ e q).trans ?_
  rw [kTile_at, rateTile_at m c hR, block_23, ka_at]

theorem left3 (t : Fin cfg0.N) (e q : Fin 512) : (outsAt0 m c t).2.2.2.1 (ix2 e q) = value3 m c (row t e) q := by
  have hm : ∀ k : Fin 64, mixTile (point t) (fun e => iblk m c 6 t (ix2 e ⟨k.val, by omega⟩))
      (extractStridedSlice (s := S1x2176) S1x128 ![0, 2048] (iblk m c 14 t) (by decide) (ix2 0 ⟨k.val, by omega⟩))
      (extractStridedSlice (s := S8x128) S1x128 ![7, 0] (iblk m c 13 t) (by decide) (ix2 0 ⟨k.val, by omega⟩)) e = xMixed m c (row t e) k := fun k => by
    unfold xMixed
    rw [weights_at m c 2048 t _ ⟨k.val, by omega⟩ (by show 2048 + k.val < 2176; omega), mix_at_residual m c k _ rfl, last_at]
    exact mixTile_eq m c t e _ _ _ ⟨4096 + k.val, by omega⟩ (fun e => block_6 m c t e ⟨k.val, by omega⟩)
      (fun h => block_13 m c t h ⟨k.val, by omega⟩)
  rw [out29]
  unfold value3
  refine (pay30_at _ _ _ _ _ _ _ _ e q (fun k h => ?_) (fun k h => ?_) (fun k h => ?_)).trans ?_
  · refine (hm ⟨k.val, h⟩) ▸ ?_
    exact real_mixed m c _ (fun R => hR.x R _) _ (hR.mix_x _) _
  · rw [block_20, v2_at, dif_pos h]
    exact hR.v2 _ _
  · rw [block_20, v2_at, dif_neg (by omega)]
  · rw [vTile_at, block_25, block_19, v0_at]
    refine congrArg (fun z => vMixed m c (row t e) q + (vfirst m c (ix2 (row t e) q) - vMixed m c (row t e) q)
      * Ideal.logistic (v0 m c (ix2 0 q) + z)) (Finset.sum_congr rfl fun k _ => ?_)
    rw [hm, block_20, v2_at, dif_pos k.isLt]

/-- The divided key of a tile's place, from the two steps before it. -/
theorem key_at (t : Fin cfg0.N) (e q : Fin 512) :
    Ideal.div (k0_pay31 (kTile m c t) (iblk m c 22 t) (ix2 e q))
      (max (k0_pay32 (kTile m c t) (iblk m c 22 t) (iblk m c 24 t) (ix2 e q)) (Ideal.ofBits FTy.f32 730643660#32))
      = unitKey m c (row t e) q := by
  have hk : ∀ q : Fin 512, kTile m c t (ix2 e q) * (iblk m c 22 t (ix2 0 q) : EReal) = key m c (row t e) q := fun q => by
    unfold key
    rw [kTile_at, block_22, kk_at]
  unfold unitKey
  rw [pay31_at, pay32_at _ _ _ e q (fun k => ?_) (fun k => ?_), hk]
  · simp only [hk]
  · rw [hk]
    exact real_mul (real_k m c hR _ _) (hR.kk _)
  · rw [block_24, gsum_at]

theorem left4 (t : Fin cfg0.N) (e q : Fin 512) : (outsAt0 m c t).2.2.2.2.1 (ix2 e q) = value4 m c (row t e) q := by
  rw [out30]
  unfold value4
  rw [← key_at m c hR t e q]
  exact pay3_at _ _ e q

theorem left5 (t : Fin cfg0.N) (e q : Fin 512) : (outsAt0 m c t).2.2.2.2.2.1 (ix2 e q) = value5 m c (row t e) q := by
  rw [out31]
  unfold value5
  rw [← key_at m c hR t e q, ← rateTile_at m c hR t e q]
  exact pay4_at _ _ _ e q

theorem left6 (t : Fin cfg0.N) (e q : Fin 512) : (outsAt0 m c t).2.2.2.2.2.2 (ix2 e q) = value6 m c (row t e) q := by
  rw [out32]
  unfold value6
  refine (pay25_at _ _ e q (fun k => ?_)).trans (Finset.sum_congr rfl fun k _ => ?_)
  · rw [block_21, g2_at]
    exact hR.g2 _ _
  · rw [gTile_at, block_21, g2_at]

omit hR in
theorem left0 (t : Fin cfg0.N) (e q : Fin 512) : (outsAt0 m c t).1 (ix2 e q) = value0 m c (row t e) q := by
  rw [out26]
  exact rTile_at m c t e q

end Cert.Kernel6Ideal.RwkvPre
-- ==== Proof.Rwkv.Blocks.lean ====
/-
  What each grid point of the mixer's preparing kernel writes back, and the seven arrays that its run leaves.
-/
module

public import proofs.«01_k».proof.Proof.Rwkv.FrameIdeal
public import Idealize.ShloMosaic.Lib.Pipeline.Value

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed26 (c : Dev nD) (t : Fin cfg0.N) :
    (dats m 0 c).flushed 26 t = (cfg0.win 26).cut (grid0.coords t) ((outsAt0 m c t).1) := by
  show (cfg0.win 26).cut (grid0.coords t) ((dats m 0 c).after 26 t) = _
  rw [after0_26]

theorem flushed26_A (c : Dev nD) (t : Fin cfg0.N) :
    (dats m 0 c).flushed 26 t = (cfg0.win 26).cut (grid0.coords t) (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed26, outsAt0]

theorem idx_inj26 : ∀ t t' : Fin cfg0.N, win0_26.index t = win0_26.index t' → t = t' :=
  (by decide +kernel : ∀ t t' : Fin grid0.N, win0_26.index t = win0_26.index t' → t = t')

theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

theorem entry26 (c : Dev nD) (i : S8192x512.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

theorem flushed27 (c : Dev nD) (t : Fin cfg0.N) :
    (dats m 0 c).flushed 27 t = (cfg0.win 27).cut (grid0.coords t) ((outsAt0 m c t).2.1) := by
  show (cfg0.win 27).cut (grid0.coords t) ((dats m 0 c).after 27 t) = _
  rw [after0_27]

theorem flushed27_A (c : Dev nD) (t : Fin cfg0.N) :
    (dats m 0 c).flushed 27 t = (cfg0.win 27).cut (grid0.coords t) (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed27, outsAt0]

theorem idx_inj27 : ∀ t t' : Fin cfg0.N, win0_27.index t = win0_27.index t' → t = t' :=
  (by decide +kernel : ∀ t t' : Fin grid0.N, win0_27.index t = win0_27.index t' → t = t')

theorem disjoint27 : ∀ t t' : Fin cfg0.N, (cfg0.win 27).flush t = true → (cfg0.win 27).flush t' = true → t ≠ t' →
    Disjoint ((cfg0.win 27).blk t).view.set ((cfg0.win 27).blk t').view.set :=
  fun t t' _ _ hne => (cfg0.win 27).disjoint_blk fun h => hne (idx_inj27 t t' h)

theorem blocks27 (c : Dev nD) (t : Fin cfg0.N) (hf : (cfg0.win 27).flush t = true) :
    ((cfg0.win 27).blk t).view.read (Elt F) ((dats m 0 c).arrAt 27 cfg0.N) = (dats m 0 c).flushed 27 t :=
  (dats m 0 c).read_blk_arrAt_eq_flushed 27 disjoint27 cfg0.N t t.isLt hf

theorem entry27 (c : Dev nD) (i : S8192x512.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

theorem flushed28 (c : Dev nD) (t : Fin cfg0.N) :
    (dats m 0 c).flushed 28 t = (cfg0.win 28).cut (grid0.coords t) ((outsAt0 m c t).2.2.1) := by
  show (cfg0.win 28).cut (grid0.coords t) ((dats m 0 c).after 28 t) = _
  rw [after0_28]

theorem flushed28_A (c : Dev nD) (t : Fin cfg0.N) :
    (dats m 0 c).flushed 28 t = (cfg0.win 28).cut (grid0.coords t) (out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed28, outsAt0]

theorem idx_inj28 : ∀ t t' : Fin cfg0.N, win0_28.index t = win0_28.index t' → t = t' :=
  (by decide +kernel : ∀ t t' : Fin grid0.N, win0_28.index t = win0_28.index t' → t = t')

theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

theorem entry28 (c : Dev nD) (i : S8192x512.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

theorem flushed29 (c : Dev nD) (t : Fin cfg0.N) :
    (dats m 0 c).flushed 29 t = (cfg0.win 29).cut (grid0.coords t) ((outsAt0 m c t).2.2.2.1) := by
  show (cfg0.win 29).cut (grid0.coords t) ((dats m 0 c).after 29 t) = _
  rw [after0_29]

theorem flushed29_A (c : Dev nD) (t : Fin cfg0.N) :
    (dats m 0 c).flushed 29 t = (cfg0.win 29).cut (grid0.coords t) (out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed29, outsAt0]

theorem idx_inj29 : ∀ t t' : Fin cfg0.N, win0_29.index t = win0_29.index t' → t = t' :=
  (by decide +kernel : ∀ t t' : Fin grid0.N, win0_29.index t = win0_29.index t' → t = t')

theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

theorem entry29 (c : Dev nD) (i : S8192x512.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

theorem flushed30 (c : Dev nD) (t : Fin cfg0.N) :
    (dats m 0 c).flushed 30 t = (cfg0.win 30).cut (grid0.coords t) ((outsAt0 m c t).2.2.2.2.1) := by
  show (cfg0.win 30).cut (grid0.coords t) ((dats m 0 c).after 30 t) = _
  rw [after0_30]

theorem flushed30_A (c : Dev nD) (t : Fin cfg0.N) :
    (dats m 0 c).flushed 30 t = (cfg0.win 30).cut (grid0.coords t) (out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed30, outsAt0]

theorem idx_inj30 : ∀ t t' : Fin cfg0.N, win0_30.index t = win0_30.index t' → t = t' :=
  (by decide +kernel : ∀ t t' : Fin grid0.N, win0_30.index t = win0_30.index t' → t = t')

theorem disjoint30 : ∀ t t' : Fin cfg0.N, (cfg0.win 30).flush t = true → (cfg0.win 30).flush t' = true → t ≠ t' →
    Disjoint ((cfg0.win 30).blk t).view.set ((cfg0.win 30).blk t').view.set :=
  fun t t' _ _ hne => (cfg0.win 30).disjoint_blk fun h => hne (idx_inj30 t t' h)

theorem blocks30 (c : Dev nD) (t : Fin cfg0.N) (hf : (cfg0.win 30).flush t = true) :
    ((cfg0.win 30).blk t).view.read (Elt F) ((dats m 0 c).arrAt 30 cfg0.N) = (dats m 0 c).flushed 30 t :=
  (dats m 0 c).read_blk_arrAt_eq_flushed 30 disjoint30 cfg0.N t t.isLt hf

theorem entry30 (c : Dev nD) (i : S8192x512.Idx) (h : ∀ t : Fin cfg0.N, (cfg0.win 30).flush t = true → i ∉ ((cfg0.win 30).blk t).view.set) :
    (dats m 0 c).arrAt 30 cfg0.N i = V m c (Pipeline.arrRef spec0 30) i := by
  rw [(dats m 0 c).arrAt_apply_of_forall_not_mem 30 cfg0.N i (fun t _ hf => h t hf), A_eq]

theorem flushed31 (c : Dev nD) (t : Fin cfg0.N) :
    (dats m 0 c).flushed 31 t = (cfg0.win 31).cut (grid0.coords t) ((outsAt0 m c t).2.2.2.2.2.1) := by
  show (cfg0.win 31).cut (grid0.coords t) ((dats m 0 c).after 31 t) = _
  rw [after0_31]

theorem flushed31_A (c : Dev nD) (t : Fin cfg0.N) :
    (dats m 0 c).flushed 31 t = (cfg0.win 31).cut (grid0.coords t) (out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed31, outsAt0]

theorem idx_inj31 : ∀ t t' : Fin cfg0.N, win0_31.index t = win0_31.index t' → t = t' :=
  (by decide +kernel : ∀ t t' : Fin grid0.N, win0_31.index t = win0_31.index t' → t = t')

theorem disjoint31 : ∀ t t' : Fin cfg0.N, (cfg0.win 31).flush t = true → (cfg0.win 31).flush t' = true → t ≠ t' →
    Disjoint ((cfg0.win 31).blk t).view.set ((cfg0.win 31).blk t').view.set :=
  fun t t' _ _ hne => (cfg0.win 31).disjoint_blk fun h => hne (idx_inj31 t t' h)

theorem blocks31 (c : Dev nD) (t : Fin cfg0.N) (hf : (cfg0.win 31).flush t = true) :
    ((cfg0.win 31).blk t).view.read (Elt F) ((dats m 0 c).arrAt 31 cfg0.N) = (dats m 0 c).flushed 31 t :=
  (dats m 0 c).read_blk_arrAt_eq_flushed 31 disjoint31 cfg0.N t t.isLt hf

theorem entry31 (c : Dev nD) (i : S8192x512.Idx) (h : ∀ t : Fin cfg0.N, (cfg0.win 31).flush t = true → i ∉ ((cfg0.win 31).blk t).view.set) :
    (dats m 0 c).arrAt 31 cfg0.N i = V m c (Pipeline.arrRef spec0 31) i := by
  rw [(dats m 0 c).arrAt_apply_of_forall_not_mem 31 cfg0.N i (fun t _ hf => h t hf), A_eq]

theorem flushed32 (c : Dev nD) (t : Fin cfg0.N) :
    (dats m 0 c).flushed 32 t = (cfg0.win 32).cut (grid0.coords t) ((outsAt0 m c t).2.2.2.2.2.2) := by
  show (cfg0.win 32).cut (grid0.coords t) ((dats m 0 c).after 32 t) = _
  rw [after0_32]

theorem flushed32_A (c : Dev nD) (t : Fin cfg0.N) :
    (dats m 0 c).flushed 32 t = (cfg0.win 32).cut (grid0.coords t) (out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (X0_0 m c t) (X0_1 m c t) (X0_2 m c t) (iblk m c 3 t) (iblk m c 4 t) (iblk m c 5 t) (iblk m c 6 t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  simp only [flushed32, outsAt0]

theorem idx_inj32 : ∀ t t' : Fin cfg0.N, win0_32.index t = win0_32.index t' → t = t' :=
  (by decide +kernel : ∀ t t' : Fin grid0.N, win0_32.index t = win0_32.index t' → t = t')

theorem disjoint32 : ∀ t t' : Fin cfg0.N, (cfg0.win 32).flush t = true → (cfg0.win 32).flush t' = true → t ≠ t' →
    Disjoint ((cfg0.win 32).blk t).view.set ((cfg0.win 32).blk t').view.set :=
  fun t t' _ _ hne => (cfg0.win 32).disjoint_blk fun h => hne (idx_inj32 t t' h)

theorem blocks32 (c : Dev nD) (t : Fin cfg0.N) (hf : (cfg0.win 32).flush t = true) :
    ((cfg0.win 32).blk t).view.read (Elt F) ((dats m 0 c).arrAt 32 cfg0.N) = (dats m 0 c).flushed 32 t :=
  (dats m 0 c).read_blk_arrAt_eq_flushed 32 disjoint32 cfg0.N t t.isLt hf

theorem entry32 (c : Dev nD) (i : S8192x512.Idx) (h : ∀ t : Fin cfg0.N, (cfg0.win 32).flush t = true → i ∉ ((cfg0.win 32).blk t).view.set) :
    (dats m 0 c).arrAt 32 cfg0.N i = V m c (Pipeline.arrRef spec0 32) i := by
  rw [(dats m 0 c).arrAt_apply_of_forall_not_mem 32 cfg0.N i (fun t _ hf => h t hf), A_eq]

theorem post26 (r : PUnit × MemSt nD τ sig (Elt F)) (h : Pipeline.FramePost cfgs (dats m) 0 (V m) r) (c : Dev nD) :
    r.2.mem ((c : Thread nD τ).loc main_v45_0) = (dats m 0 c).arrAt 26 cfg0.N :=
  (h c).1 26

theorem post27 (r : PUnit × MemSt nD τ sig (Elt F)) (h : Pipeline.FramePost cfgs (dats m) 0 (V m) r) (c : Dev nD) :
    r.2.mem ((c : Thread nD τ).loc main_v45_1) = (dats m 0 c).arrAt 27 cfg0.N :=
  (h c).1 27

theorem post28 (r : PUnit × MemSt nD τ sig (Elt F)) (h : Pipeline.FramePost cfgs (dats m) 0 (V m) r) (c : Dev nD) :
    r.2.mem ((c : Thread nD τ).loc main_v45_2) = (dats m 0 c).arrAt 28 cfg0.N :=
  (h c).1 28

theorem post29 (r : PUnit × MemSt nD τ sig (Elt F)) (h : Pipeline.FramePost cfgs (dats m) 0 (V m) r) (c : Dev nD) :
    r.2.mem ((c : Thread nD τ).loc main_v45_3) = (dats m 0 c).arrAt 29 cfg0.N :=
  (h c).1 29

theorem post30 (r : PUnit × MemSt nD τ sig (Elt F)) (h : Pipeline.FramePost cfgs (dats m) 0 (V m) r) (c : Dev nD) :
    r.2.mem ((c : Thread nD τ).loc main_v45_4) = (dats m 0 c).arrAt 30 cfg0.N :=
  (h c).1 30

theorem post31 (r : PUnit × MemSt nD τ sig (Elt F)) (h : Pipeline.FramePost cfgs (dats m) 0 (V m) r) (c : Dev nD) :
    r.2.mem ((c : Thread nD τ).loc main_v45_5) = (dats m 0 c).arrAt 31 cfg0.N :=
  (h c).1 31

theorem post32 (r : PUnit × MemSt nD τ sig (Elt F)) (h : Pipeline.FramePost cfgs (dats m) 0 (V m) r) (c : Dev nD) :
    r.2.mem ((c : Thread nD τ).loc main_v45_6) = (dats m 0 c).arrAt 32 cfg0.N :=
  (h c).1 32

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 13).trans (((dats m 0 c).arrAt_in 13 rfl _).trans ((A_eq m c 13).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 25).trans (((dats m 0 c).arrAt_in 25 rfl _).trans ((A_eq m c 25).trans (V_main_arg12 m c)))

set_option maxHeartbeats 207160 in
theorem run_blocks : θ_run defs (onTc (τ := τ) (main (F := F))) ⟨m, fun _ => 0, ρ⟩ fun r => ∀ c : Dev nD,
      r.2.mem ((c : Thread nD τ).loc main_v45_0) = (dats m 0 c).arrAt 26 cfg0.N
      ∧ r.2.mem ((c : Thread nD τ).loc main_v45_1) = (dats m 0 c).arrAt 27 cfg0.N
      ∧ r.2.mem ((c : Thread nD τ).loc main_v45_2) = (dats m 0 c).arrAt 28 cfg0.N
      ∧ r.2.mem ((c : Thread nD τ).loc main_v45_3) = (dats m 0 c).arrAt 29 cfg0.N
      ∧ r.2.mem ((c : Thread nD τ).loc main_v45_4) = (dats m 0 c).arrAt 30 cfg0.N
      ∧ r.2.mem ((c : Thread nD τ).loc main_v45_5) = (dats m 0 c).arrAt 31 cfg0.N
      ∧ r.2.mem ((c : Thread nD τ).loc main_v45_6) = (dats m 0 c).arrAt 32 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post26 m r h c,
      post27 m r h c,
      post28 m r h c,
      post29 m r h c,
      post30 m r h c,
      post31 m r h c,
      post32 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.Kernel6Ideal.Value

end
-- ==== Proof.Rwkv.Final.lean ====
/-
  The seven arrays of the mixer's preparing kernel after its run.
-/
module

public import proofs.«01_k».proof.Proof.Rwkv.Values
public import proofs.«01_k».proof.Proof.Rwkv.Blocks

@[expose] public section

set_option maxRecDepth 16384

noncomputable section

namespace Cert.Kernel6Ideal.RwkvPre

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ) (c : Dev nD)

/-! ## Result 0 -/

def values0 : Buf (Elt Ideal) ((c : Thread nD τ).loc main_v45_0) := fun i => value0 m c (i 0) (i 1)

theorem place_26 : ∀ t : Fin cfg0.N, win0_26.index t (0 : Fin 2) = t.val ∧ win0_26.index t (1 : Fin 2) = 0 :=
  (by decide +kernel : ∀ t : Fin grid0.N, _)

theorem written0 (t : Fin cfg0.N) (_ : (cfg0.win 26).flush t = true) :
    (dats m 0 c).flushed 26 t = ((cfg0.win 26).blk t).view.read (Elt Ideal) (values0 m c) := by
  obtain ⟨h0, h1⟩ := place_26 t
  rw [flushed26]
  funext y
  refine Eq.trans (b := (outsAt0 m c t).1 (ix2 (y 0) (y 1))) (congrArg _ (eq_ix2 _)) ((left0 m c t (y 0) (y 1)).trans ?_)
  show value0 m c _ _ = value0 m c _ _
  have e0 : row t (y 0) = ((cfg0.win 26).blk t).view.emb y 0 := Fin.ext (by
    show 512 * t.val + (y 0).val = win0_26.index t (0 : Fin 2) * 512 + 1 * (y 0).val
    rw [h0]; omega)
  have e1 : y 1 = ((cfg0.win 26).blk t).view.emb y 1 := Fin.ext (by
    show (y 1).val = win0_26.index t (1 : Fin 2) * 512 + 1 * (y 1).val
    rw [h1]; omega)
  rw [e0, e1]

theorem covered0 (i : S8192x512.Idx) : ∃ t : Fin cfg0.N, (cfg0.win 26).flush t = true ∧ i ∈ ((cfg0.win 26).blk t).view.set := by
  have hi0 : (i 0).val < 8192 := (i 0).isLt
  obtain ⟨t, ht⟩ : ∃ t : Fin cfg0.N, t.val = (i 0).val / 512 := ⟨⟨(i 0).val / 512, by rw [show cfg0.N = 16 from N_0]; omega⟩, rfl⟩
  refine ⟨t, flush0_26 t, ?_⟩
  obtain ⟨h0, h1⟩ := place_26 t
  have e : ((cfg0.win 26).blk t).view.emb (ix2 ⟨(i 0).val % 512, Nat.mod_lt _ (by decide)⟩ (i 1)) = i := by
    refine funext fun a => Fin.ext ?_
    match a with
    | ⟨0, _⟩ =>
      show win0_26.index t (0 : Fin 2) * 512 + 1 * ((i 0).val % 512) = (i 0).val
      rw [h0]; omega
    | ⟨1, _⟩ =>
      show win0_26.index t (1 : Fin 2) * 512 + 1 * (i 1).val = (i 1).val
      rw [h1]; omega
  have hm := ((cfg0.win 26).blk t).view.emb_mem_set (ix2 ⟨(i 0).val % 512, Nat.mod_lt _ (by decide)⟩ (i 1))
  rwa [e] at hm

theorem final0 : (dats m 0 c).arrAt 26 cfg0.N = values0 m c :=
  (dats m 0 c).arrAt_eq_of_cover 26 (values0 m c) (written0 m c) covered0

/-! ## Result 1 -/

def values1 : Buf (Elt Ideal) ((c : Thread nD τ).loc main_v45_1) := fun i => value1 m c (i 0) (i 1)

theorem place_27 : ∀ t : Fin cfg0.N, win0_27.index t (0 : Fin 2) = t.val ∧ win0_27.index t (1 : Fin 2) = 0 :=
  (by decide +kernel : ∀ t : Fin grid0.N, _)

theorem written1 (hR : Reals m c) (t : Fin cfg0.N) (_ : (cfg0.win 27).flush t = true) :
    (dats m 0 c).flushed 27 t = ((cfg0.win 27).blk t).view.read (Elt Ideal) (values1 m c) := by
  obtain ⟨h0, h1⟩ := place_27 t
  rw [flushed27]
  funext y
  refine Eq.trans (b := (outsAt0 m c t).2.1 (ix2 (y 0) (y 1))) (congrArg _ (eq_ix2 _)) ((left1 m c hR t (y 0) (y 1)).trans ?_)
  show value1 m c _ _ = value1 m c _ _
  have e0 : row t (y 0) = ((cfg0.win 27).blk t).view.emb y 0 := Fin.ext (by
    show 512 * t.val + (y 0).val = win0_27.index t (0 : Fin 2) * 512 + 1 * (y 0).val
    rw [h0]; omega)
  have e1 : y 1 = ((cfg0.win 27).blk t).view.emb y 1 := Fin.ext (by
    show (y 1).val = win0_27.index t (1 : Fin 2) * 512 + 1 * (y 1).val
    rw [h1]; omega)
  rw [e0, e1]

theorem covered1 (i : S8192x512.Idx) : ∃ t : Fin cfg0.N, (cfg0.win 27).flush t = true ∧ i ∈ ((cfg0.win 27).blk t).view.set := by
  have hi0 : (i 0).val < 8192 := (i 0).isLt
  obtain ⟨t, ht⟩ : ∃ t : Fin cfg0.N, t.val = (i 0).val / 512 := ⟨⟨(i 0).val / 512, by rw [show cfg0.N = 16 from N_0]; omega⟩, rfl⟩
  refine ⟨t, flush0_27 t, ?_⟩
  obtain ⟨h0, h1⟩ := place_27 t
  have e : ((cfg0.win 27).blk t).view.emb (ix2 ⟨(i 0).val % 512, Nat.mod_lt _ (by decide)⟩ (i 1)) = i := by
    refine funext fun a => Fin.ext ?_
    match a with
    | ⟨0, _⟩ =>
      show win0_27.index t (0 : Fin 2) * 512 + 1 * ((i 0).val % 512) = (i 0).val
      rw [h0]; omega
    | ⟨1, _⟩ =>
      show win0_27.index t (1 : Fin 2) * 512 + 1 * (i 1).val = (i 1).val
      rw [h1]; omega
  have hm := ((cfg0.win 27).blk t).view.emb_mem_set (ix2 ⟨(i 0).val % 512, Nat.mod_lt _ (by decide)⟩ (i 1))
  rwa [e] at hm

theorem final1 (hR : Reals m c) : (dats m 0 c).arrAt 27 cfg0.N = values1 m c :=
  (dats m 0 c).arrAt_eq_of_cover 27 (values1 m c) (written1 m c hR) covered1

/-! ## Result 2 -/

def values2 : Buf (Elt Ideal) ((c : Thread nD τ).loc main_v45_2) := fun i => value2 m c (i 0) (i 1)

theorem place_28 : ∀ t : Fin cfg0.N, win0_28.index t (0 : Fin 2) = t.val ∧ win0_28.index t (1 : Fin 2) = 0 :=
  (by decide +kernel : ∀ t : Fin grid0.N, _)

theorem written2 (hR : Reals m c) (t : Fin cfg0.N) (_ : (cfg0.win 28).flush t = true) :
    (dats m 0 c).flushed 28 t = ((cfg0.win 28).blk t).view.read (Elt Ideal) (values2 m c) := by
  obtain ⟨h0, h1⟩ := place_28 t
  rw [flushed28]
  funext y
  refine Eq.trans (b := (outsAt0 m c t).2.2.1 (ix2 (y 0) (y 1))) (congrArg _ (eq_ix2 _)) ((left2 m c hR t (y 0) (y 1)).trans ?_)
  show value2 m c _ _ = value2 m c _ _
  have e0 : row t (y 0) = ((cfg0.win 28).blk t).view.emb y 0 := Fin.ext (by
    show 512 * t.val + (y 0).val = win0_28.index t (0 : Fin 2) * 512 + 1 * (y 0).val
    rw [h0]; omega)
  have e1 : y 1 = ((cfg0.win 28).blk t).view.emb y 1 := Fin.ext (by
    show (y 1).val = win0_28.index t (1 : Fin 2) * 512 + 1 * (y 1).val
    rw [h1]; omega)
  rw [e0, e1]

theorem covered2 (i : S8192x512.Idx) : ∃ t : Fin cfg0.N, (cfg0.win 28).flush t = true ∧ i ∈ ((cfg0.win 28).blk t).view.set := by
  have hi0 : (i 0).val < 8192 := (i 0).isLt
  obtain ⟨t, ht⟩ : ∃ t : Fin cfg0.N, t.val = (i 0).val / 512 := ⟨⟨(i 0).val / 512, by rw [show cfg0.N = 16 from N_0]; omega⟩, rfl⟩
  refine ⟨t, flush0_28 t, ?_⟩
  obtain ⟨h0, h1⟩ := place_28 t
  have e : ((cfg0.win 28).blk t).view.emb (ix2 ⟨(i 0).val % 512, Nat.mod_lt _ (by decide)⟩ (i 1)) = i := by
    refine funext fun a => Fin.ext ?_
    match a with
    | ⟨0, _⟩ =>
      show win0_28.index t (0 : Fin 2) * 512 + 1 * ((i 0).val % 512) = (i 0).val
      rw [h0]; omega
    | ⟨1, _⟩ =>
      show win0_28.index t (1 : Fin 2) * 512 + 1 * (i 1).val = (i 1).val
      rw [h1]; omega
  have hm := ((cfg0.win 28).blk t).view.emb_mem_set (ix2 ⟨(i 0).val % 512, Nat.mod_lt _ (by decide)⟩ (i 1))
  rwa [e] at hm

theorem final2 (hR : Reals m c) : (dats m 0 c).arrAt 28 cfg0.N = values2 m c :=
  (dats m 0 c).arrAt_eq_of_cover 28 (values2 m c) (written2 m c hR) covered2

/-! ## Result 3 -/

def values3 : Buf (Elt Ideal) ((c : Thread nD τ).loc main_v45_3) := fun i => value3 m c (i 0) (i 1)

theorem place_29 : ∀ t : Fin cfg0.N, win0_29.index t (0 : Fin 2) = t.val ∧ win0_29.index t (1 : Fin 2) = 0 :=
  (by decide +kernel : ∀ t : Fin grid0.N, _)

theorem written3 (hR : Reals m c) (t : Fin cfg0.N) (_ : (cfg0.win 29).flush t = true) :
    (dats m 0 c).flushed 29 t = ((cfg0.win 29).blk t).view.read (Elt Ideal) (values3 m c) := by
  obtain ⟨h0, h1⟩ := place_29 t
  rw [flushed29]
  funext y
  refine Eq.trans (b := (outsAt0 m c t).2.2.2.1 (ix2 (y 0) (y 1))) (congrArg _ (eq_ix2 _)) ((left3 m c hR t (y 0) (y 1)).trans ?_)
  show value3 m c _ _ = value3 m c _ _
  have e0 : row t (y 0) = ((cfg0.win 29).blk t).view.emb y 0 := Fin.ext (by
    show 512 * t.val + (y 0).val = win0_29.index t (0 : Fin 2) * 512 + 1 * (y 0).val
    rw [h0]; omega)
  have e1 : y 1 = ((cfg0.win 29).blk t).view.emb y 1 := Fin.ext (by
    show (y 1).val = win0_29.index t (1 : Fin 2) * 512 + 1 * (y 1).val
    rw [h1]; omega)
  rw [e0, e1]

theorem covered3 (i : S8192x512.Idx) : ∃ t : Fin cfg0.N, (cfg0.win 29).flush t = true ∧ i ∈ ((cfg0.win 29).blk t).view.set := by
  have hi0 : (i 0).val < 8192 := (i 0).isLt
  obtain ⟨t, ht⟩ : ∃ t : Fin cfg0.N, t.val = (i 0).val / 512 := ⟨⟨(i 0).val / 512, by rw [show cfg0.N = 16 from N_0]; omega⟩, rfl⟩
  refine ⟨t, flush0_29 t, ?_⟩
  obtain ⟨h0, h1⟩ := place_29 t
  have e : ((cfg0.win 29).blk t).view.emb (ix2 ⟨(i 0).val % 512, Nat.mod_lt _ (by decide)⟩ (i 1)) = i := by
    refine funext fun a => Fin.ext ?_
    match a with
    | ⟨0, _⟩ =>
      show win0_29.index t (0 : Fin 2) * 512 + 1 * ((i 0).val % 512) = (i 0).val
      rw [h0]; omega
    | ⟨1, _⟩ =>
      show win0_29.index t (1 : Fin 2) * 512 + 1 * (i 1).val = (i 1).val
      rw [h1]; omega
  have hm := ((cfg0.win 29).blk t).view.emb_mem_set (ix2 ⟨(i 0).val % 512, Nat.mod_lt _ (by decide)⟩ (i 1))
  rwa [e] at hm

theorem final3 (hR : Reals m c) : (dats m 0 c).arrAt 29 cfg0.N = values3 m c :=
  (dats m 0 c).arrAt_eq_of_cover 29 (values3 m c) (written3 m c hR) covered3

/-! ## Result 4 -/

def values4 : Buf (Elt Ideal) ((c : Thread nD τ).loc main_v45_4) := fun i => value4 m c (i 0) (i 1)

theorem place_30 : ∀ t : Fin cfg0.N, win0_30.index t (0 : Fin 2) = t.val ∧ win0_30.index t (1 : Fin 2) = 0 :=
  (by decide +kernel : ∀ t : Fin grid0.N, _)

theorem written4 (hR : Reals m c) (t : Fin cfg0.N) (_ : (cfg0.win 30).flush t = true) :
    (dats m 0 c).flushed 30 t = ((cfg0.win 30).blk t).view.read (Elt Ideal) (values4 m c) := by
  obtain ⟨h0, h1⟩ := place_30 t
  rw [flushed30]
  funext y
  refine Eq.trans (b := (outsAt0 m c t).2.2.2.2.1 (ix2 (y 0) (y 1))) (congrArg _ (eq_ix2 _)) ((left4 m c hR t (y 0) (y 1)).trans ?_)
  show value4 m c _ _ = value4 m c _ _
  have e0 : row t (y 0) = ((cfg0.win 30).blk t).view.emb y 0 := Fin.ext (by
    show 512 * t.val + (y 0).val = win0_30.index t (0 : Fin 2) * 512 + 1 * (y 0).val
    rw [h0]; omega)
  have e1 : y 1 = ((cfg0.win 30).blk t).view.emb y 1 := Fin.ext (by
    show (y 1).val = win0_30.index t (1 : Fin 2) * 512 + 1 * (y 1).val
    rw [h1]; omega)
  rw [e0, e1]

theorem covered4 (i : S8192x512.Idx) : ∃ t : Fin cfg0.N, (cfg0.win 30).flush t = true ∧ i ∈ ((cfg0.win 30).blk t).view.set := by
  have hi0 : (i 0).val < 8192 := (i 0).isLt
  obtain ⟨t, ht⟩ : ∃ t : Fin cfg0.N, t.val = (i 0).val / 512 := ⟨⟨(i 0).val / 512, by rw [show cfg0.N = 16 from N_0]; omega⟩, rfl⟩
  refine ⟨t, flush0_30 t, ?_⟩
  obtain ⟨h0, h1⟩ := place_30 t
  have e : ((cfg0.win 30).blk t).view.emb (ix2 ⟨(i 0).val % 512, Nat.mod_lt _ (by decide)⟩ (i 1)) = i := by
    refine funext fun a => Fin.ext ?_
    match a with
    | ⟨0, _⟩ =>
      show win0_30.index t (0 : Fin 2) * 512 + 1 * ((i 0).val % 512) = (i 0).val
      rw [h0]; omega
    | ⟨1, _⟩ =>
      show win0_30.index t (1 : Fin 2) * 512 + 1 * (i 1).val = (i 1).val
      rw [h1]; omega
  have hm := ((cfg0.win 30).blk t).view.emb_mem_set (ix2 ⟨(i 0).val % 512, Nat.mod_lt _ (by decide)⟩ (i 1))
  rwa [e] at hm

theorem final4 (hR : Reals m c) : (dats m 0 c).arrAt 30 cfg0.N = values4 m c :=
  (dats m 0 c).arrAt_eq_of_cover 30 (values4 m c) (written4 m c hR) covered4

/-! ## Result 5 -/

def values5 : Buf (Elt Ideal) ((c : Thread nD τ).loc main_v45_5) := fun i => value5 m c (i 0) (i 1)

theorem place_31 : ∀ t : Fin cfg0.N, win0_31.index t (0 : Fin 2) = t.val ∧ win0_31.index t (1 : Fin 2) = 0 :=
  (by decide +kernel : ∀ t : Fin grid0.N, _)

theorem written5 (hR : Reals m c) (t : Fin cfg0.N) (_ : (cfg0.win 31).flush t = true) :
    (dats m 0 c).flushed 31 t = ((cfg0.win 31).blk t).view.read (Elt Ideal) (values5 m c) := by
  obtain ⟨h0, h1⟩ := place_31 t
  rw [flushed31]
  funext y
  refine Eq.trans (b := (outsAt0 m c t).2.2.2.2.2.1 (ix2 (y 0) (y 1))) (congrArg _ (eq_ix2 _)) ((left5 m c hR t (y 0) (y 1)).trans ?_)
  show value5 m c _ _ = value5 m c _ _
  have e0 : row t (y 0) = ((cfg0.win 31).blk t).view.emb y 0 := Fin.ext (by
    show 512 * t.val + (y 0).val = win0_31.index t (0 : Fin 2) * 512 + 1 * (y 0).val
    rw [h0]; omega)
  have e1 : y 1 = ((cfg0.win 31).blk t).view.emb y 1 := Fin.ext (by
    show (y 1).val = win0_31.index t (1 : Fin 2) * 512 + 1 * (y 1).val
    rw [h1]; omega)
  rw [e0, e1]

theorem covered5 (i : S8192x512.Idx) : ∃ t : Fin cfg0.N, (cfg0.win 31).flush t = true ∧ i ∈ ((cfg0.win 31).blk t).view.set := by
  have hi0 : (i 0).val < 8192 := (i 0).isLt
  obtain ⟨t, ht⟩ : ∃ t : Fin cfg0.N, t.val = (i 0).val / 512 := ⟨⟨(i 0).val / 512, by rw [show cfg0.N = 16 from N_0]; omega⟩, rfl⟩
  refine ⟨t, flush0_31 t, ?_⟩
  obtain ⟨h0, h1⟩ := place_31 t
  have e : ((cfg0.win 31).blk t).view.emb (ix2 ⟨(i 0).val % 512, Nat.mod_lt _ (by decide)⟩ (i 1)) = i := by
    refine funext fun a => Fin.ext ?_
    match a with
    | ⟨0, _⟩ =>
      show win0_31.index t (0 : Fin 2) * 512 + 1 * ((i 0).val % 512) = (i 0).val
      rw [h0]; omega
    | ⟨1, _⟩ =>
      show win0_31.index t (1 : Fin 2) * 512 + 1 * (i 1).val = (i 1).val
      rw [h1]; omega
  have hm := ((cfg0.win 31).blk t).view.emb_mem_set (ix2 ⟨(i 0).val % 512, Nat.mod_lt _ (by decide)⟩ (i 1))
  rwa [e] at hm

theorem final5 (hR : Reals m c) : (dats m 0 c).arrAt 31 cfg0.N = values5 m c :=
  (dats m 0 c).arrAt_eq_of_cover 31 (values5 m c) (written5 m c hR) covered5

/-! ## Result 6 -/

def values6 : Buf (Elt Ideal) ((c : Thread nD τ).loc main_v45_6) := fun i => value6 m c (i 0) (i 1)

theorem place_32 : ∀ t : Fin cfg0.N, win0_32.index t (0 : Fin 2) = t.val ∧ win0_32.index t (1 : Fin 2) = 0 :=
  (by decide +kernel : ∀ t : Fin grid0.N, _)

theorem written6 (hR : Reals m c) (t : Fin cfg0.N) (_ : (cfg0.win 32).flush t = true) :
    (dats m 0 c).flushed 32 t = ((cfg0.win 32).blk t).view.read (Elt Ideal) (values6 m c) := by
  obtain ⟨h0, h1⟩ := place_32 t
  rw [flushed32]
  funext y
  refine Eq.trans (b := (outsAt0 m c t).2.2.2.2.2.2 (ix2 (y 0) (y 1))) (congrArg _ (eq_ix2 _)) ((left6 m c hR t (y 0) (y 1)).trans ?_)
  show value6 m c _ _ = value6 m c _ _
  have e0 : row t (y 0) = ((cfg0.win 32).blk t).view.emb y 0 := Fin.ext (by
    show 512 * t.val + (y 0).val = win0_32.index t (0 : Fin 2) * 512 + 1 * (y 0).val
    rw [h0]; omega)
  have e1 : y 1 = ((cfg0.win 32).blk t).view.emb y 1 := Fin.ext (by
    show (y 1).val = win0_32.index t (1 : Fin 2) * 512 + 1 * (y 1).val
    rw [h1]; omega)
  rw [e0, e1]

theorem covered6 (i : S8192x512.Idx) : ∃ t : Fin cfg0.N, (cfg0.win 32).flush t = true ∧ i ∈ ((cfg0.win 32).blk t).view.set := by
  have hi0 : (i 0).val < 8192 := (i 0).isLt
  obtain ⟨t, ht⟩ : ∃ t : Fin cfg0.N, t.val = (i 0).val / 512 := ⟨⟨(i 0).val / 512, by rw [show cfg0.N = 16 from N_0]; omega⟩, rfl⟩
  refine ⟨t, flush0_32 t, ?_⟩
  obtain ⟨h0, h1⟩ := place_32 t
  have e : ((cfg0.win 32).blk t).view.emb (ix2 ⟨(i 0).val % 512, Nat.mod_lt _ (by decide)⟩ (i 1)) = i := by
    refine funext fun a => Fin.ext ?_
    match a with
    | ⟨0, _⟩ =>
      show win0_32.index t (0 : Fin 2) * 512 + 1 * ((i 0).val % 512) = (i 0).val
      rw [h0]; omega
    | ⟨1, _⟩ =>
      show win0_32.index t (1 : Fin 2) * 512 + 1 * (i 1).val = (i 1).val
      rw [h1]; omega
  have hm := ((cfg0.win 32).blk t).view.emb_mem_set (ix2 ⟨(i 0).val % 512, Nat.mod_lt _ (by decide)⟩ (i 1))
  rwa [e] at hm

theorem final6 (hR : Reals m c) : (dats m 0 c).arrAt 32 cfg0.N = values6 m c :=
  (dats m 0 c).arrAt_eq_of_cover 32 (values6 m c) (written6 m c hR) covered6

end Cert.Kernel6Ideal.RwkvPre
-- ==== Proof.Rwkv.Pieces.lean ====
/-
  The reference's pieces of the mixer's preparing step, entry by entry.
-/
module

public import proofs.«01_k».proof.Defs
public import proofs.«01_k».proof.Proof.Rwkv.Final
public import proofs.«01_k».proof.Proof.Gen.Reference6Ideal.Run

@[expose] public section

set_option maxRecDepth 16384

noncomputable section

namespace Cert.RwkvPre

open Idealize.ShloMosaic Idealize.ShloMosaic.TcCoe Idealize.SL.Sem
open Cert.Reference6Ideal Cert.Reference6Ideal.Gen

def catRef (A0 : FVec Ideal S8192x6912 .f32) : FVec Ideal S1x8192x1984 .f32 :=
  ((concatenate S1x8192x1984 2 [⟨S1x8192x1632, ((broadcastInDim S1x8192x1632 ![1, 2] bcast_S8192x1632_S1x8192x1632_1_2 (extractStridedSlice S8192x1632 ![0, 2048] A0 slices_S8192x6912_S8192x1632_0_2048)) : (⟨S1x8192x1632, .f32⟩ : BufTy).Contents (Elt Ideal))⟩, ⟨S1x8192x96, ((broadcastInDim S1x8192x96 ![1, 2] bcast_S8192x96_S1x8192x96_1_2 (extractStridedSlice S8192x96 ![0, 3712] A0 slices_S8192x6912_S8192x96_0_3712)) : (⟨S1x8192x96, .f32⟩ : BufTy).Contents (Elt Ideal))⟩, ⟨S1x8192x256, ((broadcastInDim S1x8192x256 ![1, 2] bcast_S8192x256_S1x8192x256_1_2 (extractStridedSlice S8192x256 ![0, 3840] A0 slices_S8192x6912_S8192x256_0_3840)) : (⟨S1x8192x256, .f32⟩ : BufTy).Contents (Elt Ideal))⟩] concatenates_S1x8192x1632_S1x8192x96_S1x8192x256_S1x8192x1984_d2 : (⟨S1x8192x1984, .f32⟩ : BufTy).Contents (Elt Ideal)))

def mixRef (A0 : FVec Ideal S8192x6912 .f32) (A1 : FVec Ideal S2x1984 .f32) : FVec Ideal S1x8192x1984 .f32 :=
  (addf (catRef A0) (mulf (broadcastInDim S1x8192x1984 ![0, 1, 2] bcast_S1x1x1984_S1x8192x1984_0_1_2 (broadcastInDim S1x1x1984 ![2] bcast_S1984_S1x1x1984_2 (shapeCast _ (extractStridedSlice S1x1984 ![1, 0] A1 slices_S2x1984_S1x1984_1_0) shapeCasts_S1x1984_S1984))) (subf (extractStridedSlice S1x8192x1984 ![0, 0, 0] (pad S1x8193x1984 ![0, 1, 0] ![0, 0, 0] ![0, 0, 0] (catRef A0) (sitofp .f32 (constantI S_ 32 0#32)) pads_S1x8192x1984_S1x8193x1984_000_100_000 h_S_) slices_S1x8193x1984_S1x8192x1984_0_0_0) (catRef A0))))

def restRef (A0 : FVec Ideal S8192x6912 .f32) (A2 : FVec Ideal S1x64 .f32) : FVec Ideal S1x8192x64 .f32 :=
  (addf (broadcastInDim S1x8192x64 ![1, 2] bcast_S8192x64_S1x8192x64_1_2 (extractStridedSlice S8192x64 ![0, 4096] A0 slices_S8192x6912_S8192x64_0_4096)) (mulf (broadcastInDim S1x8192x64 ![0, 1, 2] bcast_S1x1x64_S1x8192x64_0_1_2 (broadcastInDim S1x1x64 ![2] bcast_S64_S1x1x64_2 (shapeCast _ A2 shapeCasts_S1x64_S64))) (subf (extractStridedSlice S1x8192x64 ![0, 0, 0] (pad S1x8193x64 ![0, 1, 0] ![0, 0, 0] ![0, 0, 0] (broadcastInDim S1x8192x64 ![1, 2] bcast_S8192x64_S1x8192x64_1_2 (extractStridedSlice S8192x64 ![0, 4096] A0 slices_S8192x6912_S8192x64_0_4096)) (sitofp .f32 (constantI S_ 32 0#32)) pads_S1x8192x64_S1x8193x64_000_100_000 h_S_) slices_S1x8193x64_S1x8192x64_0_0_0) (broadcastInDim S1x8192x64 ![1, 2] bcast_S8192x64_S1x8192x64_1_2 (extractStridedSlice S8192x64 ![0, 4096] A0 slices_S8192x6912_S8192x64_0_4096)))))

def decayRef (A0 : FVec Ideal S8192x6912 .f32) (A1 : FVec Ideal S2x1984 .f32) (A3 : FVec Ideal S2x512 .f32) (A4 : FVec Ideal S2x96x512 .f32) : FVec Ideal S1x8192x512 .f32 :=
  (addf (broadcastInDim S1x8192x512 ![0, 1, 2] bcast_S1x1x512_S1x8192x512_0_1_2 (broadcastInDim S1x1x512 ![2] bcast_S512_S1x1x512_2 (shapeCast _ (extractStridedSlice S1x512 ![1, 0] A3 slices_S2x512_S1x512_1_0) shapeCasts_S1x512_S512))) (Host.dotGeneral dot_S1x8192x96_S96x512_S1x8192x512_2_0_01_1_n_n none (Host.tanh (extractStridedSlice S1x8192x96 ![0, 0, 1536] (mixRef A0 A1) slices_S1x8192x1984_S1x8192x96_0_0_1536)) (shapeCast _ (extractStridedSlice S1x96x512 ![1, 0, 0] A4 slices_S2x96x512_S1x96x512_1_0_0) shapeCasts_S1x96x512_S96x512)))

def rateRef (A0 : FVec Ideal S8192x6912 .f32) (A1 : FVec Ideal S2x1984 .f32) (A5 : FVec Ideal S2x512 .f32) (A6 : FVec Ideal S2x96x512 .f32) : FVec Ideal S1x8192x512 .f32 :=
  (Host.divf (broadcastInDim S1x8192x512 ![] bcast_S_S1x8192x512 (constant S_ .f32 0x3F800000#32)) (addf (broadcastInDim S1x8192x512 ![] bcast_S_S1x8192x512 (constant S_ .f32 0x3F800000#32)) (Host.exp (Host.negf (addf (broadcastInDim S1x8192x512 ![0, 1, 2] bcast_S1x1x512_S1x8192x512_0_1_2 (broadcastInDim S1x1x512 ![2] bcast_S512_S1x1x512_2 (shapeCast _ (extractStridedSlice S1x512 ![1, 0] A5 slices_S2x512_S1x512_1_0) shapeCasts_S1x512_S512))) (Host.dotGeneral dot_S1x8192x96_S96x512_S1x8192x512_2_0_01_1_n_n none (extractStridedSlice S1x8192x96 ![0, 0, 1632] (mixRef A0 A1) slices_S1x8192x1984_S1x8192x96_0_0_1632) (shapeCast _ (extractStridedSlice S1x96x512 ![1, 0, 0] A6 slices_S2x96x512_S1x96x512_1_0_0) shapeCasts_S1x96x512_S96x512)))))))

def keyRef (A0 : FVec Ideal S8192x6912 .f32) (A1 : FVec Ideal S2x1984 .f32) (A10 : FVec Ideal S2x512 .f32) : FVec Ideal S1x8192x512 .f32 :=
  (mulf (extractStridedSlice S1x8192x512 ![0, 0, 512] (mixRef A0 A1) slices_S1x8192x1984_S1x8192x512_0_0_512) (broadcastInDim S1x8192x512 ![0, 1, 2] bcast_S1x1x512_S1x8192x512_0_1_2 (broadcastInDim S1x1x512 ![2] bcast_S512_S1x1x512_2 (shapeCast _ (extractStridedSlice S1x512 ![1, 0] A10 slices_S2x512_S1x512_1_0) shapeCasts_S1x512_S512))))

def unitRef (A0 : FVec Ideal S8192x6912 .f32) (A1 : FVec Ideal S2x1984 .f32) (A10 : FVec Ideal S2x512 .f32) : FVec Ideal S1x8192x512 .f32 :=
  (shapeCast _ (Host.divf (shapeCast _ (keyRef A0 A1 A10) shapeCasts_S1x8192x512_S1x8192x8x64) (broadcastInDim S1x8192x8x64 ![0, 1, 2, 3] bcast_S1x8192x8x1_S1x8192x8x64_0_1_2_3 (maximumf (Host.sqrt (broadcastInDim S1x8192x8x1 ![0, 1, 2] bcast_S1x8192x8_S1x8192x8x1_0_1_2 (Host.reduceAdd (mulf (shapeCast _ (keyRef A0 A1 A10) shapeCasts_S1x8192x512_S1x8192x8x64) (shapeCast _ (keyRef A0 A1 A10) shapeCasts_S1x8192x512_S1x8192x8x64)) (constant S_ .f32 0x00000000#32) reducesTo_S1x8192x8x64_S1x8192x8_d3 h_S_))) (broadcastInDim S1x8192x8x1 ![] bcast_S_S1x8192x8x1 (constant S_ .f32 0x2B8CBCCC#32))))) shapeCasts_S1x8192x8x64_S1x8192x512)

def firstRef (A12 : FVec Ideal S8192x512 .f32) : FVec Ideal S1x8192x512 .f32 :=
  (broadcastInDim S1x8192x512 ![1, 2] bcast_S8192x512_S1x8192x512_1_2 A12)

def valueRef (A0 : FVec Ideal S8192x6912 .f32) (A1 : FVec Ideal S2x1984 .f32) : FVec Ideal S1x8192x512 .f32 :=
  (extractStridedSlice S1x8192x512 ![0, 0, 1024] (mixRef A0 A1) slices_S1x8192x1984_S1x8192x512_0_0_1024)

def shareRef (A0 : FVec Ideal S8192x6912 .f32) (A2 : FVec Ideal S1x64 .f32) (A7 : FVec Ideal S1x512 .f32) (A8 : FVec Ideal S1x64x512 .f32) : FVec Ideal S1x8192x512 .f32 :=
  (Host.divf (broadcastInDim S1x8192x512 ![] bcast_S_S1x8192x512 (constant S_ .f32 0x3F800000#32)) (addf (broadcastInDim S1x8192x512 ![] bcast_S_S1x8192x512 (constant S_ .f32 0x3F800000#32)) (Host.exp (Host.negf (addf (broadcastInDim S1x8192x512 ![0, 1, 2] bcast_S1x1x512_S1x8192x512_0_1_2 (broadcastInDim S1x1x512 ![2] bcast_S512_S1x1x512_2 (shapeCast _ A7 shapeCasts_S1x512_S512))) (Host.dotGeneral dot_S1x8192x64_S64x512_S1x8192x512_2_0_01_1_n_n none (restRef A0 A2) (shapeCast _ A8 shapeCasts_S1x64x512_S64x512)))))))

def out0 (A0 : FVec Ideal S8192x6912 .f32) (A1 : FVec Ideal S2x1984 .f32) : FVec Ideal S8192x512 .f32 :=
  shapeCast _ (extractStridedSlice S1x8192x512 ![0, 0, 0] (mixRef A0 A1) slices_S1x8192x1984_S1x8192x512_0_0_0) shapeCasts_S1x8192x512_S8192x512

def out1 (A0 : FVec Ideal S8192x6912 .f32) (A1 : FVec Ideal S2x1984 .f32) (A3 : FVec Ideal S2x512 .f32) (A4 : FVec Ideal S2x96x512 .f32) : FVec Ideal S8192x512 .f32 :=
  Host.negf (shapeCast _ (Host.exp (subf (Host.negf (select (cmpf .une (subf (Host.negf (decayRef A0 A1 A3 A4)) (broadcastInDim S1x8192x512 ![] bcast_S_S1x8192x512 (constant S_ .f32 0x00000000#32))) (subf (Host.negf (decayRef A0 A1 A3 A4)) (broadcastInDim S1x8192x512 ![] bcast_S_S1x8192x512 (constant S_ .f32 0x00000000#32)))) (addf (Host.negf (decayRef A0 A1 A3 A4)) (broadcastInDim S1x8192x512 ![] bcast_S_S1x8192x512 (constant S_ .f32 0x00000000#32))) (addf (maximumf (Host.negf (decayRef A0 A1 A3 A4)) (broadcastInDim S1x8192x512 ![] bcast_S_S1x8192x512 (constant S_ .f32 0x00000000#32))) (Host.log1p (Host.exp (Host.negf (Host.absf (subf (Host.negf (decayRef A0 A1 A3 A4)) (broadcastInDim S1x8192x512 ![] bcast_S_S1x8192x512 (constant S_ .f32 0x00000000#32)))))))))) (broadcastInDim S1x8192x512 ![] bcast_S_S1x8192x512 (constant S_ .f32 0x3F000000#32)))) shapeCasts_S1x8192x512_S8192x512)

def out2 (A0 : FVec Ideal S8192x6912 .f32) (A1 : FVec Ideal S2x1984 .f32) (A5 : FVec Ideal S2x512 .f32) (A6 : FVec Ideal S2x96x512 .f32) (A11 : FVec Ideal S2x512 .f32) : FVec Ideal S8192x512 .f32 :=
  shapeCast _ (mulf (extractStridedSlice S1x8192x512 ![0, 0, 512] (mixRef A0 A1) slices_S1x8192x1984_S1x8192x512_0_0_512) (addf (broadcastInDim S1x8192x512 ![] bcast_S_S1x8192x512 (constant S_ .f32 0x3F800000#32)) (mulf (subf (rateRef A0 A1 A5 A6) (broadcastInDim S1x8192x512 ![] bcast_S_S1x8192x512 (constant S_ .f32 0x3F800000#32))) (broadcastInDim S1x8192x512 ![0, 1, 2] bcast_S1x1x512_S1x8192x512_0_1_2 (broadcastInDim S1x1x512 ![2] bcast_S512_S1x1x512_2 (shapeCast _ (extractStridedSlice S1x512 ![1, 0] A11 slices_S2x512_S1x512_1_0) shapeCasts_S1x512_S512)))))) shapeCasts_S1x8192x512_S8192x512

def out3 (A0 : FVec Ideal S8192x6912 .f32) (A1 : FVec Ideal S2x1984 .f32) (A2 : FVec Ideal S1x64 .f32) (A7 : FVec Ideal S1x512 .f32) (A8 : FVec Ideal S1x64x512 .f32) (A12 : FVec Ideal S8192x512 .f32) : FVec Ideal S8192x512 .f32 :=
  shapeCast _ (addf (valueRef A0 A1) (mulf (subf (firstRef A12) (valueRef A0 A1)) (shareRef A0 A2 A7 A8))) shapeCasts_S1x8192x512_S8192x512

def out4 (A0 : FVec Ideal S8192x6912 .f32) (A1 : FVec Ideal S2x1984 .f32) (A10 : FVec Ideal S2x512 .f32) : FVec Ideal S8192x512 .f32 :=
  Host.negf (shapeCast _ (unitRef A0 A1 A10) shapeCasts_S1x8192x512_S8192x512)

def out5 (A0 : FVec Ideal S8192x6912 .f32) (A1 : FVec Ideal S2x1984 .f32) (A5 : FVec Ideal S2x512 .f32) (A6 : FVec Ideal S2x96x512 .f32) (A10 : FVec Ideal S2x512 .f32) : FVec Ideal S8192x512 .f32 :=
  shapeCast _ (mulf (unitRef A0 A1 A10) (rateRef A0 A1 A5 A6)) shapeCasts_S1x8192x512_S8192x512

def out6 (A0 : FVec Ideal S8192x6912 .f32) (A1 : FVec Ideal S2x1984 .f32) (A9 : FVec Ideal S2x256x512 .f32) : FVec Ideal S8192x512 .f32 :=
  shapeCast _ (Host.dotGeneral dot_S1x8192x256_S256x512_S1x8192x512_2_0_01_1_n_n none (Host.divf (broadcastInDim S1x8192x256 ![] bcast_S_S1x8192x256 (constant S_ .f32 0x3F800000#32)) (addf (broadcastInDim S1x8192x256 ![] bcast_S_S1x8192x256 (constant S_ .f32 0x3F800000#32)) (Host.exp (Host.negf (extractStridedSlice S1x8192x256 ![0, 0, 1728] (mixRef A0 A1) slices_S1x8192x1984_S1x8192x256_0_0_1728))))) (shapeCast _ (extractStridedSlice S1x256x512 ![1, 0, 0] A9 slices_S2x256x512_S1x256x512_1_0_0) shapeCasts_S1x256x512_S256x512)) shapeCasts_S1x8192x512_S8192x512

/-! ## The mixed columns -/

/-- An entry mixed with the one above it, which is zero above the first row. -/
def lerp (A0 : FVec Ideal S8192x6912 .f32) (R : Fin 8192) (j : Fin 6912) (w : EReal) : EReal :=
  A0 (ix2 R j) + w * ((if h : 1 ≤ R.val then A0 (ix2 ⟨R.val - 1, by omega⟩ j) else 0) - A0 (ix2 R j))

theorem catRef_at (A0 : FVec Ideal S8192x6912 .f32) (R : Fin 8192) (k : Fin 1984) :
    catRef A0 (ix3 0 R k) = if h : k.val < 1632 then A0 (ix2 R ⟨2048 + k.val, by omega⟩)
      else if h' : k.val - 1632 < 96 then A0 (ix2 R ⟨3712 + (k.val - 1632), by omega⟩)
      else A0 (ix2 R ⟨3840 + (k.val - 1632 - 96), by omega⟩) := by
  unfold catRef
  pointwise

theorem mixRef_at (A0 : FVec Ideal S8192x6912 .f32) (A1 : FVec Ideal S2x1984 .f32) (R : Fin 8192) (k : Fin 1984) :
    mixRef A0 A1 (ix3 0 R k) = catRef A0 (ix3 0 R k) + A1 (ix2 1 k) *
      ((if h : 1 ≤ R.val ∧ R.val - 1 < 8192 then catRef A0 (ix3 0 ⟨R.val - 1, h.2⟩ k) else FloatOps.sitofp (F := Ideal) FTy.f32 0#32)
        - catRef A0 (ix3 0 R k)) := by
  unfold mixRef
  pointwise

theorem mix_of (A0 : FVec Ideal S8192x6912 .f32) (A1 : FVec Ideal S2x1984 .f32) (R : Fin 8192) (k : Fin 1984) (j : Fin 6912)
    (hj : ∀ R : Fin 8192, catRef A0 (ix3 0 R k) = A0 (ix2 R j)) : mixRef A0 A1 (ix3 0 R k) = lerp A0 R j (A1 (ix2 1 k)) := by
  rw [mixRef_at]
  unfold lerp
  by_cases h : 1 ≤ R.val
  · rw [dif_pos ⟨h, by omega⟩, dif_pos h, hj, hj]
  · rw [dif_neg (fun x => h x.1), dif_neg h, hj, Cert.Kernel6Ideal.RwkvPre.pad_zero]

theorem mix_low (A0 : FVec Ideal S8192x6912 .f32) (A1 : FVec Ideal S2x1984 .f32) (R : Fin 8192) (k : Fin 1984) (hk : k.val < 1632) :
    mixRef A0 A1 (ix3 0 R k) = lerp A0 R ⟨2048 + k.val, by omega⟩ (A1 (ix2 1 k)) :=
  mix_of A0 A1 R k _ fun R => by rw [catRef_at, dif_pos hk]

theorem mix_rate (A0 : FVec Ideal S8192x6912 .f32) (A1 : FVec Ideal S2x1984 .f32) (R : Fin 8192) (k : Fin 96) :
    mixRef A0 A1 (ix3 0 R ⟨1632 + k.val, by omega⟩) = lerp A0 R ⟨3712 + k.val, by omega⟩ (A1 (ix2 1 ⟨1632 + k.val, by omega⟩)) :=
  mix_of A0 A1 R _ _ fun R => by
    rw [catRef_at, dif_neg (by show ¬1632 + k.val < 1632; omega), dif_pos (by show 1632 + k.val - 1632 < 96; omega)]
    exact congrArg (fun j => A0 (ix2 R j)) (Fin.ext (by show 3712 + (1632 + k.val - 1632) = 3712 + k.val; omega))

theorem mix_gate (A0 : FVec Ideal S8192x6912 .f32) (A1 : FVec Ideal S2x1984 .f32) (R : Fin 8192) (k : Fin 256) :
    mixRef A0 A1 (ix3 0 R ⟨1728 + k.val, by omega⟩) = lerp A0 R ⟨3840 + k.val, by omega⟩ (A1 (ix2 1 ⟨1728 + k.val, by omega⟩)) :=
  mix_of A0 A1 R _ _ fun R => by
    rw [catRef_at, dif_neg (by show ¬1728 + k.val < 1632; omega), dif_neg (by show ¬1728 + k.val - 1632 < 96; omega)]
    exact congrArg (fun j => A0 (ix2 R j)) (Fin.ext (by show 3840 + (1728 + k.val - 1632 - 96) = 3840 + k.val; omega))

theorem rest_at (A0 : FVec Ideal S8192x6912 .f32) (A2 : FVec Ideal S1x64 .f32) (R : Fin 8192) (k : Fin 64) :
    restRef A0 A2 (ix3 0 R k) = lerp A0 R ⟨4096 + k.val, by omega⟩ (A2 (ix2 0 k)) := by
  have e : restRef A0 A2 (ix3 0 R k) = A0 (ix2 R ⟨4096 + k.val, by omega⟩) + A2 (ix2 0 k) *
      ((if h : 1 ≤ R.val ∧ R.val - 1 < 8192 then A0 (ix2 ⟨R.val - 1, h.2⟩ ⟨4096 + k.val, by omega⟩) else FloatOps.sitofp (F := Ideal) FTy.f32 0#32)
        - A0 (ix2 R ⟨4096 + k.val, by omega⟩)) := by
    unfold restRef
    pointwise
  rw [e]
  unfold lerp
  by_cases h : 1 ≤ R.val
  · rw [dif_pos ⟨h, by omega⟩, dif_pos h]
  · rw [dif_neg (fun x => h x.1), dif_neg h, Cert.Kernel6Ideal.RwkvPre.pad_zero]

/-! ## The pieces -/

theorem decayRef_at (A0 : FVec Ideal S8192x6912 .f32) (A1 : FVec Ideal S2x1984 .f32) (A3 : FVec Ideal S2x512 .f32) (A4 : FVec Ideal S2x96x512 .f32) (R : Fin 8192) (q : Fin 512) :
    decayRef A0 A1 A3 A4 (ix3 0 R q) = A3 (ix2 1 q) + ∑ x : Fin 96, Ideal.tanh (mixRef A0 A1 (ix3 0 R ⟨1536 + x.val, by omega⟩)) * A4 (ix3 1 x q) := by
  unfold decayRef
  pointwise

theorem rateRef_at (A0 : FVec Ideal S8192x6912 .f32) (A1 : FVec Ideal S2x1984 .f32) (A5 : FVec Ideal S2x512 .f32) (A6 : FVec Ideal S2x96x512 .f32) (R : Fin 8192) (q : Fin 512) :
    rateRef A0 A1 A5 A6 (ix3 0 R q) = Ideal.div 1 (1 + Ideal.exp (-(A5 (ix2 1 q) + ∑ x : Fin 96, mixRef A0 A1 (ix3 0 R ⟨1632 + x.val, by omega⟩) * A6 (ix3 1 x q)))) := by
  unfold rateRef
  pointwise

theorem keyRef_at (A0 : FVec Ideal S8192x6912 .f32) (A1 : FVec Ideal S2x1984 .f32) (A10 : FVec Ideal S2x512 .f32) (R : Fin 8192) (q : Fin 512) :
    keyRef A0 A1 A10 (ix3 0 R q) = mixRef A0 A1 (ix3 0 R ⟨512 + q.val, by omega⟩) * A10 (ix2 1 q) := by
  unfold keyRef
  pointwise

theorem unitRef_at (A0 : FVec Ideal S8192x6912 .f32) (A1 : FVec Ideal S2x1984 .f32) (A10 : FVec Ideal S2x512 .f32) (R : Fin 8192) (q : Fin 512) :
    unitRef A0 A1 A10 (ix3 0 R q) = Ideal.div (keyRef A0 A1 A10 (ix3 0 R q)) (max (Ideal.sqrt (∑ x : Fin 64,
      keyRef A0 A1 A10 (ix3 0 R ⟨q.val / 64 * 64 + x.val, by omega⟩) * keyRef A0 A1 A10 (ix3 0 R ⟨q.val / 64 * 64 + x.val, by omega⟩)))
      (Ideal.ofBits FTy.f32 730643660#32)) := by
  unfold unitRef
  pointwise

theorem firstRef_at (A12 : FVec Ideal S8192x512 .f32) (R : Fin 8192) (q : Fin 512) :
    firstRef A12 (ix3 0 R q) = A12 (ix2 R q) := by
  unfold firstRef
  pointwise

theorem valueRef_at (A0 : FVec Ideal S8192x6912 .f32) (A1 : FVec Ideal S2x1984 .f32) (R : Fin 8192) (q : Fin 512) :
    valueRef A0 A1 (ix3 0 R q) = mixRef A0 A1 (ix3 0 R ⟨1024 + q.val, by omega⟩) := by
  unfold valueRef
  pointwise

theorem shareRef_at (A0 : FVec Ideal S8192x6912 .f32) (A2 : FVec Ideal S1x64 .f32) (A7 : FVec Ideal S1x512 .f32) (A8 : FVec Ideal S1x64x512 .f32) (R : Fin 8192) (q : Fin 512) :
    shareRef A0 A2 A7 A8 (ix3 0 R q) = Ideal.div 1 (1 + Ideal.exp (-(A7 (ix2 0 q) + ∑ x : Fin 64, restRef A0 A2 (ix3 0 R x) * A8 (ix3 0 x q)))) := by
  unfold shareRef
  pointwise

theorem out0_at (A0 : FVec Ideal S8192x6912 .f32) (A1 : FVec Ideal S2x1984 .f32) (R : Fin 8192) (q : Fin 512) :
    out0 A0 A1 (ix2 R q) = mixRef A0 A1 (ix3 0 R ⟨q.val, by omega⟩) := by
  unfold out0
  pointwise

theorem out1_at (A0 : FVec Ideal S8192x6912 .f32) (A1 : FVec Ideal S2x1984 .f32) (A3 : FVec Ideal S2x512 .f32) (A4 : FVec Ideal S2x96x512 .f32) (R : Fin 8192) (q : Fin 512) :
    out1 A0 A1 A3 A4 (ix2 R q) = Cert.Kernel6Ideal.RwkvPre.decay (decayRef A0 A1 A3 A4 (ix3 0 R q)) := by
  unfold out1
  have e : ∀ (x y : EReal), (if x ≠ x then x else y) = y := fun x y => if_neg (fun h => h rfl)
  unfold Cert.Kernel6Ideal.RwkvPre.decay
  pointwise
  rw [e]
  rfl

theorem out2_at (A0 : FVec Ideal S8192x6912 .f32) (A1 : FVec Ideal S2x1984 .f32) (A5 : FVec Ideal S2x512 .f32) (A6 : FVec Ideal S2x96x512 .f32) (A11 : FVec Ideal S2x512 .f32) (R : Fin 8192) (q : Fin 512) :
    out2 A0 A1 A5 A6 A11 (ix2 R q) = mixRef A0 A1 (ix3 0 R ⟨512 + q.val, by omega⟩) * (1 + (rateRef A0 A1 A5 A6 (ix3 0 R q) - 1) * A11 (ix2 1 q)) := by
  unfold out2
  pointwise

theorem out3_at (A0 : FVec Ideal S8192x6912 .f32) (A1 : FVec Ideal S2x1984 .f32) (A2 : FVec Ideal S1x64 .f32) (A7 : FVec Ideal S1x512 .f32) (A8 : FVec Ideal S1x64x512 .f32) (A12 : FVec Ideal S8192x512 .f32) (R : Fin 8192) (q : Fin 512) :
    out3 A0 A1 A2 A7 A8 A12 (ix2 R q) = valueRef A0 A1 (ix3 0 R q) + (firstRef A12 (ix3 0 R q) - valueRef A0 A1 (ix3 0 R q)) * shareRef A0 A2 A7 A8 (ix3 0 R q) := by
  unfold out3
  pointwise

theorem neg_flat (U : FVec Ideal S1x8192x512 .f32) (R : Fin 8192) (q : Fin 512) :
    Host.negf (shapeCast S8192x512 U shapeCasts_S1x8192x512_S8192x512) (ix2 R q) = -(U (ix3 0 R q) : EReal) := by
  pointwise

theorem out4_at (A0 : FVec Ideal S8192x6912 .f32) (A1 : FVec Ideal S2x1984 .f32) (A10 : FVec Ideal S2x512 .f32) (R : Fin 8192) (q : Fin 512) :
    out4 A0 A1 A10 (ix2 R q) = -unitRef A0 A1 A10 (ix3 0 R q) :=
  neg_flat (unitRef A0 A1 A10) R q

theorem out5_at (A0 : FVec Ideal S8192x6912 .f32) (A1 : FVec Ideal S2x1984 .f32) (A5 : FVec Ideal S2x512 .f32) (A6 : FVec Ideal S2x96x512 .f32) (A10 : FVec Ideal S2x512 .f32) (R : Fin 8192) (q : Fin 512) :
    out5 A0 A1 A5 A6 A10 (ix2 R q) = unitRef A0 A1 A10 (ix3 0 R q) * rateRef A0 A1 A5 A6 (ix3 0 R q) := by
  unfold out5
  pointwise

theorem out6_at (A0 : FVec Ideal S8192x6912 .f32) (A1 : FVec Ideal S2x1984 .f32) (A9 : FVec Ideal S2x256x512 .f32) (R : Fin 8192) (q : Fin 512) :
    out6 A0 A1 A9 (ix2 R q) = ∑ x : Fin 256, Ideal.div 1 (1 + Ideal.exp (-mixRef A0 A1 (ix3 0 R ⟨1728 + x.val, by omega⟩))) * A9 (ix3 1 x q) := by
  unfold out6
  pointwise

end Cert.RwkvPre
-- ==== Proof.Rwkv.Reference.lean ====
/-
  The reference's seven results of the mixer's preparing step are the kernel's values, entry by entry.
-/
module

public import proofs.«01_k».proof.Proof.Rwkv.Pieces

@[expose] public section

set_option maxRecDepth 16384

noncomputable section

namespace Cert.RwkvPre

open Idealize.ShloMosaic Idealize.ShloMosaic.TcCoe Idealize.SL.Sem
open Cert.Kernel6Ideal.RwkvPre

variable (m : (ℓ : Loc Cert.Kernel6Ideal.nD Cert.Kernel6Ideal.τ Cert.Kernel6Ideal.sig) → Buf (Elt Ideal) ℓ)
  (c : Dev Cert.Kernel6Ideal.nD) (R : Fin 8192) (q : Fin 512)

theorem lerp_eq (j : Fin 6912) (w : EReal) : lerp (proj m c) R j w = mixed m c R j w := rfl

theorem kMixed_eq : mixRef (proj m c) (mix m c) (ix3 0 R ⟨512 + q.val, by omega⟩) = kMixed m c R q :=
  mix_low _ _ R _ (by show 512 + q.val < 1632; omega)

theorem rate_eq : rateRef (proj m c) (mix m c) (a0 m c) (a2 m c) (ix3 0 R q) = rate m c R q := by
  rw [rateRef_at]
  unfold rate
  refine congrArg (fun s : EReal => Ideal.logistic (a0 m c (ix2 1 q) + s)) (Finset.sum_congr rfl fun k _ => ?_)
  rw [mix_rate]
  rfl

theorem key_eq : keyRef (proj m c) (mix m c) (kk m c) (ix3 0 R q) = key m c R q := by
  rw [keyRef_at, kMixed_eq]
  rfl

theorem unitKey_eq : unitRef (proj m c) (mix m c) (kk m c) (ix3 0 R q) = unitKey m c R q := by
  rw [unitRef_at]
  simp only [key_eq]
  rfl

theorem value0_eq : out0 (proj m c) (mix m c) (ix2 R q) = value0 m c R q := by
  rw [out0_at, mix_low _ _ R _ (by show q.val < 1632; omega)]
  rfl

theorem value1_eq : out1 (proj m c) (mix m c) (w0 m c) (w2 m c) (ix2 R q) = value1 m c R q := by
  rw [out1_at, decayRef_at]
  unfold value1
  refine congrArg (fun s : EReal => decay (w0 m c (ix2 1 q) + s)) (Finset.sum_congr rfl fun k _ => ?_)
  rw [mix_low _ _ R _ (by show 1536 + k.val < 1632; omega)]
  rfl

theorem value2_eq : out2 (proj m c) (mix m c) (a0 m c) (a2 m c) (ka m c) (ix2 R q) = value2 m c R q := by
  rw [out2_at, kMixed_eq, rate_eq]
  rfl

theorem value3_eq : out3 (proj m c) (mix m c) (vmix m c) (v0 m c) (v2 m c) (vfirst m c) (ix2 R q) = value3 m c R q := by
  have s : shareRef (proj m c) (vmix m c) (v0 m c) (v2 m c) (ix3 0 R q)
      = Ideal.logistic (v0 m c (ix2 0 q) + ∑ k : Fin 64, xMixed m c R k * v2 m c (ix3 0 k q)) := by
    rw [shareRef_at]
    refine congrArg (fun s : EReal => Ideal.logistic (v0 m c (ix2 0 q) + s)) (Finset.sum_congr rfl fun k _ => ?_)
    rw [rest_at]
    rfl
  rw [out3_at, s, firstRef_at, valueRef_at, mix_low _ _ R _ (by show 1024 + q.val < 1632; omega)]
  rfl

theorem value4_eq : out4 (proj m c) (mix m c) (kk m c) (ix2 R q) = value4 m c R q := by
  rw [out4_at, unitKey_eq]
  rfl

theorem value5_eq : out5 (proj m c) (mix m c) (a0 m c) (a2 m c) (kk m c) (ix2 R q) = value5 m c R q := by
  rw [out5_at, unitKey_eq, rate_eq]
  rfl

theorem value6_eq : out6 (proj m c) (mix m c) (g2 m c) (ix2 R q) = value6 m c R q := by
  rw [out6_at]
  unfold value6
  refine Finset.sum_congr rfl fun k _ => ?_
  rw [mix_gate]
  rfl

end Cert.RwkvPre
-- ==== Proof.Rwkv.Finite.lean ====
/-
  What the mixer's precondition says: the entries it reads are real numbers.
-/
module

public import proofs.«01_k».proof.Defs
public import proofs.«01_k».proof.Proof.Equation

@[expose] public section

set_option maxRecDepth 16384

noncomputable section

namespace Cert.RwkvPre

open Idealize.ShloMosaic Idealize.ShloMosaic.TcCoe Idealize.SL.Sem
open Cert.Pre_finite_rwkv

/-- The comparison the precondition makes. -/
theorem below_inf {x : EReal} (h : BitVec.ofBool (decide (FloatOps.absf (F := Ideal) (φ := .f32) x < Ideal.ofBits .f32 2139095040#32)) = 1#1) :
    x = ((x.toReal : ℝ) : EReal) := by
  rw [Cert.Retention.lit_inf] at h
  exact Cert.Retention.real_of_below h

variable [Cert.Pre_finite_rwkv.Facts]
  {A0 : FVec Ideal S8192x6912 .f32}
  {A1 : FVec Ideal S2x1984 .f32}
  {A2 : FVec Ideal S1x64 .f32}
  {A3 : FVec Ideal S2x512 .f32}
  {A4 : FVec Ideal S2x96x512 .f32}
  {A5 : FVec Ideal S2x512 .f32}
  {A6 : FVec Ideal S2x96x512 .f32}
  {A7 : FVec Ideal S1x512 .f32}
  {A8 : FVec Ideal S1x64x512 .f32}
  {A9 : FVec Ideal S2x256x512 .f32}
  {A10 : FVec Ideal S2x512 .f32}
  {A11 : FVec Ideal S2x512 .f32}
  {A12 : FVec Ideal S8192x512 .f32}
  (hpre : Cert.Pre_finite_rwkv.fn (F := Ideal) A0 A1 A2 A3 A4 A5 A6 A7 A8 A9 A10 A11 A12 = fun _ => 1#1)
include hpre

theorem real_k (R : Fin 8192) (q : Fin 512) : ∃ r : ℝ, A0 (ix2 R ⟨2560 + q.val, by omega⟩) = (r : EReal) := by
  have e := congrFun hpre (ix2 ⟨R.val, by omega⟩ ⟨q.val, by omega⟩)
  unfold Cert.Pre_finite_rwkv.fn Cert.Pre_finite_rwkv.fn_part1 at e
  pointwise at e
  refine ⟨_, Eq.trans ?_ (below_inf e)⟩
  rfl

theorem real_w2 (k : Fin 96) (q : Fin 512) : ∃ r : ℝ, A4 (ix3 1 k q) = (r : EReal) := by
  have e := congrFun hpre (ix2 ⟨8192 + k.val, by omega⟩ ⟨q.val, by omega⟩)
  unfold Cert.Pre_finite_rwkv.fn Cert.Pre_finite_rwkv.fn_part1 at e
  pointwise at e
  refine ⟨_, Eq.trans ?_ (below_inf e)⟩
  rfl

theorem real_a2 (k : Fin 96) (q : Fin 512) : ∃ r : ℝ, A6 (ix3 1 k q) = (r : EReal) := by
  have e := congrFun hpre (ix2 ⟨8288 + k.val, by omega⟩ ⟨q.val, by omega⟩)
  unfold Cert.Pre_finite_rwkv.fn Cert.Pre_finite_rwkv.fn_part1 at e
  pointwise at e
  split_ifs at e <;> try omega
  refine ⟨_, Eq.trans ?_ (below_inf e)⟩
  exact congrArg (fun j => A6 (ix3 1 j q)) (Fin.ext (by show k.val = 8288 + k.val - 8192 - 96; omega))

theorem real_v2 (k : Fin 64) (q : Fin 512) : ∃ r : ℝ, A8 (ix3 0 k q) = (r : EReal) := by
  have e := congrFun hpre (ix2 ⟨8384 + k.val, by omega⟩ ⟨q.val, by omega⟩)
  unfold Cert.Pre_finite_rwkv.fn Cert.Pre_finite_rwkv.fn_part1 at e
  pointwise at e
  split_ifs at e <;> try omega
  refine ⟨_, Eq.trans ?_ (below_inf e)⟩
  exact congrArg (fun j => A8 (ix3 0 j q)) (Fin.ext (by show k.val = 8384 + k.val - 8192 - 96 - 96; omega))

theorem real_g2 (k : Fin 256) (q : Fin 512) : ∃ r : ℝ, A9 (ix3 1 k q) = (r : EReal) := by
  have e := congrFun hpre (ix2 ⟨8448 + k.val, by omega⟩ ⟨q.val, by omega⟩)
  unfold Cert.Pre_finite_rwkv.fn Cert.Pre_finite_rwkv.fn_part1 at e
  pointwise at e
  split_ifs at e <;> try omega
  refine ⟨_, Eq.trans ?_ (below_inf e)⟩
  exact congrArg (fun j => A9 (ix3 1 j q)) (Fin.ext (by show k.val = 8448 + k.val - 8192 - 96 - 96 - 64; omega))

theorem real_mix_k (q : Fin 512) : ∃ r : ℝ, A1 (ix2 1 ⟨512 + q.val, by omega⟩) = (r : EReal) := by
  have e := congrFun hpre (ix2 ⟨8704, by omega⟩ ⟨q.val, by omega⟩)
  unfold Cert.Pre_finite_rwkv.fn Cert.Pre_finite_rwkv.fn_part1 at e
  pointwise at e
  refine ⟨_, Eq.trans ?_ (below_inf e)⟩
  rfl

theorem real_kk (q : Fin 512) : ∃ r : ℝ, A10 (ix2 1 q) = (r : EReal) := by
  have e := congrFun hpre (ix2 ⟨8705, by omega⟩ ⟨q.val, by omega⟩)
  unfold Cert.Pre_finite_rwkv.fn Cert.Pre_finite_rwkv.fn_part1 at e
  pointwise at e
  refine ⟨_, Eq.trans ?_ (below_inf e)⟩
  rfl

theorem real_a (R : Fin 8192) (k : Fin 96) : ∃ r : ℝ, A0 (ix2 R ⟨3712 + k.val, by omega⟩) = (r : EReal) := by
  have e := congrFun hpre (ix2 ⟨R.val, by omega⟩ ⟨512 + k.val, by omega⟩)
  unfold Cert.Pre_finite_rwkv.fn Cert.Pre_finite_rwkv.fn_part1 at e
  pointwise at e
  split_ifs at e <;> try omega
  refine ⟨_, Eq.trans ?_ (below_inf e)⟩
  rfl

theorem real_mix_a (k : Fin 96) : ∃ r : ℝ, A1 (ix2 1 ⟨1632 + k.val, by omega⟩) = (r : EReal) := by
  have e := congrFun hpre (ix2 ⟨8192, by omega⟩ ⟨512 + k.val, by omega⟩)
  unfold Cert.Pre_finite_rwkv.fn Cert.Pre_finite_rwkv.fn_part1 at e
  pointwise at e
  refine ⟨_, Eq.trans ?_ (below_inf e)⟩
  rfl

theorem real_x (R : Fin 8192) (k : Fin 64) : ∃ r : ℝ, A0 (ix2 R ⟨4096 + k.val, by omega⟩) = (r : EReal) := by
  have e := congrFun hpre (ix2 ⟨R.val, by omega⟩ ⟨608 + k.val, by omega⟩)
  unfold Cert.Pre_finite_rwkv.fn Cert.Pre_finite_rwkv.fn_part1 at e
  pointwise at e
  rw [dif_neg (show ¬608 + k.val < 512 by omega), dif_pos (show R.val < 8193 by omega),
    dif_neg (show ¬608 + k.val - 512 < 96 by omega)] at e
  refine ⟨_, Eq.trans ?_ (below_inf e)⟩
  exact congrArg (fun j => A0 (ix2 R j)) (Fin.ext (by show 4096 + k.val = 4096 + (608 + k.val - 512 - 96); omega))

theorem real_mix_x (k : Fin 64) : ∃ r : ℝ, A2 (ix2 0 k) = (r : EReal) := by
  have e := congrFun hpre (ix2 ⟨8192, by omega⟩ ⟨608 + k.val, by omega⟩)
  unfold Cert.Pre_finite_rwkv.fn Cert.Pre_finite_rwkv.fn_part1 at e
  pointwise at e
  rw [dif_neg (show ¬608 + k.val < 512 by omega), dif_neg (show ¬608 + k.val - 512 < 96 by omega)] at e
  refine ⟨_, Eq.trans ?_ (below_inf e)⟩
  exact congrArg (fun j => A2 (ix2 0 j)) (Fin.ext (by show k.val = 608 + k.val - 512 - 96; omega))

end Cert.RwkvPre
-- ==== Proof.Rwkv.Equation.lean ====
/-
  The equation of the mixer's preparing step.
-/
module

public import proofs.«01_k».proof.Defs
public import proofs.«01_k».proof.Proof.Rwkv.Reference
public import proofs.«01_k».proof.Proof.Rwkv.Finite
public import proofs.«01_k».proof.Proof.Gen.Pre_finite_rwkv
public import Idealize.ShloMosaic.Init

@[expose] public section

set_option maxRecDepth 16384

noncomputable section

namespace Cert.RwkvPre

open Idealize.ShloMosaic Idealize.ShloMosaic.TcCoe Idealize.SL.Sem
open Cert.Kernel6Ideal.RwkvPre

/-- The precondition gives the real numbers that the kernel's values need. -/
theorem reals [Cert.Pre_finite_rwkv.Facts] (m : (ℓ : Loc Cert.Kernel6Ideal.nD Cert.Kernel6Ideal.τ Cert.Kernel6Ideal.sig) → Buf (Elt Ideal) ℓ)
    (c : Dev Cert.Kernel6Ideal.nD) (h : Cert.Pre_Kernel6Ideal_finite_rwkv m) : Reals m c where
  k := real_k (h c)
  a := real_a (h c)
  x := real_x (h c)
  mix_k := real_mix_k (h c)
  mix_a := real_mix_a (h c)
  mix_x := real_mix_x (h c)
  kk := real_kk (h c)
  w2 := real_w2 (h c)
  a2 := real_a2 (h c)
  v2 := real_v2 (h c)
  g2 := real_g2 (h c)

section

variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ)
  (c : Dev Cert.Kernel6Ideal.nD)

/-- The two programs' arguments agree. -/
structure Agree : Prop where
  h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
  h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
  h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
  h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
  h4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
  h5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
  h6 : m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
  h7 : m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
  h8 : m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
  h9 : m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
  h10 : m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
  h11 : m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
  h12 : m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)

variable (h : Agree m m' c)
include h

theorem result0 : out0 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) = values0 m c := by
  rw [h.h0, h.h1]
  funext i
  rw [eq_ix2 i]
  exact value0_eq m c (i 0) (i 1)

theorem result1 : out1 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) = values1 m c := by
  rw [h.h0, h.h1, h.h3, h.h4]
  funext i
  rw [eq_ix2 i]
  exact value1_eq m c (i 0) (i 1)

theorem result2 : out2 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg11)) = values2 m c := by
  rw [h.h0, h.h1, h.h5, h.h6, h.h11]
  funext i
  rw [eq_ix2 i]
  exact value2_eq m c (i 0) (i 1)

theorem result3 : out3 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg12)) = values3 m c := by
  rw [h.h0, h.h1, h.h2, h.h7, h.h8, h.h12]
  funext i
  rw [eq_ix2 i]
  exact value3_eq m c (i 0) (i 1)

theorem result4 : out4 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg10)) = values4 m c := by
  rw [h.h0, h.h1, h.h10]
  funext i
  rw [eq_ix2 i]
  exact value4_eq m c (i 0) (i 1)

theorem result5 : out5 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg10)) = values5 m c := by
  rw [h.h0, h.h1, h.h5, h.h6, h.h10]
  funext i
  rw [eq_ix2 i]
  exact value5_eq m c (i 0) (i 1)

theorem result6 : out6 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg9)) = values6 m c := by
  rw [h.h0, h.h1, h.h9]
  funext i
  rw [eq_ix2 i]
  exact value6_eq m c (i 0) (i 1)

end

/-! ## The reference's results by the pieces -/

section

variable (m' : (ℓ : Loc Cert.Reference6Ideal.nD Cert.Reference6Ideal.τ Cert.Reference6Ideal.sig) → Buf (Elt Ideal) ℓ) (c : Dev Cert.Reference6Ideal.nD)

theorem pieces1 : Cert.Reference6Ideal.Value.res_main_v113 m' c = out1 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) := rfl

theorem pieces2 : Cert.Reference6Ideal.Value.res_main_v114 m' c = out2 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg11)) := rfl

theorem pieces3 : Cert.Reference6Ideal.Value.res_main_v115 m' c = out3 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg12)) := rfl

theorem pieces4 : Cert.Reference6Ideal.Value.res_main_v117 m' c = out4 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg10)) := rfl

theorem pieces5 : Cert.Reference6Ideal.Value.res_main_v119 m' c = out5 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg10)) := rfl

end

/-- The equation of the two runs. -/
theorem equation : Cert.algebraic_Kernel6Ideal_Reference6Ideal_pre_finite_rwkv := by
  intro m g m' g' hpre hagree
  have hR : ∀ c, Reals m c := fun c => reals m c hpre
  have hA : ∀ c, Agree m m' c := fun c => by
    obtain ⟨h0, h1, h2, h3, h4, h5, h6, h7, h8, h9, h10, h11, h12⟩ := hagree c
    exact ⟨h0, h1, h2, h3, h4, h5, h6, h7, h8, h9, h10, h11, h12⟩
  refine ⟨fun c => values0 m c, fun c => values1 m c, fun c => values2 m c, fun c => values3 m c, fun c => values4 m c,
    fun c => values5 m c, fun c => values6 m c,
    (θ_run Cert.Kernel6Ideal.defs _ _).mono (fun r h c => ⟨(h c).1.trans (final0 m c), (h c).2.1.trans (final1 m c (hR c)),
      (h c).2.2.1.trans (final2 m c (hR c)), (h c).2.2.2.1.trans (final3 m c (hR c)), (h c).2.2.2.2.1.trans (final4 m c (hR c)),
      (h c).2.2.2.2.2.1.trans (final5 m c (hR c)), (h c).2.2.2.2.2.2.1.trans (final6 m c (hR c)), (h c).2.2.2.2.2.2.2⟩)
      (Cert.Kernel6Ideal.Value.run_blocks m g),
    (θ_run Cert.Reference6Ideal.defs _ _).mono (fun r h c => ⟨(h c).1.trans (result0 m m' c (hA c)),
      (h c).2.1.trans ((pieces1 m' c).trans (result1 m m' c (hA c))), (h c).2.2.1.trans ((pieces2 m' c).trans (result2 m m' c (hA c))),
      (h c).2.2.2.1.trans ((pieces3 m' c).trans (result3 m m' c (hA c))), (h c).2.2.2.2.1.trans ((pieces4 m' c).trans (result4 m m' c (hA c))),
      (h c).2.2.2.2.2.1.trans ((pieces5 m' c).trans (result5 m m' c (hA c))), (h c).2.2.2.2.2.2.1.trans (result6 m m' c (hA c)),
      (h c).2.2.2.2.2.2.2⟩) (Cert.Reference6Ideal.Value.run m' g')⟩

/-- The reference's frame: its run leaves the arguments, and it declares no semaphore. -/
theorem reference_frame : Cert.quiescent_Reference6Ideal := fun m g _ =>
  (θ_run Cert.Reference6Ideal.defs _ _).mono
    (fun r h => ⟨fun c => (h c).2.2.2.2.2.2.2, sem_eq_zero_of_no_sems (by decide) r.2⟩) (Cert.Reference6Ideal.Value.run m g)

end Cert.RwkvPre
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qkv
public import proofs.«01_k».proof.Proof.Gen.KernelIdeal.Value
public import proofs.«01_k».proof.Proof.Gen.ReferenceIdeal.Step
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Pre_finite_rwkv
public import proofs.«01_k».proof.Proof.Equation
public import proofs.«01_k».proof.Proof.InProjEquation
public import proofs.«01_k».proof.Proof.OutProjEquation
public import proofs.«01_k».proof.Proof.UpEquation
public import proofs.«01_k».proof.Proof.DownEquation
public import proofs.«01_k».proof.Proof.Rwkv.FrameBits
public import proofs.«01_k».proof.Proof.Rwkv.FrameIdeal
public import proofs.«01_k».proof.Proof.Rwkv.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Pre_finite_qkv.Gen.facts,
  Cert.Pre_finite_rwkv.Gen.facts,
  fun m g _ => Cert.Kernel.Gen.frame m g, fun m g _ => Cert.KernelIdeal.Gen.frame m g, fun m g _ => Cert.KernelIdeal.Gen.frame m g,
  Cert.Retention.reference_frame, fun m g _ => Cert.Retention.reference_frame m g trivial,
  fun m g _ => Cert.Kernel2.Gen.frame m g, fun m g _ => Cert.Kernel2Ideal.Gen.frame m g, Cert.InProj.reference_frame,
  fun m g _ => Cert.Kernel3.Gen.frame m g, fun m g _ => Cert.Kernel3Ideal.Gen.frame m g, Cert.OutProj.reference_frame,
  fun m g _ => Cert.Kernel4.Gen.frame m g, fun m g _ => Cert.Kernel4Ideal.Gen.frame m g, Cert.Up.reference_frame,
  fun m g _ => Cert.Kernel5.Gen.frame m g, fun m g _ => Cert.Kernel5Ideal.Gen.frame m g, Cert.Down.reference_frame,
  Cert.RwkvPre.frame_kernel, fun m g _ => Cert.Kernel6Ideal.Gen.frame m g, fun m g _ => Cert.Kernel6Ideal.Gen.frame m g,
  Cert.RwkvPre.reference_frame, fun m g _ => Cert.RwkvPre.reference_frame m g trivial,
  trivial, Cert.Retention.equation, trivial, Cert.InProj.equation, trivial, Cert.OutProj.equation, trivial, Cert.Up.equation, trivial, Cert.Down.equation,
  trivial, Cert.RwkvPre.equation⟩

end Cert.Proof

end
